-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![4, 2, 256, 4096]⟩ ⟨4, ![4, 4, 256, 4096]⟩ (Layout.meshBlock [2, 2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x2x256x4096 : Shape := ⟨4, ![4, 2, 256, 4096]⟩
abbrev S2x2048x512 : Shape := ⟨3, ![2, 2048, 512]⟩
abbrev S2x256x16x128 : Shape := ⟨4, ![2, 256, 16, 128]⟩
abbrev S4x256x2048 : Shape := ⟨3, ![4, 256, 2048]⟩
abbrev S2x256x512 : Shape := ⟨3, ![2, 256, 512]⟩
abbrev S2 : Shape := ⟨1, ![2]⟩
abbrev S32 : Shape := ⟨1, ![32]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1x256x16x128 : Shape := ⟨4, ![1, 256, 16, 128]⟩
abbrev S256x16x128 : Shape := ⟨3, ![256, 16, 128]⟩
abbrev S1x256x128 : Shape := ⟨3, ![1, 256, 128]⟩
abbrev S256x128 : Shape := ⟨2, ![256, 128]⟩
abbrev S1x256x1x128 : Shape := ⟨4, ![1, 256, 1, 128]⟩
abbrev S1x256x2048 : Shape := ⟨3, ![1, 256, 2048]⟩
abbrev S256x2048 : Shape := ⟨2, ![256, 2048]⟩
abbrev S256x512 : Shape := ⟨2, ![256, 512]⟩
abbrev S1x256x512 : Shape := ⟨3, ![1, 256, 512]⟩
abbrev S1x1x256x512 : Shape := ⟨4, ![1, 1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S4x2x256x4096, .f32⟩
  | .local _ .vmem, ⟨0, _⟩ => ⟨S4x2x256x4096, .f32⟩
  | .local _ .vmem, ⟨1, _⟩ => ⟨S2x2048x512, .f32⟩
  | .local _ .vmem, ⟨2, _⟩ => ⟨S2x256x16x128, .f32⟩
  | .local _ .vmem, ⟨3, _⟩ => ⟨S4x256x2048, .f32⟩
  | .local _ .vmem, ⟨4, _⟩ => ⟨S2x256x512, .f32⟩
  | _, _ => ⟨S4x1024x16x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 263 → Bool
  | ⟨i, _⟩ => dmaSemScopedAt i

abbrev sig : RefSig :=
  (ofTc nBuf bufTy 2 263 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32_11 : BitVec 32 := 0#32
  let c512_i32 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c512_i32 v2
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c256_i32 v8
  let v15 : BitVec 32 := Scalar.addi v13 v14
  let c0_i32_17 : BitVec 32 := 0#32
  let c0_i32_18 : BitVec 32 := 0#32
  ![0, v15.toNat, 0, 0]
def k0_dev1 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v28 : BitVec 32 := Scalar.muli v2 c4_i32_20
  let v29 : BitVec 32 := Scalar.addi c0_i32_21 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_22 : BitVec 32 := 2#32
  let v30 : BitVec 32 := Scalar.muli v9 c2_i32_22
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v32 : BitVec 32 := Scalar.muli v8 c1_i32_23
  let v33 : BitVec 32 := Scalar.addi v31 v32
  v33.toNat
def k0_dev2 (d0 : Dev nD) : Nat :=
  let c0_i32_26 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_25 : BitVec 32 := 4#32
  let v34 : BitVec 32 := Scalar.muli v10 c4_i32_25
  let v35 : BitVec 32 := Scalar.addi c0_i32_26 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v36 : BitVec 32 := Scalar.muli v5 c2_i32_27
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v38 : BitVec 32 := Scalar.muli v8 c1_i32_28
  let v39 : BitVec 32 := Scalar.addi v37 v38
  v39.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v40 : BitVec 32 := Scalar.muli v2 c4_i32_30
  let v41 : BitVec 32 := Scalar.addi c0_i32_31 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v42 : BitVec 32 := Scalar.muli v5 c2_i32_32
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_33 : BitVec 32 := 1#32
  let v44 : BitVec 32 := Scalar.muli v11 c1_i32_33
  let v45 : BitVec 32 := Scalar.addi v43 v44
  v45.toNat
def k0_off2 (d0 : Dev nD) : Fin 4 → Nat :=
  let c1_i32_46 : BitVec 32 := 1#32
  let c512_i32 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c512_i32 v2
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c256_i32 v8
  let v15 : BitVec 32 := Scalar.addi v13 v14
  let c0_i32_52 : BitVec 32 := 0#32
  let c0_i32_53 : BitVec 32 := 0#32
  ![1, v15.toNat, 0, 0]
def k0_cond1 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_300 : BitVec 1 := 1#1
  let v265 : BitVec 1 := Scalar.xori v12 true_300
  let v266 : BitVec 32 := Scalar.extui v265
  let c0_i32_301 : BitVec 32 := 0#32
  let v267 : BitVec 1 := Scalar.cmpi .ne v266 c0_i32_301
  v267

def k0_off3 (d0 : Dev nD) : Fin 4 → Nat :=
  let c0_i32_1602 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![0, v8.toNat, 0, 0]
def k0_dev4 (d0 : Dev nD) : Nat :=
  let c0_i32_1606 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1605 : BitVec 32 := 4#32
  let v1425 : BitVec 32 := Scalar.muli v2 c4_i32_1605
  let v1426 : BitVec 32 := Scalar.addi c0_i32_1606 v1425
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1607 : BitVec 32 := 2#32
  let v1427 : BitVec 32 := Scalar.muli v9 c2_i32_1607
  let v1428 : BitVec 32 := Scalar.addi v1426 v1427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1608 : BitVec 32 := 1#32
  let v1429 : BitVec 32 := Scalar.muli v8 c1_i32_1608
  let v1430 : BitVec 32 := Scalar.addi v1428 v1429
  v1430.toNat
def k0_cond2 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v268 : BitVec 32 := Scalar.extui v12
  let c0_i32_302 : BitVec 32 := 0#32
  let v269 : BitVec 1 := Scalar.cmpi .ne v268 c0_i32_302
  v269

def k0_off4 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c0_i32_1607 : BitVec 32 := 0#32
  ![0, v8.toNat, 0, 0]
def k0_off5 (d0 : Dev nD) : Fin 4 → Nat :=
  let c0_1610 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c0_1612 : Index := 0#32
  ![0, v1434.toNat, 0, 0]
def k0_dev5 (d0 : Dev nD) : Nat :=
  let c0_i32_1621 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1620 : BitVec 32 := 4#32
  let v1442 : BitVec 32 := Scalar.muli v10 c4_i32_1620
  let v1443 : BitVec 32 := Scalar.addi c0_i32_1621 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1622 : BitVec 32 := 2#32
  let v1444 : BitVec 32 := Scalar.muli v5 c2_i32_1622
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1623 : BitVec 32 := 1#32
  let v1446 : BitVec 32 := Scalar.muli v8 c1_i32_1623
  let v1447 : BitVec 32 := Scalar.addi v1445 v1446
  v1447.toNat
def k0_dev6 (d0 : Dev nD) : Nat :=
  let c0_i32_1633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1632 : BitVec 32 := 4#32
  let v1456 : BitVec 32 := Scalar.muli v2 c4_i32_1632
  let v1457 : BitVec 32 := Scalar.addi c0_i32_1633 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1634 : BitVec 32 := 2#32
  let v1458 : BitVec 32 := Scalar.muli v5 c2_i32_1634
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1635 : BitVec 32 := 1#32
  let v1460 : BitVec 32 := Scalar.muli v11 c1_i32_1635
  let v1461 : BitVec 32 := Scalar.addi v1459 v1460
  v1461.toNat
def k0_off6 (d0 : Dev nD) : Fin 4 → Nat :=
  let c2_i32_303 : BitVec 32 := 2#32
  let c512_i32 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c512_i32 v2
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c256_i32 v8
  let v15 : BitVec 32 := Scalar.addi v13 v14
  let c0_i32_309 : BitVec 32 := 0#32
  let c0_i32_310 : BitVec 32 := 0#32
  ![2, v15.toNat, 0, 0]
def k0_cond3 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_582 : BitVec 1 := 1#1
  let v479 : BitVec 1 := Scalar.xori v12 true_582
  let v480 : BitVec 32 := Scalar.extui v479
  let c0_i32_583 : BitVec 32 := 0#32
  let v481 : BitVec 1 := Scalar.cmpi .ne v480 c0_i32_583
  v481

def k0_off7 (d0 : Dev nD) : Fin 4 → Nat :=
  let c1_i32_1602 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![1, v8.toNat, 0, 0]
def k0_dev7 (d0 : Dev nD) : Nat :=
  let c0_i32_1606 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1605 : BitVec 32 := 4#32
  let v1425 : BitVec 32 := Scalar.muli v2 c4_i32_1605
  let v1426 : BitVec 32 := Scalar.addi c0_i32_1606 v1425
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1607 : BitVec 32 := 2#32
  let v1427 : BitVec 32 := Scalar.muli v9 c2_i32_1607
  let v1428 : BitVec 32 := Scalar.addi v1426 v1427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1608 : BitVec 32 := 1#32
  let v1429 : BitVec 32 := Scalar.muli v8 c1_i32_1608
  let v1430 : BitVec 32 := Scalar.addi v1428 v1429
  v1430.toNat
def k0_cond4 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v482 : BitVec 32 := Scalar.extui v12
  let c0_i32_584 : BitVec 32 := 0#32
  let v483 : BitVec 1 := Scalar.cmpi .ne v482 c0_i32_584
  v483

def k0_off8 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c0_i32_1607 : BitVec 32 := 0#32
  ![1, v8.toNat, 0, 0]
def k0_off9 (d0 : Dev nD) : Fin 4 → Nat :=
  let c1_1610 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c0_1612 : Index := 0#32
  ![1, v1434.toNat, 0, 0]
def k0_dev8 (d0 : Dev nD) : Nat :=
  let c0_i32_1621 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1620 : BitVec 32 := 4#32
  let v1442 : BitVec 32 := Scalar.muli v10 c4_i32_1620
  let v1443 : BitVec 32 := Scalar.addi c0_i32_1621 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1622 : BitVec 32 := 2#32
  let v1444 : BitVec 32 := Scalar.muli v5 c2_i32_1622
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1623 : BitVec 32 := 1#32
  let v1446 : BitVec 32 := Scalar.muli v8 c1_i32_1623
  let v1447 : BitVec 32 := Scalar.addi v1445 v1446
  v1447.toNat
def k0_dev9 (d0 : Dev nD) : Nat :=
  let c0_i32_1633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1632 : BitVec 32 := 4#32
  let v1456 : BitVec 32 := Scalar.muli v2 c4_i32_1632
  let v1457 : BitVec 32 := Scalar.addi c0_i32_1633 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1634 : BitVec 32 := 2#32
  let v1458 : BitVec 32 := Scalar.muli v5 c2_i32_1634
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1635 : BitVec 32 := 1#32
  let v1460 : BitVec 32 := Scalar.muli v11 c1_i32_1635
  let v1461 : BitVec 32 := Scalar.addi v1459 v1460
  v1461.toNat
def k0_off10 (d0 : Dev nD) : Fin 4 → Nat :=
  let c3_i32_585 : BitVec 32 := 3#32
  let c512_i32 : BitVec 32 := 512#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c512_i32 v2
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.muli c256_i32 v8
  let v15 : BitVec 32 := Scalar.addi v13 v14
  let c0_i32_591 : BitVec 32 := 0#32
  let c0_i32_592 : BitVec 32 := 0#32
  ![3, v15.toNat, 0, 0]
def k0_cond5 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_864 : BitVec 1 := 1#1
  let v693 : BitVec 1 := Scalar.xori v12 true_864
  let v694 : BitVec 32 := Scalar.extui v693
  let c0_i32_865 : BitVec 32 := 0#32
  let v695 : BitVec 1 := Scalar.cmpi .ne v694 c0_i32_865
  v695

def k0_off11 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c0_i32_1606 : BitVec 32 := 0#32
  ![2, v8.toNat, 0, 0]
def k0_dev10 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off12 (d0 : Dev nD) : Fin 4 → Nat :=
  let c0_i32_1623 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c0_i32_1631 : BitVec 32 := 0#32
  ![0, v8.toNat, 0, 0]
def k0_dev11 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond6 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v696 : BitVec 32 := Scalar.extui v12
  let c0_i32_866 : BitVec 32 := 0#32
  let v697 : BitVec 1 := Scalar.cmpi .ne v696 c0_i32_866
  v697

def k0_off13 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c0_i32_1607 : BitVec 32 := 0#32
  ![2, v8.toNat, 0, 0]
def k0_off14 (d0 : Dev nD) : Fin 4 → Nat :=
  let c2_1610 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c0_1612 : Index := 0#32
  ![2, v1434.toNat, 0, 0]
def k0_dev12 (d0 : Dev nD) : Nat :=
  let c0_i32_1621 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1620 : BitVec 32 := 4#32
  let v1442 : BitVec 32 := Scalar.muli v10 c4_i32_1620
  let v1443 : BitVec 32 := Scalar.addi c0_i32_1621 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1622 : BitVec 32 := 2#32
  let v1444 : BitVec 32 := Scalar.muli v5 c2_i32_1622
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1623 : BitVec 32 := 1#32
  let v1446 : BitVec 32 := Scalar.muli v8 c1_i32_1623
  let v1447 : BitVec 32 := Scalar.addi v1445 v1446
  v1447.toNat
def k0_dev13 (d0 : Dev nD) : Nat :=
  let c0_i32_1633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1632 : BitVec 32 := 4#32
  let v1456 : BitVec 32 := Scalar.muli v2 c4_i32_1632
  let v1457 : BitVec 32 := Scalar.addi c0_i32_1633 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1634 : BitVec 32 := 2#32
  let v1458 : BitVec 32 := Scalar.muli v5 c2_i32_1634
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1635 : BitVec 32 := 1#32
  let v1460 : BitVec 32 := Scalar.muli v11 c1_i32_1635
  let v1461 : BitVec 32 := Scalar.addi v1459 v1460
  v1461.toNat
def k0_cond7 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1138 : BitVec 1 := 1#1
  let v901 : BitVec 1 := Scalar.xori v12 true_1138
  let v902 : BitVec 32 := Scalar.extui v901
  let c0_i32_1139 : BitVec 32 := 0#32
  let v903 : BitVec 1 := Scalar.cmpi .ne v902 c0_i32_1139
  v903

def k0_off15 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c0_i32_1606 : BitVec 32 := 0#32
  ![3, v8.toNat, 0, 0]
def k0_dev14 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off16 (d0 : Dev nD) : Fin 4 → Nat :=
  let c1_i32_1623 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c0_i32_1631 : BitVec 32 := 0#32
  ![1, v8.toNat, 0, 0]
def k0_dev15 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond8 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v904 : BitVec 32 := Scalar.extui v12
  let c0_i32_1140 : BitVec 32 := 0#32
  let v905 : BitVec 1 := Scalar.cmpi .ne v904 c0_i32_1140
  v905

def k0_off17 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c0_i32_1607 : BitVec 32 := 0#32
  ![3, v8.toNat, 0, 0]
def k0_off18 (d0 : Dev nD) : Fin 4 → Nat :=
  let c3_1610 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c0_1612 : Index := 0#32
  ![3, v1434.toNat, 0, 0]
def k0_dev16 (d0 : Dev nD) : Nat :=
  let c0_i32_1621 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1620 : BitVec 32 := 4#32
  let v1442 : BitVec 32 := Scalar.muli v10 c4_i32_1620
  let v1443 : BitVec 32 := Scalar.addi c0_i32_1621 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1622 : BitVec 32 := 2#32
  let v1444 : BitVec 32 := Scalar.muli v5 c2_i32_1622
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1623 : BitVec 32 := 1#32
  let v1446 : BitVec 32 := Scalar.muli v8 c1_i32_1623
  let v1447 : BitVec 32 := Scalar.addi v1445 v1446
  v1447.toNat
def k0_dev17 (d0 : Dev nD) : Nat :=
  let c0_i32_1633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1632 : BitVec 32 := 4#32
  let v1456 : BitVec 32 := Scalar.muli v2 c4_i32_1632
  let v1457 : BitVec 32 := Scalar.addi c0_i32_1633 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1634 : BitVec 32 := 2#32
  let v1458 : BitVec 32 := Scalar.muli v5 c2_i32_1634
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1635 : BitVec 32 := 1#32
  let v1460 : BitVec 32 := Scalar.muli v11 c1_i32_1635
  let v1461 : BitVec 32 := Scalar.addi v1459 v1460
  v1461.toNat
def k0_cond9 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1160 : BitVec 1 := 1#1
  let v921 : BitVec 1 := Scalar.xori v12 true_1160
  let v922 : BitVec 32 := Scalar.extui v921
  let c0_i32_1161 : BitVec 32 := 0#32
  let v923 : BitVec 1 := Scalar.cmpi .ne v922 c0_i32_1161
  v923

def k0_off19 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c512_i32_1606 : BitVec 32 := 512#32
  ![0, v8.toNat, 0, 512]
def k0_dev18 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off20 (d0 : Dev nD) : Fin 4 → Nat :=
  let c2_i32_1623 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c0_i32_1631 : BitVec 32 := 0#32
  ![2, v8.toNat, 0, 0]
def k0_dev19 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond10 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v924 : BitVec 32 := Scalar.extui v12
  let c0_i32_1162 : BitVec 32 := 0#32
  let v925 : BitVec 1 := Scalar.cmpi .ne v924 c0_i32_1162
  v925

def k0_off21 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c512_i32_1607 : BitVec 32 := 512#32
  ![0, v8.toNat, 0, 512]
def k0_off22 (d0 : Dev nD) : Fin 4 → Nat :=
  let c0_1610 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c512 : Index := 512#32
  ![0, v1434.toNat, 0, 512]
def k0_dev20 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev21 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond11 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1170 : BitVec 1 := 1#1
  let v931 : BitVec 1 := Scalar.xori v12 true_1170
  let v932 : BitVec 32 := Scalar.extui v931
  let c0_i32_1171 : BitVec 32 := 0#32
  let v933 : BitVec 1 := Scalar.cmpi .ne v932 c0_i32_1171
  v933

def k0_off23 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c512_i32_1606 : BitVec 32 := 512#32
  ![1, v8.toNat, 0, 512]
def k0_dev22 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off24 (d0 : Dev nD) : Fin 4 → Nat :=
  let c3_i32_1623 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c0_i32_1631 : BitVec 32 := 0#32
  ![3, v8.toNat, 0, 0]
def k0_dev23 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond12 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v934 : BitVec 32 := Scalar.extui v12
  let c0_i32_1172 : BitVec 32 := 0#32
  let v935 : BitVec 1 := Scalar.cmpi .ne v934 c0_i32_1172
  v935

def k0_off25 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c512_i32_1607 : BitVec 32 := 512#32
  ![1, v8.toNat, 0, 512]
def k0_off26 (d0 : Dev nD) : Fin 4 → Nat :=
  let c1_1610 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c512 : Index := 512#32
  ![1, v1434.toNat, 0, 512]
def k0_dev24 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev25 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond13 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1180 : BitVec 1 := 1#1
  let v941 : BitVec 1 := Scalar.xori v12 true_1180
  let v942 : BitVec 32 := Scalar.extui v941
  let c0_i32_1181 : BitVec 32 := 0#32
  let v943 : BitVec 1 := Scalar.cmpi .ne v942 c0_i32_1181
  v943

def k0_off27 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c512_i32_1606 : BitVec 32 := 512#32
  ![2, v8.toNat, 0, 512]
def k0_dev26 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off28 (d0 : Dev nD) : Fin 4 → Nat :=
  let c0_i32_1623 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c512_i32_1631 : BitVec 32 := 512#32
  ![0, v8.toNat, 0, 512]
def k0_dev27 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond14 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v944 : BitVec 32 := Scalar.extui v12
  let c0_i32_1182 : BitVec 32 := 0#32
  let v945 : BitVec 1 := Scalar.cmpi .ne v944 c0_i32_1182
  v945

def k0_off29 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c512_i32_1607 : BitVec 32 := 512#32
  ![2, v8.toNat, 0, 512]
def k0_off30 (d0 : Dev nD) : Fin 4 → Nat :=
  let c2_1610 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c512 : Index := 512#32
  ![2, v1434.toNat, 0, 512]
def k0_dev28 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev29 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond15 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1190 : BitVec 1 := 1#1
  let v951 : BitVec 1 := Scalar.xori v12 true_1190
  let v952 : BitVec 32 := Scalar.extui v951
  let c0_i32_1191 : BitVec 32 := 0#32
  let v953 : BitVec 1 := Scalar.cmpi .ne v952 c0_i32_1191
  v953

def k0_off31 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c512_i32_1606 : BitVec 32 := 512#32
  ![3, v8.toNat, 0, 512]
def k0_dev30 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off32 (d0 : Dev nD) : Fin 4 → Nat :=
  let c1_i32_1623 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c512_i32_1631 : BitVec 32 := 512#32
  ![1, v8.toNat, 0, 512]
def k0_dev31 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond16 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v954 : BitVec 32 := Scalar.extui v12
  let c0_i32_1192 : BitVec 32 := 0#32
  let v955 : BitVec 1 := Scalar.cmpi .ne v954 c0_i32_1192
  v955

def k0_off33 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c512_i32_1607 : BitVec 32 := 512#32
  ![3, v8.toNat, 0, 512]
def k0_off34 (d0 : Dev nD) : Fin 4 → Nat :=
  let c3_1610 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c512 : Index := 512#32
  ![3, v1434.toNat, 0, 512]
def k0_dev32 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev33 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond17 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1212 : BitVec 1 := 1#1
  let v971 : BitVec 1 := Scalar.xori v12 true_1212
  let v972 : BitVec 32 := Scalar.extui v971
  let c0_i32_1213 : BitVec 32 := 0#32
  let v973 : BitVec 1 := Scalar.cmpi .ne v972 c0_i32_1213
  v973

def k0_off35 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1024_i32_1606 : BitVec 32 := 1024#32
  ![0, v8.toNat, 0, 1024]
def k0_dev34 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off36 (d0 : Dev nD) : Fin 4 → Nat :=
  let c2_i32_1623 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c512_i32_1631 : BitVec 32 := 512#32
  ![2, v8.toNat, 0, 512]
def k0_dev35 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond18 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v974 : BitVec 32 := Scalar.extui v12
  let c0_i32_1214 : BitVec 32 := 0#32
  let v975 : BitVec 1 := Scalar.cmpi .ne v974 c0_i32_1214
  v975

def k0_off37 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1024_i32_1607 : BitVec 32 := 1024#32
  ![0, v8.toNat, 0, 1024]
def k0_off38 (d0 : Dev nD) : Fin 4 → Nat :=
  let c0_1610 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1024 : Index := 1024#32
  ![0, v1434.toNat, 0, 1024]
def k0_dev36 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev37 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond19 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1222 : BitVec 1 := 1#1
  let v981 : BitVec 1 := Scalar.xori v12 true_1222
  let v982 : BitVec 32 := Scalar.extui v981
  let c0_i32_1223 : BitVec 32 := 0#32
  let v983 : BitVec 1 := Scalar.cmpi .ne v982 c0_i32_1223
  v983

def k0_off39 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1024_i32_1606 : BitVec 32 := 1024#32
  ![1, v8.toNat, 0, 1024]
def k0_dev38 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off40 (d0 : Dev nD) : Fin 4 → Nat :=
  let c3_i32_1623 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c512_i32_1631 : BitVec 32 := 512#32
  ![3, v8.toNat, 0, 512]
def k0_dev39 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond20 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v984 : BitVec 32 := Scalar.extui v12
  let c0_i32_1224 : BitVec 32 := 0#32
  let v985 : BitVec 1 := Scalar.cmpi .ne v984 c0_i32_1224
  v985

def k0_off41 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1024_i32_1607 : BitVec 32 := 1024#32
  ![1, v8.toNat, 0, 1024]
def k0_off42 (d0 : Dev nD) : Fin 4 → Nat :=
  let c1_1610 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1024 : Index := 1024#32
  ![1, v1434.toNat, 0, 1024]
def k0_dev40 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev41 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond21 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1232 : BitVec 1 := 1#1
  let v991 : BitVec 1 := Scalar.xori v12 true_1232
  let v992 : BitVec 32 := Scalar.extui v991
  let c0_i32_1233 : BitVec 32 := 0#32
  let v993 : BitVec 1 := Scalar.cmpi .ne v992 c0_i32_1233
  v993

def k0_off43 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1024_i32_1606 : BitVec 32 := 1024#32
  ![2, v8.toNat, 0, 1024]
def k0_dev42 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off44 (d0 : Dev nD) : Fin 4 → Nat :=
  let c0_i32_1623 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1024_i32_1631 : BitVec 32 := 1024#32
  ![0, v8.toNat, 0, 1024]
def k0_dev43 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond22 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v994 : BitVec 32 := Scalar.extui v12
  let c0_i32_1234 : BitVec 32 := 0#32
  let v995 : BitVec 1 := Scalar.cmpi .ne v994 c0_i32_1234
  v995

def k0_off45 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1024_i32_1607 : BitVec 32 := 1024#32
  ![2, v8.toNat, 0, 1024]
def k0_off46 (d0 : Dev nD) : Fin 4 → Nat :=
  let c2_1610 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1024 : Index := 1024#32
  ![2, v1434.toNat, 0, 1024]
def k0_dev44 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev45 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond23 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1242 : BitVec 1 := 1#1
  let v1001 : BitVec 1 := Scalar.xori v12 true_1242
  let v1002 : BitVec 32 := Scalar.extui v1001
  let c0_i32_1243 : BitVec 32 := 0#32
  let v1003 : BitVec 1 := Scalar.cmpi .ne v1002 c0_i32_1243
  v1003

def k0_off47 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1024_i32_1606 : BitVec 32 := 1024#32
  ![3, v8.toNat, 0, 1024]
def k0_dev46 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off48 (d0 : Dev nD) : Fin 4 → Nat :=
  let c1_i32_1623 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1024_i32_1631 : BitVec 32 := 1024#32
  ![1, v8.toNat, 0, 1024]
def k0_dev47 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond24 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1004 : BitVec 32 := Scalar.extui v12
  let c0_i32_1244 : BitVec 32 := 0#32
  let v1005 : BitVec 1 := Scalar.cmpi .ne v1004 c0_i32_1244
  v1005

def k0_off49 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1024_i32_1607 : BitVec 32 := 1024#32
  ![3, v8.toNat, 0, 1024]
def k0_off50 (d0 : Dev nD) : Fin 4 → Nat :=
  let c3_1610 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1024 : Index := 1024#32
  ![3, v1434.toNat, 0, 1024]
def k0_dev48 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev49 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond25 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1263 : BitVec 1 := 1#1
  let v1021 : BitVec 1 := Scalar.xori v12 true_1263
  let v1022 : BitVec 32 := Scalar.extui v1021
  let c0_i32_1264 : BitVec 32 := 0#32
  let v1023 : BitVec 1 := Scalar.cmpi .ne v1022 c0_i32_1264
  v1023

def k0_off51 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1536_i32_1606 : BitVec 32 := 1536#32
  ![0, v8.toNat, 0, 1536]
def k0_dev50 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off52 (d0 : Dev nD) : Fin 4 → Nat :=
  let c2_i32_1623 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1024_i32_1631 : BitVec 32 := 1024#32
  ![2, v8.toNat, 0, 1024]
def k0_dev51 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond26 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1024 : BitVec 32 := Scalar.extui v12
  let c0_i32_1265 : BitVec 32 := 0#32
  let v1025 : BitVec 1 := Scalar.cmpi .ne v1024 c0_i32_1265
  v1025

def k0_off53 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1536_i32_1607 : BitVec 32 := 1536#32
  ![0, v8.toNat, 0, 1536]
def k0_off54 (d0 : Dev nD) : Fin 4 → Nat :=
  let c0_1610 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1536 : Index := 1536#32
  ![0, v1434.toNat, 0, 1536]
def k0_dev52 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev53 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond27 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1273 : BitVec 1 := 1#1
  let v1031 : BitVec 1 := Scalar.xori v12 true_1273
  let v1032 : BitVec 32 := Scalar.extui v1031
  let c0_i32_1274 : BitVec 32 := 0#32
  let v1033 : BitVec 1 := Scalar.cmpi .ne v1032 c0_i32_1274
  v1033

def k0_off55 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1536_i32_1606 : BitVec 32 := 1536#32
  ![1, v8.toNat, 0, 1536]
def k0_dev54 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off56 (d0 : Dev nD) : Fin 4 → Nat :=
  let c3_i32_1623 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1024_i32_1631 : BitVec 32 := 1024#32
  ![3, v8.toNat, 0, 1024]
def k0_dev55 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond28 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1034 : BitVec 32 := Scalar.extui v12
  let c0_i32_1275 : BitVec 32 := 0#32
  let v1035 : BitVec 1 := Scalar.cmpi .ne v1034 c0_i32_1275
  v1035

def k0_off57 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1536_i32_1607 : BitVec 32 := 1536#32
  ![1, v8.toNat, 0, 1536]
def k0_off58 (d0 : Dev nD) : Fin 4 → Nat :=
  let c1_1610 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1536 : Index := 1536#32
  ![1, v1434.toNat, 0, 1536]
def k0_dev56 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev57 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond29 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1283 : BitVec 1 := 1#1
  let v1041 : BitVec 1 := Scalar.xori v12 true_1283
  let v1042 : BitVec 32 := Scalar.extui v1041
  let c0_i32_1284 : BitVec 32 := 0#32
  let v1043 : BitVec 1 := Scalar.cmpi .ne v1042 c0_i32_1284
  v1043

def k0_off59 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1536_i32_1606 : BitVec 32 := 1536#32
  ![2, v8.toNat, 0, 1536]
def k0_dev58 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off60 (d0 : Dev nD) : Fin 4 → Nat :=
  let c0_i32_1623 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1536_i32_1631 : BitVec 32 := 1536#32
  ![0, v8.toNat, 0, 1536]
def k0_dev59 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond30 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1044 : BitVec 32 := Scalar.extui v12
  let c0_i32_1285 : BitVec 32 := 0#32
  let v1045 : BitVec 1 := Scalar.cmpi .ne v1044 c0_i32_1285
  v1045

def k0_off61 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1536_i32_1607 : BitVec 32 := 1536#32
  ![2, v8.toNat, 0, 1536]
def k0_off62 (d0 : Dev nD) : Fin 4 → Nat :=
  let c2_1610 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1536 : Index := 1536#32
  ![2, v1434.toNat, 0, 1536]
def k0_dev60 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev61 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond31 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1293 : BitVec 1 := 1#1
  let v1051 : BitVec 1 := Scalar.xori v12 true_1293
  let v1052 : BitVec 32 := Scalar.extui v1051
  let c0_i32_1294 : BitVec 32 := 0#32
  let v1053 : BitVec 1 := Scalar.cmpi .ne v1052 c0_i32_1294
  v1053

def k0_off63 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c1536_i32_1606 : BitVec 32 := 1536#32
  ![3, v8.toNat, 0, 1536]
def k0_dev62 (d0 : Dev nD) : Nat :=
  let c0_i32_1615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1614 : BitVec 32 := 4#32
  let v1431 : BitVec 32 := Scalar.muli v2 c4_i32_1614
  let v1432 : BitVec 32 := Scalar.addi c0_i32_1615 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1616 : BitVec 32 := 2#32
  let v1433 : BitVec 32 := Scalar.muli v9 c2_i32_1616
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1617 : BitVec 32 := 1#32
  let v1435 : BitVec 32 := Scalar.muli v8 c1_i32_1617
  let v1436 : BitVec 32 := Scalar.addi v1434 v1435
  v1436.toNat
def k0_off64 (d0 : Dev nD) : Fin 4 → Nat :=
  let c1_i32_1623 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1630 : BitVec 32 := 0#32
  let c1536_i32_1631 : BitVec 32 := 1536#32
  ![1, v8.toNat, 0, 1536]
def k0_dev63 (d0 : Dev nD) : Nat :=
  let c0_i32_1639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1638 : BitVec 32 := 4#32
  let v1457 : BitVec 32 := Scalar.muli v2 c4_i32_1638
  let v1458 : BitVec 32 := Scalar.addi c0_i32_1639 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1640 : BitVec 32 := 2#32
  let v1459 : BitVec 32 := Scalar.muli v5 c2_i32_1640
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1641 : BitVec 32 := 1#32
  let v1461 : BitVec 32 := Scalar.muli v11 c1_i32_1641
  let v1462 : BitVec 32 := Scalar.addi v1460 v1461
  v1462.toNat
def k0_cond32 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1054 : BitVec 32 := Scalar.extui v12
  let c0_i32_1295 : BitVec 32 := 0#32
  let v1055 : BitVec 1 := Scalar.cmpi .ne v1054 c0_i32_1295
  v1055

def k0_off65 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1606 : BitVec 32 := 0#32
  let c1536_i32_1607 : BitVec 32 := 1536#32
  ![3, v8.toNat, 0, 1536]
def k0_off66 (d0 : Dev nD) : Fin 4 → Nat :=
  let c3_1610 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1611 : Index := 0#32
  let c1536 : Index := 1536#32
  ![3, v1434.toNat, 0, 1536]
def k0_dev64 (d0 : Dev nD) : Nat :=
  let c0_i32_1620 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1619 : BitVec 32 := 4#32
  let v1442 : BitVec 32 := Scalar.muli v10 c4_i32_1619
  let v1443 : BitVec 32 := Scalar.addi c0_i32_1620 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1621 : BitVec 32 := 2#32
  let v1444 : BitVec 32 := Scalar.muli v5 c2_i32_1621
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v1446 : BitVec 32 := Scalar.muli v8 c1_i32_1622
  let v1447 : BitVec 32 := Scalar.addi v1445 v1446
  v1447.toNat
def k0_dev65 (d0 : Dev nD) : Nat :=
  let c0_i32_1632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1631 : BitVec 32 := 4#32
  let v1456 : BitVec 32 := Scalar.muli v2 c4_i32_1631
  let v1457 : BitVec 32 := Scalar.addi c0_i32_1632 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1633 : BitVec 32 := 2#32
  let v1458 : BitVec 32 := Scalar.muli v5 c2_i32_1633
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1634 : BitVec 32 := 1#32
  let v1460 : BitVec 32 := Scalar.muli v11 c1_i32_1634
  let v1461 : BitVec 32 := Scalar.addi v1459 v1460
  v1461.toNat
def k0_cond33 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1314 : BitVec 1 := 1#1
  let v1071 : BitVec 1 := Scalar.xori v12 true_1314
  let v1072 : BitVec 32 := Scalar.extui v1071
  let c0_i32_1315 : BitVec 32 := 0#32
  let v1073 : BitVec 1 := Scalar.cmpi .ne v1072 c0_i32_1315
  v1073

def k0_off67 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![0, v8.toNat, 0, 2048]
def k0_dev66 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1431 : BitVec 32 := Scalar.muli v2 c4_i32_1613
  let v1432 : BitVec 32 := Scalar.addi c0_i32_1614 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1615 : BitVec 32 := 2#32
  let v1433 : BitVec 32 := Scalar.muli v9 c2_i32_1615
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1616 : BitVec 32 := 1#32
  let v1435 : BitVec 32 := Scalar.muli v8 c1_i32_1616
  let v1436 : BitVec 32 := Scalar.addi v1434 v1435
  v1436.toNat
def k0_off68 (d0 : Dev nD) : Fin 4 → Nat :=
  let c2_i32_1622 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1629 : BitVec 32 := 0#32
  let c1536_i32_1630 : BitVec 32 := 1536#32
  ![2, v8.toNat, 0, 1536]
def k0_dev67 (d0 : Dev nD) : Nat :=
  let c0_i32_1638 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1637 : BitVec 32 := 4#32
  let v1457 : BitVec 32 := Scalar.muli v2 c4_i32_1637
  let v1458 : BitVec 32 := Scalar.addi c0_i32_1638 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1639 : BitVec 32 := 2#32
  let v1459 : BitVec 32 := Scalar.muli v5 c2_i32_1639
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1640 : BitVec 32 := 1#32
  let v1461 : BitVec 32 := Scalar.muli v11 c1_i32_1640
  let v1462 : BitVec 32 := Scalar.addi v1460 v1461
  v1462.toNat
def k0_cond34 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1074 : BitVec 32 := Scalar.extui v12
  let c0_i32_1316 : BitVec 32 := 0#32
  let v1075 : BitVec 1 := Scalar.cmpi .ne v1074 c0_i32_1316
  v1075

def k0_off69 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![0, v8.toNat, 0, 2048]
def k0_off70 (d0 : Dev nD) : Fin 4 → Nat :=
  let c0_1609 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2048 : Index := 2048#32
  ![0, v1434.toNat, 0, 2048]
def k0_dev68 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev69 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond35 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1324 : BitVec 1 := 1#1
  let v1081 : BitVec 1 := Scalar.xori v12 true_1324
  let v1082 : BitVec 32 := Scalar.extui v1081
  let c0_i32_1325 : BitVec 32 := 0#32
  let v1083 : BitVec 1 := Scalar.cmpi .ne v1082 c0_i32_1325
  v1083

def k0_off71 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![1, v8.toNat, 0, 2048]
def k0_dev70 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1431 : BitVec 32 := Scalar.muli v2 c4_i32_1613
  let v1432 : BitVec 32 := Scalar.addi c0_i32_1614 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1615 : BitVec 32 := 2#32
  let v1433 : BitVec 32 := Scalar.muli v9 c2_i32_1615
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1616 : BitVec 32 := 1#32
  let v1435 : BitVec 32 := Scalar.muli v8 c1_i32_1616
  let v1436 : BitVec 32 := Scalar.addi v1434 v1435
  v1436.toNat
def k0_off72 (d0 : Dev nD) : Fin 4 → Nat :=
  let c3_i32_1622 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1629 : BitVec 32 := 0#32
  let c1536_i32_1630 : BitVec 32 := 1536#32
  ![3, v8.toNat, 0, 1536]
def k0_dev71 (d0 : Dev nD) : Nat :=
  let c0_i32_1638 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1637 : BitVec 32 := 4#32
  let v1457 : BitVec 32 := Scalar.muli v2 c4_i32_1637
  let v1458 : BitVec 32 := Scalar.addi c0_i32_1638 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1639 : BitVec 32 := 2#32
  let v1459 : BitVec 32 := Scalar.muli v5 c2_i32_1639
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1640 : BitVec 32 := 1#32
  let v1461 : BitVec 32 := Scalar.muli v11 c1_i32_1640
  let v1462 : BitVec 32 := Scalar.addi v1460 v1461
  v1462.toNat
def k0_cond36 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1084 : BitVec 32 := Scalar.extui v12
  let c0_i32_1326 : BitVec 32 := 0#32
  let v1085 : BitVec 1 := Scalar.cmpi .ne v1084 c0_i32_1326
  v1085

def k0_off73 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![1, v8.toNat, 0, 2048]
def k0_off74 (d0 : Dev nD) : Fin 4 → Nat :=
  let c1_1609 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2048 : Index := 2048#32
  ![1, v1434.toNat, 0, 2048]
def k0_dev72 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev73 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond37 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1334 : BitVec 1 := 1#1
  let v1091 : BitVec 1 := Scalar.xori v12 true_1334
  let v1092 : BitVec 32 := Scalar.extui v1091
  let c0_i32_1335 : BitVec 32 := 0#32
  let v1093 : BitVec 1 := Scalar.cmpi .ne v1092 c0_i32_1335
  v1093

def k0_off75 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2048_i32_1605 : BitVec 32 := 2048#32
  ![2, v8.toNat, 0, 2048]
def k0_dev74 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off76 (d0 : Dev nD) : Fin 4 → Nat :=
  let c0_i32_1621 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2048_i32_1629 : BitVec 32 := 2048#32
  ![0, v8.toNat, 0, 2048]
def k0_dev75 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond38 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1094 : BitVec 32 := Scalar.extui v12
  let c0_i32_1336 : BitVec 32 := 0#32
  let v1095 : BitVec 1 := Scalar.cmpi .ne v1094 c0_i32_1336
  v1095

def k0_off77 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![2, v8.toNat, 0, 2048]
def k0_off78 (d0 : Dev nD) : Fin 4 → Nat :=
  let c2_1609 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2048 : Index := 2048#32
  ![2, v1434.toNat, 0, 2048]
def k0_dev76 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev77 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond39 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1344 : BitVec 1 := 1#1
  let v1101 : BitVec 1 := Scalar.xori v12 true_1344
  let v1102 : BitVec 32 := Scalar.extui v1101
  let c0_i32_1345 : BitVec 32 := 0#32
  let v1103 : BitVec 1 := Scalar.cmpi .ne v1102 c0_i32_1345
  v1103

def k0_off79 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2048_i32_1605 : BitVec 32 := 2048#32
  ![3, v8.toNat, 0, 2048]
def k0_dev78 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off80 (d0 : Dev nD) : Fin 4 → Nat :=
  let c1_i32_1621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2048_i32_1629 : BitVec 32 := 2048#32
  ![1, v8.toNat, 0, 2048]
def k0_dev79 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond40 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1104 : BitVec 32 := Scalar.extui v12
  let c0_i32_1346 : BitVec 32 := 0#32
  let v1105 : BitVec 1 := Scalar.cmpi .ne v1104 c0_i32_1346
  v1105

def k0_off81 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2048_i32_1606 : BitVec 32 := 2048#32
  ![3, v8.toNat, 0, 2048]
def k0_off82 (d0 : Dev nD) : Fin 4 → Nat :=
  let c3_1609 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2048 : Index := 2048#32
  ![3, v1434.toNat, 0, 2048]
def k0_dev80 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev81 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond41 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1365 : BitVec 1 := 1#1
  let v1121 : BitVec 1 := Scalar.xori v12 true_1365
  let v1122 : BitVec 32 := Scalar.extui v1121
  let c0_i32_1366 : BitVec 32 := 0#32
  let v1123 : BitVec 1 := Scalar.cmpi .ne v1122 c0_i32_1366
  v1123

def k0_off83 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2560_i32_1605 : BitVec 32 := 2560#32
  ![0, v8.toNat, 0, 2560]
def k0_dev82 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off84 (d0 : Dev nD) : Fin 4 → Nat :=
  let c2_i32_1621 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2048_i32_1629 : BitVec 32 := 2048#32
  ![2, v8.toNat, 0, 2048]
def k0_dev83 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond42 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1124 : BitVec 32 := Scalar.extui v12
  let c0_i32_1367 : BitVec 32 := 0#32
  let v1125 : BitVec 1 := Scalar.cmpi .ne v1124 c0_i32_1367
  v1125

def k0_off85 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2560_i32_1606 : BitVec 32 := 2560#32
  ![0, v8.toNat, 0, 2560]
def k0_off86 (d0 : Dev nD) : Fin 4 → Nat :=
  let c0_1609 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2560 : Index := 2560#32
  ![0, v1434.toNat, 0, 2560]
def k0_dev84 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev85 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond43 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1375 : BitVec 1 := 1#1
  let v1131 : BitVec 1 := Scalar.xori v12 true_1375
  let v1132 : BitVec 32 := Scalar.extui v1131
  let c0_i32_1376 : BitVec 32 := 0#32
  let v1133 : BitVec 1 := Scalar.cmpi .ne v1132 c0_i32_1376
  v1133

def k0_off87 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2560_i32_1605 : BitVec 32 := 2560#32
  ![1, v8.toNat, 0, 2560]
def k0_dev86 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off88 (d0 : Dev nD) : Fin 4 → Nat :=
  let c3_i32_1621 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2048_i32_1629 : BitVec 32 := 2048#32
  ![3, v8.toNat, 0, 2048]
def k0_dev87 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond44 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1134 : BitVec 32 := Scalar.extui v12
  let c0_i32_1377 : BitVec 32 := 0#32
  let v1135 : BitVec 1 := Scalar.cmpi .ne v1134 c0_i32_1377
  v1135

def k0_off89 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2560_i32_1606 : BitVec 32 := 2560#32
  ![1, v8.toNat, 0, 2560]
def k0_off90 (d0 : Dev nD) : Fin 4 → Nat :=
  let c1_1609 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2560 : Index := 2560#32
  ![1, v1434.toNat, 0, 2560]
def k0_dev88 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev89 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond45 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1385 : BitVec 1 := 1#1
  let v1141 : BitVec 1 := Scalar.xori v12 true_1385
  let v1142 : BitVec 32 := Scalar.extui v1141
  let c0_i32_1386 : BitVec 32 := 0#32
  let v1143 : BitVec 1 := Scalar.cmpi .ne v1142 c0_i32_1386
  v1143

def k0_off91 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2560_i32_1605 : BitVec 32 := 2560#32
  ![2, v8.toNat, 0, 2560]
def k0_dev90 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off92 (d0 : Dev nD) : Fin 4 → Nat :=
  let c0_i32_1621 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2560_i32_1629 : BitVec 32 := 2560#32
  ![0, v8.toNat, 0, 2560]
def k0_dev91 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond46 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1144 : BitVec 32 := Scalar.extui v12
  let c0_i32_1387 : BitVec 32 := 0#32
  let v1145 : BitVec 1 := Scalar.cmpi .ne v1144 c0_i32_1387
  v1145

def k0_off93 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2560_i32_1606 : BitVec 32 := 2560#32
  ![2, v8.toNat, 0, 2560]
def k0_off94 (d0 : Dev nD) : Fin 4 → Nat :=
  let c2_1609 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2560 : Index := 2560#32
  ![2, v1434.toNat, 0, 2560]
def k0_dev92 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev93 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond47 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1395 : BitVec 1 := 1#1
  let v1151 : BitVec 1 := Scalar.xori v12 true_1395
  let v1152 : BitVec 32 := Scalar.extui v1151
  let c0_i32_1396 : BitVec 32 := 0#32
  let v1153 : BitVec 1 := Scalar.cmpi .ne v1152 c0_i32_1396
  v1153

def k0_off95 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c2560_i32_1605 : BitVec 32 := 2560#32
  ![3, v8.toNat, 0, 2560]
def k0_dev94 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off96 (d0 : Dev nD) : Fin 4 → Nat :=
  let c1_i32_1621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2560_i32_1629 : BitVec 32 := 2560#32
  ![1, v8.toNat, 0, 2560]
def k0_dev95 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond48 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1154 : BitVec 32 := Scalar.extui v12
  let c0_i32_1397 : BitVec 32 := 0#32
  let v1155 : BitVec 1 := Scalar.cmpi .ne v1154 c0_i32_1397
  v1155

def k0_off97 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c2560_i32_1606 : BitVec 32 := 2560#32
  ![3, v8.toNat, 0, 2560]
def k0_off98 (d0 : Dev nD) : Fin 4 → Nat :=
  let c3_1609 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c2560 : Index := 2560#32
  ![3, v1434.toNat, 0, 2560]
def k0_dev96 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev97 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond49 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1416 : BitVec 1 := 1#1
  let v1171 : BitVec 1 := Scalar.xori v12 true_1416
  let v1172 : BitVec 32 := Scalar.extui v1171
  let c0_i32_1417 : BitVec 32 := 0#32
  let v1173 : BitVec 1 := Scalar.cmpi .ne v1172 c0_i32_1417
  v1173

def k0_off99 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3072_i32_1605 : BitVec 32 := 3072#32
  ![0, v8.toNat, 0, 3072]
def k0_dev98 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off100 (d0 : Dev nD) : Fin 4 → Nat :=
  let c2_i32_1621 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2560_i32_1629 : BitVec 32 := 2560#32
  ![2, v8.toNat, 0, 2560]
def k0_dev99 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond50 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1174 : BitVec 32 := Scalar.extui v12
  let c0_i32_1418 : BitVec 32 := 0#32
  let v1175 : BitVec 1 := Scalar.cmpi .ne v1174 c0_i32_1418
  v1175

def k0_off101 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3072_i32_1606 : BitVec 32 := 3072#32
  ![0, v8.toNat, 0, 3072]
def k0_off102 (d0 : Dev nD) : Fin 4 → Nat :=
  let c0_1609 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3072 : Index := 3072#32
  ![0, v1434.toNat, 0, 3072]
def k0_dev100 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev101 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond51 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1426 : BitVec 1 := 1#1
  let v1181 : BitVec 1 := Scalar.xori v12 true_1426
  let v1182 : BitVec 32 := Scalar.extui v1181
  let c0_i32_1427 : BitVec 32 := 0#32
  let v1183 : BitVec 1 := Scalar.cmpi .ne v1182 c0_i32_1427
  v1183

def k0_off103 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3072_i32_1605 : BitVec 32 := 3072#32
  ![1, v8.toNat, 0, 3072]
def k0_dev102 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off104 (d0 : Dev nD) : Fin 4 → Nat :=
  let c3_i32_1621 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c2560_i32_1629 : BitVec 32 := 2560#32
  ![3, v8.toNat, 0, 2560]
def k0_dev103 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond52 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1184 : BitVec 32 := Scalar.extui v12
  let c0_i32_1428 : BitVec 32 := 0#32
  let v1185 : BitVec 1 := Scalar.cmpi .ne v1184 c0_i32_1428
  v1185

def k0_off105 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3072_i32_1606 : BitVec 32 := 3072#32
  ![1, v8.toNat, 0, 3072]
def k0_off106 (d0 : Dev nD) : Fin 4 → Nat :=
  let c1_1609 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3072 : Index := 3072#32
  ![1, v1434.toNat, 0, 3072]
def k0_dev104 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev105 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond53 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1436 : BitVec 1 := 1#1
  let v1191 : BitVec 1 := Scalar.xori v12 true_1436
  let v1192 : BitVec 32 := Scalar.extui v1191
  let c0_i32_1437 : BitVec 32 := 0#32
  let v1193 : BitVec 1 := Scalar.cmpi .ne v1192 c0_i32_1437
  v1193

def k0_off107 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3072_i32_1605 : BitVec 32 := 3072#32
  ![2, v8.toNat, 0, 3072]
def k0_dev106 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off108 (d0 : Dev nD) : Fin 4 → Nat :=
  let c0_i32_1621 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3072_i32_1629 : BitVec 32 := 3072#32
  ![0, v8.toNat, 0, 3072]
def k0_dev107 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond54 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1194 : BitVec 32 := Scalar.extui v12
  let c0_i32_1438 : BitVec 32 := 0#32
  let v1195 : BitVec 1 := Scalar.cmpi .ne v1194 c0_i32_1438
  v1195

def k0_off109 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3072_i32_1606 : BitVec 32 := 3072#32
  ![2, v8.toNat, 0, 3072]
def k0_off110 (d0 : Dev nD) : Fin 4 → Nat :=
  let c2_1609 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3072 : Index := 3072#32
  ![2, v1434.toNat, 0, 3072]
def k0_dev108 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev109 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond55 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1446 : BitVec 1 := 1#1
  let v1201 : BitVec 1 := Scalar.xori v12 true_1446
  let v1202 : BitVec 32 := Scalar.extui v1201
  let c0_i32_1447 : BitVec 32 := 0#32
  let v1203 : BitVec 1 := Scalar.cmpi .ne v1202 c0_i32_1447
  v1203

def k0_off111 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3072_i32_1605 : BitVec 32 := 3072#32
  ![3, v8.toNat, 0, 3072]
def k0_dev110 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off112 (d0 : Dev nD) : Fin 4 → Nat :=
  let c1_i32_1621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3072_i32_1629 : BitVec 32 := 3072#32
  ![1, v8.toNat, 0, 3072]
def k0_dev111 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond56 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1204 : BitVec 32 := Scalar.extui v12
  let c0_i32_1448 : BitVec 32 := 0#32
  let v1205 : BitVec 1 := Scalar.cmpi .ne v1204 c0_i32_1448
  v1205

def k0_off113 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3072_i32_1606 : BitVec 32 := 3072#32
  ![3, v8.toNat, 0, 3072]
def k0_off114 (d0 : Dev nD) : Fin 4 → Nat :=
  let c3_1609 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3072 : Index := 3072#32
  ![3, v1434.toNat, 0, 3072]
def k0_dev112 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev113 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond57 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1462 : BitVec 1 := 1#1
  let v1216 : BitVec 1 := Scalar.xori v12 true_1462
  let v1217 : BitVec 32 := Scalar.extui v1216
  let c0_i32_1463 : BitVec 32 := 0#32
  let v1218 : BitVec 1 := Scalar.cmpi .ne v1217 c0_i32_1463
  v1218

def k0_off115 (d0 : Dev nD) : Fin 4 → Nat :=
  let c0_i32_1598 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3584_i32_1605 : BitVec 32 := 3584#32
  ![0, v8.toNat, 0, 3584]
def k0_dev114 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off116 (d0 : Dev nD) : Fin 4 → Nat :=
  let c2_i32_1621 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3072_i32_1629 : BitVec 32 := 3072#32
  ![2, v8.toNat, 0, 3072]
def k0_dev115 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond58 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1219 : BitVec 32 := Scalar.extui v12
  let c0_i32_1464 : BitVec 32 := 0#32
  let v1220 : BitVec 1 := Scalar.cmpi .ne v1219 c0_i32_1464
  v1220

def k0_off117 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![0, v8.toNat, 0, 3584]
def k0_off118 (d0 : Dev nD) : Fin 4 → Nat :=
  let c0_1609 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3584 : Index := 3584#32
  ![0, v1434.toNat, 0, 3584]
def k0_dev116 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev117 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond59 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1472 : BitVec 1 := 1#1
  let v1226 : BitVec 1 := Scalar.xori v12 true_1472
  let v1227 : BitVec 32 := Scalar.extui v1226
  let c0_i32_1473 : BitVec 32 := 0#32
  let v1228 : BitVec 1 := Scalar.cmpi .ne v1227 c0_i32_1473
  v1228

def k0_off119 (d0 : Dev nD) : Fin 4 → Nat :=
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3584_i32_1605 : BitVec 32 := 3584#32
  ![1, v8.toNat, 0, 3584]
def k0_dev118 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off120 (d0 : Dev nD) : Fin 4 → Nat :=
  let c3_i32_1621 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3072_i32_1629 : BitVec 32 := 3072#32
  ![3, v8.toNat, 0, 3072]
def k0_dev119 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond60 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1229 : BitVec 32 := Scalar.extui v12
  let c0_i32_1474 : BitVec 32 := 0#32
  let v1230 : BitVec 1 := Scalar.cmpi .ne v1229 c0_i32_1474
  v1230

def k0_off121 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![1, v8.toNat, 0, 3584]
def k0_off122 (d0 : Dev nD) : Fin 4 → Nat :=
  let c1_1609 : Index := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3584 : Index := 3584#32
  ![1, v1434.toNat, 0, 3584]
def k0_dev120 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev121 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond61 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1482 : BitVec 1 := 1#1
  let v1236 : BitVec 1 := Scalar.xori v12 true_1482
  let v1237 : BitVec 32 := Scalar.extui v1236
  let c0_i32_1483 : BitVec 32 := 0#32
  let v1238 : BitVec 1 := Scalar.cmpi .ne v1237 c0_i32_1483
  v1238

def k0_off123 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3584_i32_1605 : BitVec 32 := 3584#32
  ![2, v8.toNat, 0, 3584]
def k0_dev122 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off124 (d0 : Dev nD) : Fin 4 → Nat :=
  let c0_i32_1621 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3584_i32_1629 : BitVec 32 := 3584#32
  ![0, v8.toNat, 0, 3584]
def k0_dev123 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond62 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1239 : BitVec 32 := Scalar.extui v12
  let c0_i32_1484 : BitVec 32 := 0#32
  let v1240 : BitVec 1 := Scalar.cmpi .ne v1239 c0_i32_1484
  v1240

def k0_off125 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![2, v8.toNat, 0, 3584]
def k0_off126 (d0 : Dev nD) : Fin 4 → Nat :=
  let c2_1609 : Index := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3584 : Index := 3584#32
  ![2, v1434.toNat, 0, 3584]
def k0_dev124 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev125 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond63 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1492 : BitVec 1 := 1#1
  let v1246 : BitVec 1 := Scalar.xori v12 true_1492
  let v1247 : BitVec 32 := Scalar.extui v1246
  let c0_i32_1493 : BitVec 32 := 0#32
  let v1248 : BitVec 1 := Scalar.cmpi .ne v1247 c0_i32_1493
  v1248

def k0_off127 (d0 : Dev nD) : Fin 4 → Nat :=
  let c3_i32_1598 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3584_i32_1605 : BitVec 32 := 3584#32
  ![3, v8.toNat, 0, 3584]
def k0_dev126 (d0 : Dev nD) : Nat :=
  let c0_i32_1613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1612 : BitVec 32 := 4#32
  let v1431 : BitVec 32 := Scalar.muli v2 c4_i32_1612
  let v1432 : BitVec 32 := Scalar.addi c0_i32_1613 v1431
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1614 : BitVec 32 := 2#32
  let v1433 : BitVec 32 := Scalar.muli v9 c2_i32_1614
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1615 : BitVec 32 := 1#32
  let v1435 : BitVec 32 := Scalar.muli v8 c1_i32_1615
  let v1436 : BitVec 32 := Scalar.addi v1434 v1435
  v1436.toNat
def k0_off128 (d0 : Dev nD) : Fin 4 → Nat :=
  let c1_i32_1621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c3584_i32_1629 : BitVec 32 := 3584#32
  ![1, v8.toNat, 0, 3584]
def k0_dev127 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1636 : BitVec 32 := 4#32
  let v1457 : BitVec 32 := Scalar.muli v2 c4_i32_1636
  let v1458 : BitVec 32 := Scalar.addi c0_i32_1637 v1457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1638 : BitVec 32 := 2#32
  let v1459 : BitVec 32 := Scalar.muli v5 c2_i32_1638
  let v1460 : BitVec 32 := Scalar.addi v1458 v1459
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1639 : BitVec 32 := 1#32
  let v1461 : BitVec 32 := Scalar.muli v11 c1_i32_1639
  let v1462 : BitVec 32 := Scalar.addi v1460 v1461
  v1462.toNat
def k0_cond64 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1249 : BitVec 32 := Scalar.extui v12
  let c0_i32_1494 : BitVec 32 := 0#32
  let v1250 : BitVec 1 := Scalar.cmpi .ne v1249 c0_i32_1494
  v1250

def k0_off129 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![3, v8.toNat, 0, 3584]
def k0_off130 (d0 : Dev nD) : Fin 4 → Nat :=
  let c3_1609 : Index := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : Index := Scalar.indexCast v8
  let c0_1610 : Index := 0#32
  let c3584 : Index := 3584#32
  ![3, v1434.toNat, 0, 3584]
def k0_dev128 (d0 : Dev nD) : Nat :=
  let c0_i32_1619 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1618 : BitVec 32 := 4#32
  let v1442 : BitVec 32 := Scalar.muli v10 c4_i32_1618
  let v1443 : BitVec 32 := Scalar.addi c0_i32_1619 v1442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1620 : BitVec 32 := 2#32
  let v1444 : BitVec 32 := Scalar.muli v5 c2_i32_1620
  let v1445 : BitVec 32 := Scalar.addi v1443 v1444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1621 : BitVec 32 := 1#32
  let v1446 : BitVec 32 := Scalar.muli v8 c1_i32_1621
  let v1447 : BitVec 32 := Scalar.addi v1445 v1446
  v1447.toNat
def k0_dev129 (d0 : Dev nD) : Nat :=
  let c0_i32_1631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1630 : BitVec 32 := 4#32
  let v1456 : BitVec 32 := Scalar.muli v2 c4_i32_1630
  let v1457 : BitVec 32 := Scalar.addi c0_i32_1631 v1456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1632 : BitVec 32 := 2#32
  let v1458 : BitVec 32 := Scalar.muli v5 c2_i32_1632
  let v1459 : BitVec 32 := Scalar.addi v1457 v1458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1633 : BitVec 32 := 1#32
  let v1460 : BitVec 32 := Scalar.muli v11 c1_i32_1633
  let v1461 : BitVec 32 := Scalar.addi v1459 v1460
  v1461.toNat
def k0_cond65 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1495 : BitVec 1 := 1#1
  let v1251 : BitVec 1 := Scalar.xori v12 true_1495
  let v1252 : BitVec 32 := Scalar.extui v1251
  let c0_i32_1496 : BitVec 32 := 0#32
  let v1253 : BitVec 1 := Scalar.cmpi .ne v1252 c0_i32_1496
  v1253

def k0_off131 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![2, v8.toNat, 0, 3584]
def k0_dev130 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1434 : BitVec 32 := Scalar.muli v2 c4_i32_1613
  let v1435 : BitVec 32 := Scalar.addi c0_i32_1614 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1615 : BitVec 32 := 2#32
  let v1436 : BitVec 32 := Scalar.muli v5 c2_i32_1615
  let v1437 : BitVec 32 := Scalar.addi v1435 v1436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1616 : BitVec 32 := 1#32
  let v1438 : BitVec 32 := Scalar.muli v11 c1_i32_1616
  let v1439 : BitVec 32 := Scalar.addi v1437 v1438
  v1439.toNat
def k0_cond66 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1497 : BitVec 1 := 1#1
  let v1254 : BitVec 1 := Scalar.xori v12 true_1497
  let v1255 : BitVec 32 := Scalar.extui v1254
  let c0_i32_1498 : BitVec 32 := 0#32
  let v1256 : BitVec 1 := Scalar.cmpi .ne v1255 c0_i32_1498
  v1256

def k0_off132 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1605 : BitVec 32 := 0#32
  let c3584_i32_1606 : BitVec 32 := 3584#32
  ![3, v8.toNat, 0, 3584]
def k0_dev131 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1434 : BitVec 32 := Scalar.muli v2 c4_i32_1613
  let v1435 : BitVec 32 := Scalar.addi c0_i32_1614 v1434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1615 : BitVec 32 := 2#32
  let v1436 : BitVec 32 := Scalar.muli v5 c2_i32_1615
  let v1437 : BitVec 32 := Scalar.addi v1435 v1436
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1616 : BitVec 32 := 1#32
  let v1438 : BitVec 32 := Scalar.muli v11 c1_i32_1616
  let v1439 : BitVec 32 := Scalar.addi v1437 v1438
  v1439.toNat
def k0_cond67 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1257 : BitVec 32 := Scalar.extui v12
  let c0_i32_1499 : BitVec 32 := 0#32
  let v1258 : BitVec 1 := Scalar.cmpi .ne v1257 c0_i32_1499
  v1258

def k0_off133 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![0, v1422.toNat, 0, 0]
def k0_off134 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![0, v8.toNat, 0, 0]
def k0_cond68 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1500 : BitVec 1 := 1#1
  let v1259 : BitVec 1 := Scalar.xori v12 true_1500
  let v1260 : BitVec 32 := Scalar.extui v1259
  let c0_i32_1501 : BitVec 32 := 0#32
  let v1261 : BitVec 1 := Scalar.cmpi .ne v1260 c0_i32_1501
  v1261

def k0_off135 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![0, v1422.toNat, 0, 0]
def k0_off136 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![0, v8.toNat, 0, 0]
def k0_cond69 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1262 : BitVec 32 := Scalar.extui v12
  let c0_i32_1502 : BitVec 32 := 0#32
  let v1263 : BitVec 1 := Scalar.cmpi .ne v1262 c0_i32_1502
  v1263

def k0_off137 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![1, v1422.toNat, 0, 0]
def k0_off138 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![1, v8.toNat, 0, 0]
def k0_cond70 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1503 : BitVec 1 := 1#1
  let v1264 : BitVec 1 := Scalar.xori v12 true_1503
  let v1265 : BitVec 32 := Scalar.extui v1264
  let c0_i32_1504 : BitVec 32 := 0#32
  let v1266 : BitVec 1 := Scalar.cmpi .ne v1265 c0_i32_1504
  v1266

def k0_off139 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![1, v1422.toNat, 0, 0]
def k0_off140 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![1, v8.toNat, 0, 0]
def k0_cond71 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1267 : BitVec 32 := Scalar.extui v12
  let c0_i32_1505 : BitVec 32 := 0#32
  let v1268 : BitVec 1 := Scalar.cmpi .ne v1267 c0_i32_1505
  v1268

def k0_off141 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![2, v1422.toNat, 0, 0]
def k0_off142 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![2, v8.toNat, 0, 0]
def k0_cond72 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1506 : BitVec 1 := 1#1
  let v1269 : BitVec 1 := Scalar.xori v12 true_1506
  let v1270 : BitVec 32 := Scalar.extui v1269
  let c0_i32_1507 : BitVec 32 := 0#32
  let v1271 : BitVec 1 := Scalar.cmpi .ne v1270 c0_i32_1507
  v1271

def k0_off143 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![2, v1422.toNat, 0, 0]
def k0_off144 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![2, v8.toNat, 0, 0]
def k0_cond73 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1272 : BitVec 32 := Scalar.extui v12
  let c0_i32_1508 : BitVec 32 := 0#32
  let v1273 : BitVec 1 := Scalar.cmpi .ne v1272 c0_i32_1508
  v1273

def k0_off145 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![3, v1422.toNat, 0, 0]
def k0_off146 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![3, v8.toNat, 0, 0]
def k0_cond74 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1509 : BitVec 1 := 1#1
  let v1274 : BitVec 1 := Scalar.xori v12 true_1509
  let v1275 : BitVec 32 := Scalar.extui v1274
  let c0_i32_1510 : BitVec 32 := 0#32
  let v1276 : BitVec 1 := Scalar.cmpi .ne v1275 c0_i32_1510
  v1276

def k0_off147 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c0_i32_1608 : BitVec 32 := 0#32
  ![3, v1422.toNat, 0, 0]
def k0_off148 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c0_i32_1610 : BitVec 32 := 0#32
  ![3, v8.toNat, 0, 0]
def k0_cond75 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1277 : BitVec 32 := Scalar.extui v12
  let c0_i32_1511 : BitVec 32 := 0#32
  let v1278 : BitVec 1 := Scalar.cmpi .ne v1277 c0_i32_1511
  v1278

def k0_off149 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![0, v1422.toNat, 0, 512]
def k0_off150 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![0, v8.toNat, 0, 512]
def k0_cond76 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1512 : BitVec 1 := 1#1
  let v1279 : BitVec 1 := Scalar.xori v12 true_1512
  let v1280 : BitVec 32 := Scalar.extui v1279
  let c0_i32_1513 : BitVec 32 := 0#32
  let v1281 : BitVec 1 := Scalar.cmpi .ne v1280 c0_i32_1513
  v1281

def k0_off151 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![0, v1422.toNat, 0, 512]
def k0_off152 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![0, v8.toNat, 0, 512]
def k0_cond77 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1282 : BitVec 32 := Scalar.extui v12
  let c0_i32_1514 : BitVec 32 := 0#32
  let v1283 : BitVec 1 := Scalar.cmpi .ne v1282 c0_i32_1514
  v1283

def k0_off153 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![1, v1422.toNat, 0, 512]
def k0_off154 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![1, v8.toNat, 0, 512]
def k0_cond78 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1515 : BitVec 1 := 1#1
  let v1284 : BitVec 1 := Scalar.xori v12 true_1515
  let v1285 : BitVec 32 := Scalar.extui v1284
  let c0_i32_1516 : BitVec 32 := 0#32
  let v1286 : BitVec 1 := Scalar.cmpi .ne v1285 c0_i32_1516
  v1286

def k0_off155 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![1, v1422.toNat, 0, 512]
def k0_off156 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![1, v8.toNat, 0, 512]
def k0_cond79 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1287 : BitVec 32 := Scalar.extui v12
  let c0_i32_1517 : BitVec 32 := 0#32
  let v1288 : BitVec 1 := Scalar.cmpi .ne v1287 c0_i32_1517
  v1288

def k0_off157 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![2, v1422.toNat, 0, 512]
def k0_off158 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![2, v8.toNat, 0, 512]
def k0_cond80 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1518 : BitVec 1 := 1#1
  let v1289 : BitVec 1 := Scalar.xori v12 true_1518
  let v1290 : BitVec 32 := Scalar.extui v1289
  let c0_i32_1519 : BitVec 32 := 0#32
  let v1291 : BitVec 1 := Scalar.cmpi .ne v1290 c0_i32_1519
  v1291

def k0_off159 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![2, v1422.toNat, 0, 512]
def k0_off160 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![2, v8.toNat, 0, 512]
def k0_cond81 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1292 : BitVec 32 := Scalar.extui v12
  let c0_i32_1520 : BitVec 32 := 0#32
  let v1293 : BitVec 1 := Scalar.cmpi .ne v1292 c0_i32_1520
  v1293

def k0_off161 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![3, v1422.toNat, 0, 512]
def k0_off162 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![3, v8.toNat, 0, 512]
def k0_cond82 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1521 : BitVec 1 := 1#1
  let v1294 : BitVec 1 := Scalar.xori v12 true_1521
  let v1295 : BitVec 32 := Scalar.extui v1294
  let c0_i32_1522 : BitVec 32 := 0#32
  let v1296 : BitVec 1 := Scalar.cmpi .ne v1295 c0_i32_1522
  v1296

def k0_off163 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c512_i32_1608 : BitVec 32 := 512#32
  ![3, v1422.toNat, 0, 512]
def k0_off164 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c512_i32_1610 : BitVec 32 := 512#32
  ![3, v8.toNat, 0, 512]
def k0_cond83 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1297 : BitVec 32 := Scalar.extui v12
  let c0_i32_1523 : BitVec 32 := 0#32
  let v1298 : BitVec 1 := Scalar.cmpi .ne v1297 c0_i32_1523
  v1298

def k0_off165 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![0, v1422.toNat, 0, 1024]
def k0_off166 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![0, v8.toNat, 0, 1024]
def k0_cond84 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1524 : BitVec 1 := 1#1
  let v1299 : BitVec 1 := Scalar.xori v12 true_1524
  let v1300 : BitVec 32 := Scalar.extui v1299
  let c0_i32_1525 : BitVec 32 := 0#32
  let v1301 : BitVec 1 := Scalar.cmpi .ne v1300 c0_i32_1525
  v1301

def k0_off167 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![0, v1422.toNat, 0, 1024]
def k0_off168 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![0, v8.toNat, 0, 1024]
def k0_cond85 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1302 : BitVec 32 := Scalar.extui v12
  let c0_i32_1526 : BitVec 32 := 0#32
  let v1303 : BitVec 1 := Scalar.cmpi .ne v1302 c0_i32_1526
  v1303

def k0_off169 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![1, v1422.toNat, 0, 1024]
def k0_off170 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![1, v8.toNat, 0, 1024]
def k0_cond86 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1527 : BitVec 1 := 1#1
  let v1304 : BitVec 1 := Scalar.xori v12 true_1527
  let v1305 : BitVec 32 := Scalar.extui v1304
  let c0_i32_1528 : BitVec 32 := 0#32
  let v1306 : BitVec 1 := Scalar.cmpi .ne v1305 c0_i32_1528
  v1306

def k0_off171 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![1, v1422.toNat, 0, 1024]
def k0_off172 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![1, v8.toNat, 0, 1024]
def k0_cond87 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1307 : BitVec 32 := Scalar.extui v12
  let c0_i32_1529 : BitVec 32 := 0#32
  let v1308 : BitVec 1 := Scalar.cmpi .ne v1307 c0_i32_1529
  v1308

def k0_off173 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![2, v1422.toNat, 0, 1024]
def k0_off174 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![2, v8.toNat, 0, 1024]
def k0_cond88 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1530 : BitVec 1 := 1#1
  let v1309 : BitVec 1 := Scalar.xori v12 true_1530
  let v1310 : BitVec 32 := Scalar.extui v1309
  let c0_i32_1531 : BitVec 32 := 0#32
  let v1311 : BitVec 1 := Scalar.cmpi .ne v1310 c0_i32_1531
  v1311

def k0_off175 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![2, v1422.toNat, 0, 1024]
def k0_off176 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![2, v8.toNat, 0, 1024]
def k0_cond89 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1312 : BitVec 32 := Scalar.extui v12
  let c0_i32_1532 : BitVec 32 := 0#32
  let v1313 : BitVec 1 := Scalar.cmpi .ne v1312 c0_i32_1532
  v1313

def k0_off177 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![3, v1422.toNat, 0, 1024]
def k0_off178 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![3, v8.toNat, 0, 1024]
def k0_cond90 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1533 : BitVec 1 := 1#1
  let v1314 : BitVec 1 := Scalar.xori v12 true_1533
  let v1315 : BitVec 32 := Scalar.extui v1314
  let c0_i32_1534 : BitVec 32 := 0#32
  let v1316 : BitVec 1 := Scalar.cmpi .ne v1315 c0_i32_1534
  v1316

def k0_off179 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1024_i32_1608 : BitVec 32 := 1024#32
  ![3, v1422.toNat, 0, 1024]
def k0_off180 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1024_i32_1610 : BitVec 32 := 1024#32
  ![3, v8.toNat, 0, 1024]
def k0_cond91 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1317 : BitVec 32 := Scalar.extui v12
  let c0_i32_1535 : BitVec 32 := 0#32
  let v1318 : BitVec 1 := Scalar.cmpi .ne v1317 c0_i32_1535
  v1318

def k0_off181 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![0, v1422.toNat, 0, 1536]
def k0_off182 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![0, v8.toNat, 0, 1536]
def k0_cond92 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1536 : BitVec 1 := 1#1
  let v1319 : BitVec 1 := Scalar.xori v12 true_1536
  let v1320 : BitVec 32 := Scalar.extui v1319
  let c0_i32_1537 : BitVec 32 := 0#32
  let v1321 : BitVec 1 := Scalar.cmpi .ne v1320 c0_i32_1537
  v1321

def k0_off183 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![0, v1422.toNat, 0, 1536]
def k0_off184 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![0, v8.toNat, 0, 1536]
def k0_cond93 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1322 : BitVec 32 := Scalar.extui v12
  let c0_i32_1538 : BitVec 32 := 0#32
  let v1323 : BitVec 1 := Scalar.cmpi .ne v1322 c0_i32_1538
  v1323

def k0_off185 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![1, v1422.toNat, 0, 1536]
def k0_off186 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![1, v8.toNat, 0, 1536]
def k0_cond94 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1539 : BitVec 1 := 1#1
  let v1324 : BitVec 1 := Scalar.xori v12 true_1539
  let v1325 : BitVec 32 := Scalar.extui v1324
  let c0_i32_1540 : BitVec 32 := 0#32
  let v1326 : BitVec 1 := Scalar.cmpi .ne v1325 c0_i32_1540
  v1326

def k0_off187 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![1, v1422.toNat, 0, 1536]
def k0_off188 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![1, v8.toNat, 0, 1536]
def k0_cond95 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1327 : BitVec 32 := Scalar.extui v12
  let c0_i32_1541 : BitVec 32 := 0#32
  let v1328 : BitVec 1 := Scalar.cmpi .ne v1327 c0_i32_1541
  v1328

def k0_off189 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![2, v1422.toNat, 0, 1536]
def k0_off190 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![2, v8.toNat, 0, 1536]
def k0_cond96 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1542 : BitVec 1 := 1#1
  let v1329 : BitVec 1 := Scalar.xori v12 true_1542
  let v1330 : BitVec 32 := Scalar.extui v1329
  let c0_i32_1543 : BitVec 32 := 0#32
  let v1331 : BitVec 1 := Scalar.cmpi .ne v1330 c0_i32_1543
  v1331

def k0_off191 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![2, v1422.toNat, 0, 1536]
def k0_off192 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![2, v8.toNat, 0, 1536]
def k0_cond97 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1332 : BitVec 32 := Scalar.extui v12
  let c0_i32_1544 : BitVec 32 := 0#32
  let v1333 : BitVec 1 := Scalar.cmpi .ne v1332 c0_i32_1544
  v1333

def k0_off193 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![3, v1422.toNat, 0, 1536]
def k0_off194 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![3, v8.toNat, 0, 1536]
def k0_cond98 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1545 : BitVec 1 := 1#1
  let v1334 : BitVec 1 := Scalar.xori v12 true_1545
  let v1335 : BitVec 32 := Scalar.extui v1334
  let c0_i32_1546 : BitVec 32 := 0#32
  let v1336 : BitVec 1 := Scalar.cmpi .ne v1335 c0_i32_1546
  v1336

def k0_off195 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1607 : BitVec 32 := 0#32
  let c1536_i32_1608 : BitVec 32 := 1536#32
  ![3, v1422.toNat, 0, 1536]
def k0_off196 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1609 : BitVec 32 := 0#32
  let c1536_i32_1610 : BitVec 32 := 1536#32
  ![3, v8.toNat, 0, 1536]
def k0_cond99 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1337 : BitVec 32 := Scalar.extui v12
  let c0_i32_1547 : BitVec 32 := 0#32
  let v1338 : BitVec 1 := Scalar.cmpi .ne v1337 c0_i32_1547
  v1338

def k0_off197 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![0, v1422.toNat, 0, 2048]
def k0_off198 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![0, v8.toNat, 0, 2048]
def k0_cond100 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1548 : BitVec 1 := 1#1
  let v1339 : BitVec 1 := Scalar.xori v12 true_1548
  let v1340 : BitVec 32 := Scalar.extui v1339
  let c0_i32_1549 : BitVec 32 := 0#32
  let v1341 : BitVec 1 := Scalar.cmpi .ne v1340 c0_i32_1549
  v1341

def k0_off199 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![0, v1422.toNat, 0, 2048]
def k0_off200 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![0, v8.toNat, 0, 2048]
def k0_cond101 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1342 : BitVec 32 := Scalar.extui v12
  let c0_i32_1550 : BitVec 32 := 0#32
  let v1343 : BitVec 1 := Scalar.cmpi .ne v1342 c0_i32_1550
  v1343

def k0_off201 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![1, v1422.toNat, 0, 2048]
def k0_off202 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![1, v8.toNat, 0, 2048]
def k0_cond102 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1551 : BitVec 1 := 1#1
  let v1344 : BitVec 1 := Scalar.xori v12 true_1551
  let v1345 : BitVec 32 := Scalar.extui v1344
  let c0_i32_1552 : BitVec 32 := 0#32
  let v1346 : BitVec 1 := Scalar.cmpi .ne v1345 c0_i32_1552
  v1346

def k0_off203 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![1, v1422.toNat, 0, 2048]
def k0_off204 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![1, v8.toNat, 0, 2048]
def k0_cond103 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1347 : BitVec 32 := Scalar.extui v12
  let c0_i32_1553 : BitVec 32 := 0#32
  let v1348 : BitVec 1 := Scalar.cmpi .ne v1347 c0_i32_1553
  v1348

def k0_off205 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![2, v1422.toNat, 0, 2048]
def k0_off206 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![2, v8.toNat, 0, 2048]
def k0_cond104 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1554 : BitVec 1 := 1#1
  let v1349 : BitVec 1 := Scalar.xori v12 true_1554
  let v1350 : BitVec 32 := Scalar.extui v1349
  let c0_i32_1555 : BitVec 32 := 0#32
  let v1351 : BitVec 1 := Scalar.cmpi .ne v1350 c0_i32_1555
  v1351

def k0_off207 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![2, v1422.toNat, 0, 2048]
def k0_off208 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![2, v8.toNat, 0, 2048]
def k0_cond105 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1352 : BitVec 32 := Scalar.extui v12
  let c0_i32_1556 : BitVec 32 := 0#32
  let v1353 : BitVec 1 := Scalar.cmpi .ne v1352 c0_i32_1556
  v1353

def k0_off209 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![3, v1422.toNat, 0, 2048]
def k0_off210 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![3, v8.toNat, 0, 2048]
def k0_cond106 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1557 : BitVec 1 := 1#1
  let v1354 : BitVec 1 := Scalar.xori v12 true_1557
  let v1355 : BitVec 32 := Scalar.extui v1354
  let c0_i32_1558 : BitVec 32 := 0#32
  let v1356 : BitVec 1 := Scalar.cmpi .ne v1355 c0_i32_1558
  v1356

def k0_off211 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2048_i32_1607 : BitVec 32 := 2048#32
  ![3, v1422.toNat, 0, 2048]
def k0_off212 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2048_i32_1609 : BitVec 32 := 2048#32
  ![3, v8.toNat, 0, 2048]
def k0_cond107 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1357 : BitVec 32 := Scalar.extui v12
  let c0_i32_1559 : BitVec 32 := 0#32
  let v1358 : BitVec 1 := Scalar.cmpi .ne v1357 c0_i32_1559
  v1358

def k0_off213 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![0, v1422.toNat, 0, 2560]
def k0_off214 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![0, v8.toNat, 0, 2560]
def k0_cond108 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1560 : BitVec 1 := 1#1
  let v1359 : BitVec 1 := Scalar.xori v12 true_1560
  let v1360 : BitVec 32 := Scalar.extui v1359
  let c0_i32_1561 : BitVec 32 := 0#32
  let v1361 : BitVec 1 := Scalar.cmpi .ne v1360 c0_i32_1561
  v1361

def k0_off215 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![0, v1422.toNat, 0, 2560]
def k0_off216 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![0, v8.toNat, 0, 2560]
def k0_cond109 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1362 : BitVec 32 := Scalar.extui v12
  let c0_i32_1562 : BitVec 32 := 0#32
  let v1363 : BitVec 1 := Scalar.cmpi .ne v1362 c0_i32_1562
  v1363

def k0_off217 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![1, v1422.toNat, 0, 2560]
def k0_off218 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![1, v8.toNat, 0, 2560]
def k0_cond110 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1563 : BitVec 1 := 1#1
  let v1364 : BitVec 1 := Scalar.xori v12 true_1563
  let v1365 : BitVec 32 := Scalar.extui v1364
  let c0_i32_1564 : BitVec 32 := 0#32
  let v1366 : BitVec 1 := Scalar.cmpi .ne v1365 c0_i32_1564
  v1366

def k0_off219 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![1, v1422.toNat, 0, 2560]
def k0_off220 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![1, v8.toNat, 0, 2560]
def k0_cond111 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1367 : BitVec 32 := Scalar.extui v12
  let c0_i32_1565 : BitVec 32 := 0#32
  let v1368 : BitVec 1 := Scalar.cmpi .ne v1367 c0_i32_1565
  v1368

def k0_off221 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![2, v1422.toNat, 0, 2560]
def k0_off222 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![2, v8.toNat, 0, 2560]
def k0_cond112 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1566 : BitVec 1 := 1#1
  let v1369 : BitVec 1 := Scalar.xori v12 true_1566
  let v1370 : BitVec 32 := Scalar.extui v1369
  let c0_i32_1567 : BitVec 32 := 0#32
  let v1371 : BitVec 1 := Scalar.cmpi .ne v1370 c0_i32_1567
  v1371

def k0_off223 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![2, v1422.toNat, 0, 2560]
def k0_off224 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![2, v8.toNat, 0, 2560]
def k0_cond113 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1372 : BitVec 32 := Scalar.extui v12
  let c0_i32_1568 : BitVec 32 := 0#32
  let v1373 : BitVec 1 := Scalar.cmpi .ne v1372 c0_i32_1568
  v1373

def k0_off225 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![3, v1422.toNat, 0, 2560]
def k0_off226 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![3, v8.toNat, 0, 2560]
def k0_cond114 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1569 : BitVec 1 := 1#1
  let v1374 : BitVec 1 := Scalar.xori v12 true_1569
  let v1375 : BitVec 32 := Scalar.extui v1374
  let c0_i32_1570 : BitVec 32 := 0#32
  let v1376 : BitVec 1 := Scalar.cmpi .ne v1375 c0_i32_1570
  v1376

def k0_off227 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c2560_i32_1607 : BitVec 32 := 2560#32
  ![3, v1422.toNat, 0, 2560]
def k0_off228 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c2560_i32_1609 : BitVec 32 := 2560#32
  ![3, v8.toNat, 0, 2560]
def k0_cond115 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1377 : BitVec 32 := Scalar.extui v12
  let c0_i32_1571 : BitVec 32 := 0#32
  let v1378 : BitVec 1 := Scalar.cmpi .ne v1377 c0_i32_1571
  v1378

def k0_off229 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![0, v1422.toNat, 0, 3072]
def k0_off230 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![0, v8.toNat, 0, 3072]
def k0_cond116 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1572 : BitVec 1 := 1#1
  let v1379 : BitVec 1 := Scalar.xori v12 true_1572
  let v1380 : BitVec 32 := Scalar.extui v1379
  let c0_i32_1573 : BitVec 32 := 0#32
  let v1381 : BitVec 1 := Scalar.cmpi .ne v1380 c0_i32_1573
  v1381

def k0_off231 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![0, v1422.toNat, 0, 3072]
def k0_off232 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![0, v8.toNat, 0, 3072]
def k0_cond117 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1382 : BitVec 32 := Scalar.extui v12
  let c0_i32_1574 : BitVec 32 := 0#32
  let v1383 : BitVec 1 := Scalar.cmpi .ne v1382 c0_i32_1574
  v1383

def k0_off233 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![1, v1422.toNat, 0, 3072]
def k0_off234 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![1, v8.toNat, 0, 3072]
def k0_cond118 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1575 : BitVec 1 := 1#1
  let v1384 : BitVec 1 := Scalar.xori v12 true_1575
  let v1385 : BitVec 32 := Scalar.extui v1384
  let c0_i32_1576 : BitVec 32 := 0#32
  let v1386 : BitVec 1 := Scalar.cmpi .ne v1385 c0_i32_1576
  v1386

def k0_off235 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![1, v1422.toNat, 0, 3072]
def k0_off236 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![1, v8.toNat, 0, 3072]
def k0_cond119 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1387 : BitVec 32 := Scalar.extui v12
  let c0_i32_1577 : BitVec 32 := 0#32
  let v1388 : BitVec 1 := Scalar.cmpi .ne v1387 c0_i32_1577
  v1388

def k0_off237 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![2, v1422.toNat, 0, 3072]
def k0_off238 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![2, v8.toNat, 0, 3072]
def k0_cond120 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1578 : BitVec 1 := 1#1
  let v1389 : BitVec 1 := Scalar.xori v12 true_1578
  let v1390 : BitVec 32 := Scalar.extui v1389
  let c0_i32_1579 : BitVec 32 := 0#32
  let v1391 : BitVec 1 := Scalar.cmpi .ne v1390 c0_i32_1579
  v1391

def k0_off239 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![2, v1422.toNat, 0, 3072]
def k0_off240 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![2, v8.toNat, 0, 3072]
def k0_cond121 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1392 : BitVec 32 := Scalar.extui v12
  let c0_i32_1580 : BitVec 32 := 0#32
  let v1393 : BitVec 1 := Scalar.cmpi .ne v1392 c0_i32_1580
  v1393

def k0_off241 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![3, v1422.toNat, 0, 3072]
def k0_off242 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![3, v8.toNat, 0, 3072]
def k0_cond122 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1581 : BitVec 1 := 1#1
  let v1394 : BitVec 1 := Scalar.xori v12 true_1581
  let v1395 : BitVec 32 := Scalar.extui v1394
  let c0_i32_1582 : BitVec 32 := 0#32
  let v1396 : BitVec 1 := Scalar.cmpi .ne v1395 c0_i32_1582
  v1396

def k0_off243 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3072_i32_1607 : BitVec 32 := 3072#32
  ![3, v1422.toNat, 0, 3072]
def k0_off244 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3072_i32_1609 : BitVec 32 := 3072#32
  ![3, v8.toNat, 0, 3072]
def k0_cond123 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1397 : BitVec 32 := Scalar.extui v12
  let c0_i32_1583 : BitVec 32 := 0#32
  let v1398 : BitVec 1 := Scalar.cmpi .ne v1397 c0_i32_1583
  v1398

def k0_off245 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![0, v1422.toNat, 0, 3584]
def k0_off246 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![0, v8.toNat, 0, 3584]
def k0_cond124 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1584 : BitVec 1 := 1#1
  let v1399 : BitVec 1 := Scalar.xori v12 true_1584
  let v1400 : BitVec 32 := Scalar.extui v1399
  let c0_i32_1585 : BitVec 32 := 0#32
  let v1401 : BitVec 1 := Scalar.cmpi .ne v1400 c0_i32_1585
  v1401

def k0_off247 (d0 : Dev nD) : Fin 4 → Nat :=
  let c0_i32_1600 : BitVec 32 := 0#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![0, v1422.toNat, 0, 3584]
def k0_off248 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![0, v8.toNat, 0, 3584]
def k0_cond125 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1402 : BitVec 32 := Scalar.extui v12
  let c0_i32_1586 : BitVec 32 := 0#32
  let v1403 : BitVec 1 := Scalar.cmpi .ne v1402 c0_i32_1586
  v1403

def k0_off249 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![1, v1422.toNat, 0, 3584]
def k0_off250 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![1, v8.toNat, 0, 3584]
def k0_cond126 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1587 : BitVec 1 := 1#1
  let v1404 : BitVec 1 := Scalar.xori v12 true_1587
  let v1405 : BitVec 32 := Scalar.extui v1404
  let c0_i32_1588 : BitVec 32 := 0#32
  let v1406 : BitVec 1 := Scalar.cmpi .ne v1405 c0_i32_1588
  v1406

def k0_off251 (d0 : Dev nD) : Fin 4 → Nat :=
  let c1_i32_1600 : BitVec 32 := 1#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![1, v1422.toNat, 0, 3584]
def k0_off252 (d0 : Dev nD) : Fin 4 → Nat :=
  let c1_i32_1599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![1, v8.toNat, 0, 3584]
def k0_cond127 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1407 : BitVec 32 := Scalar.extui v12
  let c0_i32_1589 : BitVec 32 := 0#32
  let v1408 : BitVec 1 := Scalar.cmpi .ne v1407 c0_i32_1589
  v1408

def k0_off253 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![2, v1422.toNat, 0, 3584]
def k0_off254 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![2, v8.toNat, 0, 3584]
def k0_cond128 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1590 : BitVec 1 := 1#1
  let v1409 : BitVec 1 := Scalar.xori v12 true_1590
  let v1410 : BitVec 32 := Scalar.extui v1409
  let c0_i32_1591 : BitVec 32 := 0#32
  let v1411 : BitVec 1 := Scalar.cmpi .ne v1410 c0_i32_1591
  v1411

def k0_off255 (d0 : Dev nD) : Fin 4 → Nat :=
  let c2_i32_1600 : BitVec 32 := 2#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![2, v1422.toNat, 0, 3584]
def k0_off256 (d0 : Dev nD) : Fin 4 → Nat :=
  let c2_i32_1599 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![2, v8.toNat, 0, 3584]
def k0_cond129 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1412 : BitVec 32 := Scalar.extui v12
  let c0_i32_1592 : BitVec 32 := 0#32
  let v1413 : BitVec 1 := Scalar.cmpi .ne v1412 c0_i32_1592
  v1413

def k0_off257 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![3, v1422.toNat, 0, 3584]
def k0_off258 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![3, v8.toNat, 0, 3584]
def k0_cond130 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1593 : BitVec 1 := 1#1
  let v1414 : BitVec 1 := Scalar.xori v12 true_1593
  let v1415 : BitVec 32 := Scalar.extui v1414
  let c0_i32_1594 : BitVec 32 := 0#32
  let v1416 : BitVec 1 := Scalar.cmpi .ne v1415 c0_i32_1594
  v1416

def k0_off259 (d0 : Dev nD) : Fin 4 → Nat :=
  let c3_i32_1600 : BitVec 32 := 3#32
  let c1_i32_1598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1422 : BitVec 32 := Scalar.subi c1_i32_1598 v8
  let c0_i32_1606 : BitVec 32 := 0#32
  let c3584_i32_1607 : BitVec 32 := 3584#32
  ![3, v1422.toNat, 0, 3584]
def k0_off260 (d0 : Dev nD) : Fin 4 → Nat :=
  let c3_i32_1599 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1608 : BitVec 32 := 0#32
  let c3584_i32_1609 : BitVec 32 := 3584#32
  ![3, v8.toNat, 0, 3584]
def k0_cond131 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let v1417 : BitVec 32 := Scalar.extui v12
  let c0_i32_1595 : BitVec 32 := 0#32
  let v1418 : BitVec 1 := Scalar.cmpi .ne v1417 c0_i32_1595
  v1418

def k0_off261 (d0 : Dev nD) : Fin 4 → Nat :=
  let c0_i32_1599 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1603 : BitVec 32 := 0#32
  let c0_i32_1604 : BitVec 32 := 0#32
  ![0, v8.toNat, 0, 0]
def k0_off262 (d0 : Dev nD) : Fin 4 → Nat :=
  let c1_i32_1617 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1621 : BitVec 32 := 0#32
  let c0_i32_1622 : BitVec 32 := 0#32
  ![1, v8.toNat, 0, 0]
def k0_off263 (d0 : Dev nD) : Fin 4 → Nat :=
  let c2_i32_1635 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1639 : BitVec 32 := 0#32
  let c0_i32_1640 : BitVec 32 := 0#32
  ![2, v8.toNat, 0, 0]
def k0_off264 (d0 : Dev nD) : Fin 4 → Nat :=
  let c3_i32_1653 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1657 : BitVec 32 := 0#32
  let c0_i32_1658 : BitVec 32 := 0#32
  ![3, v8.toNat, 0, 0]
def k0_off265 (d0 : Dev nD) : Fin 4 → Nat :=
  let c0_i32_1671 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1675 : BitVec 32 := 0#32
  let c512_i32_1676 : BitVec 32 := 512#32
  ![0, v8.toNat, 0, 512]
def k0_off266 (d0 : Dev nD) : Fin 4 → Nat :=
  let c1_i32_1689 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1693 : BitVec 32 := 0#32
  let c512_i32_1694 : BitVec 32 := 512#32
  ![1, v8.toNat, 0, 512]
def k0_off267 (d0 : Dev nD) : Fin 4 → Nat :=
  let c2_i32_1707 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1711 : BitVec 32 := 0#32
  let c512_i32_1712 : BitVec 32 := 512#32
  ![2, v8.toNat, 0, 512]
def k0_off268 (d0 : Dev nD) : Fin 4 → Nat :=
  let c3_i32_1725 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1729 : BitVec 32 := 0#32
  let c512_i32_1730 : BitVec 32 := 512#32
  ![3, v8.toNat, 0, 512]
def k0_off269 (d0 : Dev nD) : Fin 4 → Nat :=
  let c0_i32_1743 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1747 : BitVec 32 := 0#32
  let c1024_i32_1748 : BitVec 32 := 1024#32
  ![0, v8.toNat, 0, 1024]
def k0_off270 (d0 : Dev nD) : Fin 4 → Nat :=
  let c1_i32_1761 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1765 : BitVec 32 := 0#32
  let c1024_i32_1766 : BitVec 32 := 1024#32
  ![1, v8.toNat, 0, 1024]
def k0_off271 (d0 : Dev nD) : Fin 4 → Nat :=
  let c2_i32_1779 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1783 : BitVec 32 := 0#32
  let c1024_i32_1784 : BitVec 32 := 1024#32
  ![2, v8.toNat, 0, 1024]
def k0_off272 (d0 : Dev nD) : Fin 4 → Nat :=
  let c3_i32_1797 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1801 : BitVec 32 := 0#32
  let c1024_i32_1802 : BitVec 32 := 1024#32
  ![3, v8.toNat, 0, 1024]
def k0_off273 (d0 : Dev nD) : Fin 4 → Nat :=
  let c0_i32_1815 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1819 : BitVec 32 := 0#32
  let c1536_i32_1820 : BitVec 32 := 1536#32
  ![0, v8.toNat, 0, 1536]
def k0_off274 (d0 : Dev nD) : Fin 4 → Nat :=
  let c1_i32_1833 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1837 : BitVec 32 := 0#32
  let c1536_i32_1838 : BitVec 32 := 1536#32
  ![1, v8.toNat, 0, 1536]
def k0_off275 (d0 : Dev nD) : Fin 4 → Nat :=
  let c2_i32_1851 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1855 : BitVec 32 := 0#32
  let c1536_i32_1856 : BitVec 32 := 1536#32
  ![2, v8.toNat, 0, 1536]
def k0_off276 (d0 : Dev nD) : Fin 4 → Nat :=
  let c3_i32_1869 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1873 : BitVec 32 := 0#32
  let c1536_i32_1874 : BitVec 32 := 1536#32
  ![3, v8.toNat, 0, 1536]
def k0_off277 (d0 : Dev nD) : Fin 4 → Nat :=
  let c0_i32_1887 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1890 : BitVec 32 := 0#32
  let c2048_i32_1891 : BitVec 32 := 2048#32
  ![0, v8.toNat, 0, 2048]
def k0_off278 (d0 : Dev nD) : Fin 4 → Nat :=
  let c1_i32_1904 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1907 : BitVec 32 := 0#32
  let c2048_i32_1908 : BitVec 32 := 2048#32
  ![1, v8.toNat, 0, 2048]
def k0_off279 (d0 : Dev nD) : Fin 4 → Nat :=
  let c2_i32_1921 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1924 : BitVec 32 := 0#32
  let c2048_i32_1925 : BitVec 32 := 2048#32
  ![2, v8.toNat, 0, 2048]
def k0_off280 (d0 : Dev nD) : Fin 4 → Nat :=
  let c3_i32_1938 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1941 : BitVec 32 := 0#32
  let c2048_i32_1942 : BitVec 32 := 2048#32
  ![3, v8.toNat, 0, 2048]
def k0_off281 (d0 : Dev nD) : Fin 4 → Nat :=
  let c0_i32_1955 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1958 : BitVec 32 := 0#32
  let c2560_i32_1959 : BitVec 32 := 2560#32
  ![0, v8.toNat, 0, 2560]
def k0_off282 (d0 : Dev nD) : Fin 4 → Nat :=
  let c1_i32_1972 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1975 : BitVec 32 := 0#32
  let c2560_i32_1976 : BitVec 32 := 2560#32
  ![1, v8.toNat, 0, 2560]
def k0_off283 (d0 : Dev nD) : Fin 4 → Nat :=
  let c2_i32_1989 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1992 : BitVec 32 := 0#32
  let c2560_i32_1993 : BitVec 32 := 2560#32
  ![2, v8.toNat, 0, 2560]
def k0_off284 (d0 : Dev nD) : Fin 4 → Nat :=
  let c3_i32_2006 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2009 : BitVec 32 := 0#32
  let c2560_i32_2010 : BitVec 32 := 2560#32
  ![3, v8.toNat, 0, 2560]
def k0_off285 (d0 : Dev nD) : Fin 4 → Nat :=
  let c0_i32_2023 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2026 : BitVec 32 := 0#32
  let c3072_i32_2027 : BitVec 32 := 3072#32
  ![0, v8.toNat, 0, 3072]
def k0_off286 (d0 : Dev nD) : Fin 4 → Nat :=
  let c1_i32_2040 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2043 : BitVec 32 := 0#32
  let c3072_i32_2044 : BitVec 32 := 3072#32
  ![1, v8.toNat, 0, 3072]
def k0_off287 (d0 : Dev nD) : Fin 4 → Nat :=
  let c2_i32_2057 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2060 : BitVec 32 := 0#32
  let c3072_i32_2061 : BitVec 32 := 3072#32
  ![2, v8.toNat, 0, 3072]
def k0_off288 (d0 : Dev nD) : Fin 4 → Nat :=
  let c3_i32_2074 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2077 : BitVec 32 := 0#32
  let c3072_i32_2078 : BitVec 32 := 3072#32
  ![3, v8.toNat, 0, 3072]
def k0_off289 (d0 : Dev nD) : Fin 4 → Nat :=
  let c0_i32_2091 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2094 : BitVec 32 := 0#32
  let c3584_i32_2095 : BitVec 32 := 3584#32
  ![0, v8.toNat, 0, 3584]
def k0_off290 (d0 : Dev nD) : Fin 4 → Nat :=
  let c1_i32_2108 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2111 : BitVec 32 := 0#32
  let c3584_i32_2112 : BitVec 32 := 3584#32
  ![1, v8.toNat, 0, 3584]
def k0_off291 (d0 : Dev nD) : Fin 4 → Nat :=
  let c2_i32_2125 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2128 : BitVec 32 := 0#32
  let c3584_i32_2129 : BitVec 32 := 3584#32
  ![2, v8.toNat, 0, 3584]
def k0_off292 (d0 : Dev nD) : Fin 4 → Nat :=
  let c3_i32_2142 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_2145 : BitVec 32 := 0#32
  let c3584_i32_2146 : BitVec 32 := 3584#32
  ![3, v8.toNat, 0, 3584]
def k0_cond132 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 1 := Scalar.cmpi .eq v5 v2
  let true_1596 : BitVec 1 := 1#1
  let v1419 : BitVec 1 := Scalar.xori v12 true_1596
  let v1420 : BitVec 32 := Scalar.extui v1419
  let c0_i32_1597 : BitVec 32 := 0#32
  let v1421 : BitVec 1 := Scalar.cmpi .ne v1420 c0_i32_1597
  v1421

def k0_off293 (d0 : Dev nD) : Fin 4 → Nat :=
  let c2_i32_1598 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1604 : BitVec 32 := 0#32
  let c3584_i32_1605 : BitVec 32 := 3584#32
  ![2, v8.toNat, 0, 3584]
def k0_off294 (d0 : Dev nD) : Fin 4 → Nat :=
  let c3_i32_1606 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1612 : BitVec 32 := 0#32
  let c3584_i32_1613 : BitVec 32 := 3584#32
  ![3, v8.toNat, 0, 3584]
def k0_off295 (d0 : Dev nD) : Fin 4 → Nat :=
  let c0_i32_1615 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1619 : BitVec 32 := 0#32
  let c0_i32_1620 : BitVec 32 := 0#32
  ![0, v8.toNat, 0, 0]
def k0_off296 (d0 : Dev nD) : Fin 4 → Nat :=
  let c1_i32_1624 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1628 : BitVec 32 := 0#32
  let c0_i32_1629 : BitVec 32 := 0#32
  ![1, v8.toNat, 0, 0]
def k0_off297 (d0 : Dev nD) : Fin 4 → Nat :=
  let c2_i32_1633 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1637 : BitVec 32 := 0#32
  let c0_i32_1638 : BitVec 32 := 0#32
  ![2, v8.toNat, 0, 0]
def k0_off298 (d0 : Dev nD) : Fin 4 → Nat :=
  let c3_i32_1642 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1646 : BitVec 32 := 0#32
  let c0_i32_1647 : BitVec 32 := 0#32
  ![3, v8.toNat, 0, 0]
def k0_off299 (d0 : Dev nD) : Fin 4 → Nat :=
  let c0_i32_1651 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1655 : BitVec 32 := 0#32
  let c512_i32_1656 : BitVec 32 := 512#32
  ![0, v8.toNat, 0, 512]
def k0_off300 (d0 : Dev nD) : Fin 4 → Nat :=
  let c1_i32_1660 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1664 : BitVec 32 := 0#32
  let c512_i32_1665 : BitVec 32 := 512#32
  ![1, v8.toNat, 0, 512]
def k0_off301 (d0 : Dev nD) : Fin 4 → Nat :=
  let c2_i32_1669 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1673 : BitVec 32 := 0#32
  let c512_i32_1674 : BitVec 32 := 512#32
  ![2, v8.toNat, 0, 512]
def k0_off302 (d0 : Dev nD) : Fin 4 → Nat :=
  let c3_i32_1678 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1682 : BitVec 32 := 0#32
  let c512_i32_1683 : BitVec 32 := 512#32
  ![3, v8.toNat, 0, 512]
def k0_off303 (d0 : Dev nD) : Fin 4 → Nat :=
  let c0_i32_1687 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1691 : BitVec 32 := 0#32
  let c1024_i32_1692 : BitVec 32 := 1024#32
  ![0, v8.toNat, 0, 1024]
def k0_off304 (d0 : Dev nD) : Fin 4 → Nat :=
  let c1_i32_1696 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1700 : BitVec 32 := 0#32
  let c1024_i32_1701 : BitVec 32 := 1024#32
  ![1, v8.toNat, 0, 1024]
def k0_off305 (d0 : Dev nD) : Fin 4 → Nat :=
  let c2_i32_1705 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1709 : BitVec 32 := 0#32
  let c1024_i32_1710 : BitVec 32 := 1024#32
  ![2, v8.toNat, 0, 1024]
def k0_off306 (d0 : Dev nD) : Fin 4 → Nat :=
  let c3_i32_1714 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1718 : BitVec 32 := 0#32
  let c1024_i32_1719 : BitVec 32 := 1024#32
  ![3, v8.toNat, 0, 1024]
def k0_off307 (d0 : Dev nD) : Fin 4 → Nat :=
  let c0_i32_1723 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1727 : BitVec 32 := 0#32
  let c1536_i32_1728 : BitVec 32 := 1536#32
  ![0, v8.toNat, 0, 1536]
def k0_off308 (d0 : Dev nD) : Fin 4 → Nat :=
  let c1_i32_1732 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1736 : BitVec 32 := 0#32
  let c1536_i32_1737 : BitVec 32 := 1536#32
  ![1, v8.toNat, 0, 1536]
def k0_off309 (d0 : Dev nD) : Fin 4 → Nat :=
  let c2_i32_1741 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1745 : BitVec 32 := 0#32
  let c1536_i32_1746 : BitVec 32 := 1536#32
  ![2, v8.toNat, 0, 1536]
def k0_off310 (d0 : Dev nD) : Fin 4 → Nat :=
  let c3_i32_1750 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1754 : BitVec 32 := 0#32
  let c1536_i32_1755 : BitVec 32 := 1536#32
  ![3, v8.toNat, 0, 1536]
def k0_off311 (d0 : Dev nD) : Fin 4 → Nat :=
  let c0_i32_1759 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1762 : BitVec 32 := 0#32
  let c2048_i32_1763 : BitVec 32 := 2048#32
  ![0, v8.toNat, 0, 2048]
def k0_off312 (d0 : Dev nD) : Fin 4 → Nat :=
  let c1_i32_1767 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1770 : BitVec 32 := 0#32
  let c2048_i32_1771 : BitVec 32 := 2048#32
  ![1, v8.toNat, 0, 2048]
def k0_off313 (d0 : Dev nD) : Fin 4 → Nat :=
  let c2_i32_1775 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1778 : BitVec 32 := 0#32
  let c2048_i32_1779 : BitVec 32 := 2048#32
  ![2, v8.toNat, 0, 2048]
def k0_off314 (d0 : Dev nD) : Fin 4 → Nat :=
  let c3_i32_1783 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1786 : BitVec 32 := 0#32
  let c2048_i32_1787 : BitVec 32 := 2048#32
  ![3, v8.toNat, 0, 2048]
def k0_off315 (d0 : Dev nD) : Fin 4 → Nat :=
  let c0_i32_1791 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1794 : BitVec 32 := 0#32
  let c2560_i32_1795 : BitVec 32 := 2560#32
  ![0, v8.toNat, 0, 2560]
def k0_off316 (d0 : Dev nD) : Fin 4 → Nat :=
  let c1_i32_1799 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1802 : BitVec 32 := 0#32
  let c2560_i32_1803 : BitVec 32 := 2560#32
  ![1, v8.toNat, 0, 2560]
def k0_off317 (d0 : Dev nD) : Fin 4 → Nat :=
  let c2_i32_1807 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1810 : BitVec 32 := 0#32
  let c2560_i32_1811 : BitVec 32 := 2560#32
  ![2, v8.toNat, 0, 2560]
def k0_off318 (d0 : Dev nD) : Fin 4 → Nat :=
  let c3_i32_1815 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1818 : BitVec 32 := 0#32
  let c2560_i32_1819 : BitVec 32 := 2560#32
  ![3, v8.toNat, 0, 2560]
def k0_off319 (d0 : Dev nD) : Fin 4 → Nat :=
  let c0_i32_1823 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1826 : BitVec 32 := 0#32
  let c3072_i32_1827 : BitVec 32 := 3072#32
  ![0, v8.toNat, 0, 3072]
def k0_off320 (d0 : Dev nD) : Fin 4 → Nat :=
  let c1_i32_1831 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1834 : BitVec 32 := 0#32
  let c3072_i32_1835 : BitVec 32 := 3072#32
  ![1, v8.toNat, 0, 3072]
def k0_off321 (d0 : Dev nD) : Fin 4 → Nat :=
  let c2_i32_1839 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1842 : BitVec 32 := 0#32
  let c3072_i32_1843 : BitVec 32 := 3072#32
  ![2, v8.toNat, 0, 3072]
def k0_off322 (d0 : Dev nD) : Fin 4 → Nat :=
  let c3_i32_1847 : BitVec 32 := 3#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1850 : BitVec 32 := 0#32
  let c3072_i32_1851 : BitVec 32 := 3072#32
  ![3, v8.toNat, 0, 3072]
def k0_off323 (d0 : Dev nD) : Fin 4 → Nat :=
  let c0_i32_1855 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1858 : BitVec 32 := 0#32
  let c3584_i32_1859 : BitVec 32 := 3584#32
  ![0, v8.toNat, 0, 3584]
def k0_off324 (d0 : Dev nD) : Fin 4 → Nat :=
  let c1_i32_1863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_1866 : BitVec 32 := 0#32
  let c3584_i32_1867 : BitVec 32 := 3584#32
  ![1, v8.toNat, 0, 3584]
def k0_dev132 (d0 : Dev nD) : Nat :=
  let c0_i32_1600_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1599_r0 : BitVec 32 := 4#32
  let v1423_r0 : BitVec 32 := Scalar.muli v2 c4_i32_1599_r0
  let v1424_r0 : BitVec 32 := Scalar.addi c0_i32_1600_r0 v1423_r0
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1601_r0 : BitVec 32 := 2#32
  let v1425_r0 : BitVec 32 := Scalar.muli v9 c2_i32_1601_r0
  let v1426_r0 : BitVec 32 := Scalar.addi v1424_r0 v1425_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1602_r0 : BitVec 32 := 1#32
  let v1427_r0 : BitVec 32 := Scalar.muli v8 c1_i32_1602_r0
  let v1428_r0 : BitVec 32 := Scalar.addi v1426_r0 v1427_r0
  v1428_r0.toNat
def k0_dev133 (d0 : Dev nD) : Nat :=
  let c0_i32_1605_r0 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1604_r0 : BitVec 32 := 4#32
  let v1429_r0 : BitVec 32 := Scalar.muli v10 c4_i32_1604_r0
  let v1430_r0 : BitVec 32 := Scalar.addi c0_i32_1605_r0 v1429_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1606_r0 : BitVec 32 := 2#32
  let v1431_r0 : BitVec 32 := Scalar.muli v5 c2_i32_1606_r0
  let v1432_r0 : BitVec 32 := Scalar.addi v1430_r0 v1431_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1607_r0 : BitVec 32 := 1#32
  let v1433_r0 : BitVec 32 := Scalar.muli v8 c1_i32_1607_r0
  let v1434_r0 : BitVec 32 := Scalar.addi v1432_r0 v1433_r0
  v1434_r0.toNat
def k0_dev134 (d0 : Dev nD) : Nat :=
  let c0_i32_1610_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1609_r0 : BitVec 32 := 4#32
  let v1435_r0 : BitVec 32 := Scalar.muli v2 c4_i32_1609_r0
  let v1436_r0 : BitVec 32 := Scalar.addi c0_i32_1610_r0 v1435_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1611_r0 : BitVec 32 := 2#32
  let v1437_r0 : BitVec 32 := Scalar.muli v5 c2_i32_1611_r0
  let v1438_r0 : BitVec 32 := Scalar.addi v1436_r0 v1437_r0
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1612_r0 : BitVec 32 := 1#32
  let v1439_r0 : BitVec 32 := Scalar.muli v11 c1_i32_1612_r0
  let v1440_r0 : BitVec 32 := Scalar.addi v1438_r0 v1439_r0
  v1440_r0.toNat
abbrev stage0_0 : Fin 1 → Memref sig .tc .vmem S4x2x256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩
abbrev S4x4x256x4096 : Shape := ⟨4, ![4, 4, 256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | .hbm, ⟨4, _⟩ => ⟨S4x4x256x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Geom.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.ValueLayout
public import Idealize.ShloMosaic.Lib.Tactic

@[expose] public section

noncomputable section

namespace Cert.KernelIdeal.Proj

open Cert.KernelIdeal Cert.KernelIdeal.Gen
open Idealize.ShloMosaic Idealize.ShloMosaic.TcCoe Idealize.ShloMosaic.ValueIdx

/-! # The mesh neighbours and the windows of the kernel's buffers -/

/-- Device `c` has coordinates `x = c / 4`, `y = c / 2 % 2`, `z = c % 2`; neighbour 0 is across `y`,
    neighbour 1 across `x`, neighbour 2 across `z`. -/
def nbr0 (c : Dev nD) : Dev nD := ⟨(4 * (c.val / 4) + (c.val % 2) + 2) - 2 * ((c.val / 2) % 2), by have := c.isLt; change c.val < 8 at this; change _ < 8; omega⟩
def nbr1 (c : Dev nD) : Dev nD := ⟨(2 * ((c.val / 2) % 2) + (c.val % 2) + 4) - 4 * (c.val / 4), by have := c.isLt; change c.val < 8 at this; change _ < 8; omega⟩
def nbr2 (c : Dev nD) : Dev nD := ⟨(4 * (c.val / 4) + 2 * ((c.val / 2) % 2) + 1) - (c.val % 2), by have := c.isLt; change c.val < 8 at this; change _ < 8; omega⟩

/-- A device is a holder when its `x` and `y` coordinates agree: it adds the two halves of the product. -/
def holder (c : Dev nD) : Bool := c.val / 4 == c.val / 2 % 2

/-- The `z` coordinate, and the other one. -/
def zc (c : Dev nD) : Fin 2 := ⟨c.val % 2, Nat.mod_lt _ (by decide)⟩
def zo (c : Dev nD) : Fin 2 := ⟨1 - c.val % 2, by omega⟩

theorem nbr0_nbr0 (c : Dev nD) : nbr0 (nbr0 c) = c := by revert c; decide
theorem nbr1_nbr1 (c : Dev nD) : nbr1 (nbr1 c) = c := by revert c; decide
theorem nbr2_nbr2 (c : Dev nD) : nbr2 (nbr2 c) = c := by revert c; decide
theorem nbr1_nbr2 (c : Dev nD) : nbr1 (nbr2 c) = nbr2 (nbr1 c) := by revert c; decide
theorem holder_nbr0 (c : Dev nD) : holder (nbr0 c) = !holder c := by revert c; decide
theorem holder_nbr1 (c : Dev nD) : holder (nbr1 c) = !holder c := by revert c; decide
theorem holder_nbr2 (c : Dev nD) : holder (nbr2 c) = holder c := by revert c; decide
theorem zc_nbr0 (c : Dev nD) : zc (nbr0 c) = zc c := by revert c; decide
theorem zc_nbr1 (c : Dev nD) : zc (nbr1 c) = zc c := by revert c; decide
theorem zc_nbr2 (c : Dev nD) : zc (nbr2 c) = zo c := by revert c; decide
theorem zo_nbr2 (c : Dev nD) : zo (nbr2 c) = zc c := by revert c; decide

/-- The first row of device `c`'s block of the left operand. -/
def base (c : Dev nD) : ℕ := 512 * (c.val / 4) + 256 * (c.val % 2)
theorem base_le (c : Dev nD) : base c + 256 ≤ 1024 := by revert c; decide

abbrev oM : Memref sig .tc .vmem S4x2x256x4096 .f32 := Memref.whole cc0_stg0_0
abbrev woM : Memref sig .tc .vmem S2x2048x512 .f32 := Memref.whole cc0_scratch0
abbrev a3M : Memref sig .tc .vmem S2x256x16x128 .f32 := Memref.whole cc0_scratch1
abbrev aM : Memref sig .tc .vmem S4x256x2048 .f32 := Memref.whole cc0_scratch2
abbrev sM : Memref sig .tc .vmem S2x256x512 .f32 := Memref.whole cc0_scratch3
abbrev xM : Memref sig .tc .hbm S4x1024x16x128 .f32 := Memref.whole main_arg0
abbrev wM : Memref sig .tc .hbm S2048x4096 .f32 := Memref.whole main_arg1

/-- The elements of a box of a shape: at each axis from `off` on, `size` of them. -/
def boxSet (s : Shape) (off size : Fin s.rank → ℕ) : Finset s.Idx :=
  Finset.univ.filter fun i => ∀ a, off a ≤ (i a).val ∧ (i a).val < off a + size a

theorem mem_boxSet {s : Shape} {off size : Fin s.rank → ℕ} {i : s.Idx} :
    i ∈ boxSet s off size ↔ ∀ a, off a ≤ (i a).val ∧ (i a).val < off a + size a := by
  unfold boxSet; rw [Finset.mem_filter]; exact ⟨fun h => h.2, fun h => ⟨Finset.mem_univ _, h⟩⟩

theorem unit_set (s : Shape) (off size : Fin s.rank → ℕ) (inb) : (Rect.unit (s := s) off size inb).set = boxSet s off size := by
  ext i; rw [Rect.mem_set_unit, mem_boxSet]

theorem boxSet_disjoint {s : Shape} {off off' size size' : Fin s.rank → ℕ} (a : Fin s.rank)
    (h : off a + size a ≤ off' a ∨ off' a + size' a ≤ off a) : Disjoint (boxSet s off size) (boxSet s off' size') := by
  rw [Finset.disjoint_left]; intro i h1 h2
  have h1 := mem_boxSet.mp h1 a
  have h2 := mem_boxSet.mp h2 a
  omega

/-- A box cut along an axis into `n` boxes of `w`. -/
theorem box_split {s : Shape} {off size size' : Fin s.rank → ℕ} {off' : ℕ → Fin s.rank → ℕ} (a : Fin s.rank) (w n : ℕ) (hw : 0 < w)
    (hn : size a = w * n) (hs : size' a = w) (ho : ∀ t, off' t a = off a + w * t)
    (hr : ∀ x, x ≠ a → size' x = size x ∧ ∀ t, off' t x = off x) :
    boxSet s off size = (Finset.range n).biUnion fun t => boxSet s (off' t) size' := by
  ext i
  rw [Finset.mem_biUnion, mem_boxSet]
  constructor
  · intro h
    have ha := h a
    have hd : w * (((i a).val - off a) / w) ≤ (i a).val - off a := Nat.mul_div_le _ _
    have hd' : (i a).val - off a < w * (((i a).val - off a) / w) + w := Nat.lt_mul_div_succ _ hw
    refine ⟨((i a).val - off a) / w, Finset.mem_range.mpr (Nat.div_lt_of_lt_mul (by omega)), mem_boxSet.mpr fun x => ?_⟩
    by_cases hx : x = a
    · subst hx; rw [ho, hs]; omega
    · rw [(hr x hx).1, (hr x hx).2]; exact h x
  · rintro ⟨t, ht, h⟩ x
    have h := mem_boxSet.mp h
    have ht := Finset.mem_range.mp ht
    by_cases hx : x = a
    · subst hx
      have hx := h x
      rw [ho, hs] at hx
      have : w * t + w ≤ w * n := by
        calc w * t + w = w * (t + 1) := (Nat.mul_succ _ _).symm
          _ ≤ w * n := Nat.mul_le_mul_left _ ht
      omega
    · have := h x; rw [(hr x hx).1, (hr x hx).2] at this; exact this
theorem box_split_disjoint {s : Shape} {size' : Fin s.rank → ℕ} {off' : ℕ → Fin s.rank → ℕ} {o : ℕ} (a : Fin s.rank) (w : ℕ)
    (hs : size' a = w) (ho : ∀ t, off' t a = o + w * t) {t t' : ℕ} (h : t ≠ t') : Disjoint (boxSet s (off' t) size') (boxSet s (off' t') size') := by
  refine boxSet_disjoint a ?_
  rw [ho, ho, hs]
  rcases Nat.lt_or_gt_of_ne h with h | h
  · have : w * t + w ≤ w * t' := by
      calc w * t + w = w * (t + 1) := (Nat.mul_succ _ _).symm
        _ ≤ w * t' := Nat.mul_le_mul_left _ h
    omega
  · have : w * t' + w ≤ w * t := by
      calc w * t' + w = w * (t' + 1) := (Nat.mul_succ _ _).symm
        _ ≤ w * t := Nat.mul_le_mul_left _ h
    omega

/-- The view of a squeezed box of a whole buffer has the box's elements. -/
theorem squeeze_set (b : Ref sig .tc) (s' : Shape) (off size : Fin b.ty.shape.rank → ℕ)
    (inb : ∀ a, off a + size a ≤ b.ty.shape.size a) (hsq) :
    (((Memref.whole b).slice (Rect.unit (s := b.ty.shape) off size inb) (fun _ => rfl)).squeeze s' hsq).view.set = boxSet b.ty.shape off size := by
  rw [Memref.set_view_squeeze]
  exact (View.set_slice_whole _ _).trans (unit_set _ _ _ _)
theorem slice_set (b : Ref sig .tc) (off size : Fin b.ty.shape.rank → ℕ)
    (inb : ∀ a, off a + size a ≤ b.ty.shape.size a) :
    ((Memref.whole b).slice (Rect.unit (s := b.ty.shape) off size inb) (fun _ => rfl)).view.set = boxSet b.ty.shape off size :=
  (View.set_slice_whole _ _).trans (unit_set _ _ _ _)
theorem access_set (b : Ref sig .tc) (off size : Fin b.ty.shape.rank → ℕ)
    (inb : ∀ a, off a + size a ≤ b.ty.shape.size a) :
    ((Memref.whole b).access (Rect.unit (s := b.ty.shape) off size inb)).set = boxSet b.ty.shape off size :=
  (View.set_slice_whole _ _).trans (unit_set _ _ _ _)
theorem setOn_whole (b : Ref sig .tc) (off size : Fin b.ty.shape.rank → ℕ)
    (inb : ∀ a, off a + size a ≤ b.ty.shape.size a) :
    (Memref.whole b).view.setOn (Rect.unit (s := b.ty.shape) off size inb).toLoadRect.set = boxSet b.ty.shape off size := by
  rw [← unit_set _ _ _ inb]
  ext i
  simp [View.setOn]

/-- An index `(x, y)` matched with shape `[1, a, 1, b]` is `(0, x, 0, y)`. -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-! ## The squeezed windows of the buffers, at any offsets -/

abbrev oV (o : Fin 4 → ℕ) (h : ∀ a, o a + S1x1x256x512.size a ≤ S4x2x256x4096.size a) : Memref sig .tc .vmem S256x512 .f32 :=
  (oM.slice (Rect.unit (s := S4x2x256x4096) o S1x1x256x512.size h) (fun _ => rfl)).squeeze S256x512 squeezes_S1x1x256x512_S256x512
abbrev woV (o : Fin 3 → ℕ) (h : ∀ a, o a + S1x2048x512.size a ≤ S2x2048x512.size a) : Memref sig .tc .vmem S2048x512 .f32 :=
  (woM.slice (Rect.unit (s := S2x2048x512) o S1x2048x512.size h) (fun _ => rfl)).squeeze S2048x512 squeezes_S1x2048x512_S2048x512
abbrev wV (o : Fin 2 → ℕ) (h : ∀ a, o a + S2048x512.size a ≤ S2048x4096.size a) : Memref sig .tc .hbm S2048x512 .f32 :=
  wM.slice (Rect.unit (s := S2048x4096) o S2048x512.size h) (fun _ => rfl)
abbrev a3V (o : Fin 4 → ℕ) (h : ∀ a, o a + S1x256x16x128.size a ≤ S2x256x16x128.size a) : Memref sig .tc .vmem S256x16x128 .f32 :=
  (a3M.slice (Rect.unit (s := S2x256x16x128) o S1x256x16x128.size h) (fun _ => rfl)).squeeze S256x16x128 squeezes_S1x256x16x128_S256x16x128
abbrev xV (o : Fin 4 → ℕ) (h : ∀ a, o a + S1x256x16x128.size a ≤ S4x1024x16x128.size a) : Memref sig .tc .hbm S256x16x128 .f32 :=
  (xM.slice (Rect.unit (s := S4x1024x16x128) o S1x256x16x128.size h) (fun _ => rfl)).squeeze S256x16x128 squeezes_S1x256x16x128_S256x16x128
abbrev aV (o : Fin 3 → ℕ) (h : ∀ a, o a + S1x256x128.size a ≤ S4x256x2048.size a) : Memref sig .tc .vmem S256x128 .f32 :=
  (aM.slice (Rect.unit (s := S4x256x2048) o S1x256x128.size h) (fun _ => rfl)).squeeze S256x128 squeezes_S1x256x128_S256x128
abbrev hV (o : Fin 4 → ℕ) (h : ∀ a, o a + S1x256x1x128.size a ≤ S2x256x16x128.size a) : Memref sig .tc .vmem S256x128 .f32 :=
  (a3M.slice (Rect.unit (s := S2x256x16x128) o S1x256x1x128.size h) (fun _ => rfl)).squeeze S256x128 squeezes_S1x256x1x128_S256x128
abbrev sV (o : Fin 3 → ℕ) (h : ∀ a, o a + S1x256x512.size a ≤ S2x256x512.size a) : Memref sig .tc .vmem S256x512 .f32 :=
  (sM.slice (Rect.unit (s := S2x256x512) o S1x256x512.size h) (fun _ => rfl)).squeeze S256x512 squeezes_S1x256x512_S256x512

theorem oV_emb (o h) (x : Fin 256) (y : Fin 512) : (oV o h).view.emb (ix2 x y)
    = (Rect.unit (s := S4x2x256x4096) o S1x1x256x512.size h).emb (ix4 (⟨0, Nat.one_pos⟩ : Fin 1) (⟨0, Nat.one_pos⟩ : Fin 1) x y) :=
  congrArg (Rect.unit (s := S4x2x256x4096) o S1x1x256x512.size h).emb (reshapeEquiv_ix2_11ab _ x y)
theorem woV_emb (o h) (x : Fin 2048) (y : Fin 512) : (woV o h).view.emb (ix2 x y)
    = (Rect.unit (s := S2x2048x512) o S1x2048x512.size h).emb (ix3 (⟨0, Nat.one_pos⟩ : Fin 1) x y) :=
  congrArg (Rect.unit (s := S2x2048x512) o S1x2048x512.size h).emb (reshapeEquiv_ix2_1ab _ x y)
theorem wV_emb (o h) (j : S2048x512.Idx) : (wV o h).view.emb j = (Rect.unit (s := S2048x4096) o S2048x512.size h).emb j := rfl
theorem a3V_emb (o h) (x : Fin 256) (y : Fin 16) (z : Fin 128) : (a3V o h).view.emb (ix3 x y z)
    = (Rect.unit (s := S2x256x16x128) o S1x256x16x128.size h).emb (ix4 (⟨0, Nat.one_pos⟩ : Fin 1) x y z) :=
  congrArg (Rect.unit (s := S2x256x16x128) o S1x256x16x128.size h).emb (reshapeEquiv_ix3_1abc _ x y z)
theorem xV_emb (o h) (x : Fin 256) (y : Fin 16) (z : Fin 128) : (xV o h).view.emb (ix3 x y z)
    = (Rect.unit (s := S4x1024x16x128) o S1x256x16x128.size h).emb (ix4 (⟨0, Nat.one_pos⟩ : Fin 1) x y z) :=
  congrArg (Rect.unit (s := S4x1024x16x128) o S1x256x16x128.size h).emb (reshapeEquiv_ix3_1abc _ x y z)
theorem aV_emb (o h) (x : Fin 256) (y : Fin 128) : (aV o h).view.emb (ix2 x y)
    = (Rect.unit (s := S4x256x2048) o S1x256x128.size h).emb (ix3 (⟨0, Nat.one_pos⟩ : Fin 1) x y) :=
  congrArg (Rect.unit (s := S4x256x2048) o S1x256x128.size h).emb (reshapeEquiv_ix2_1ab _ x y)
theorem hV_emb (o h) (x : Fin 256) (y : Fin 128) : (hV o h).view.emb (ix2 x y)
    = (Rect.unit (s := S2x256x16x128) o S1x256x1x128.size h).emb (ix4 (⟨0, Nat.one_pos⟩ : Fin 1) x (⟨0, Nat.one_pos⟩ : Fin 1) y) :=
  congrArg (Rect.unit (s := S2x256x16x128) o S1x256x1x128.size h).emb (reshapeEquiv_ix2_1a1b _ x y)
theorem sV_emb (o h) (x : Fin 256) (y : Fin 512) : (sV o h).view.emb (ix2 x y)
    = (Rect.unit (s := S2x256x512) o S1x256x512.size h).emb (ix3 (⟨0, Nat.one_pos⟩ : Fin 1) x y) :=
  congrArg (Rect.unit (s := S2x256x512) o S1x256x512.size h).emb (reshapeEquiv_ix2_1ab _ x y)

/-- The coordinate of an embedded index of a unit-stride box. -/
theorem unit_emb_val {s : Shape} (off size : Fin s.rank → ℕ) (inb) (j : (Rect.unit (s := s) off size inb).shape.Idx) (a : Fin s.rank) :
    ((Rect.unit (s := s) off size inb).emb j a).val = off a + (j a).val := by simp

end Cert.KernelIdeal.Proj
-- ==== Proof.Content.lean ====
module

public import proofs.«01_k».proof.Proof.Geom

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # What the buffers hold -/

variable (m : (ℓ : Loc nD τ sig) → Buf (Elt F) ℓ)

/-- Device `c`'s two arguments. -/
def xA (c : Dev nD) : S4x1024x16x128.Idx → F .f32 := m ((c : Thread nD τ).loc main_arg0)
def wA (c : Dev nD) : S2048x4096.Idx → F .f32 := m ((c : Thread nD τ).loc main_arg1)

/-- The landing buffer of batch `b`'s rows: the device's 256 rows of the batch, heads apart. -/
def a3Buf (c : Dev nD) (b : ℕ) : S2x256x16x128.Idx → F .f32 := fun i =>
  xA m c (ix4 (⟨b % 4, Nat.mod_lt _ (by decide)⟩ : Fin 4)
    (⟨base c + (i 1).val, by have := base_le c; have h : (i 1).val < 256 := (i 1).isLt; omega⟩ : Fin 1024) (i 2 : Fin 16) (i 3 : Fin 128))

/-- The left operand's buffer: the rows of every batch, heads laid side by side. -/
def aBuf (c : Dev nD) : S4x256x2048.Idx → F .f32 := fun i =>
  xA m c (ix4 (i 0 : Fin 4)
    (⟨base c + (i 1).val, by have := base_le c; have h : (i 1).val < 256 := (i 1).isLt; omega⟩ : Fin 1024)
    (⟨(i 2).val / 128, by have h : (i 2).val < 2048 := (i 2).isLt; omega⟩ : Fin 16) (⟨(i 2).val % 128, Nat.mod_lt _ (by decide)⟩ : Fin 128))

/-- The right operand's buffer while it holds the columns of chunk `ch`. -/
def woBuf (c : Dev nD) (ch : ℕ) : S2x2048x512.Idx → F .f32 := fun i =>
  wA m c (ix2 (i 1 : Fin 2048) (⟨512 * (ch % 8) + (i 2).val, by have h : (i 2).val < 512 := (i 2).isLt; omega⟩ : Fin 4096))

theorem aRow_inb (b : ℕ) : ∀ a, (![b % 4, 0, 0] : Fin 3 → ℕ) a + S1x256x2048.size a ≤ S4x256x2048.size a := by
  intro a; fin_cases a
  · show b % 4 + 1 ≤ 4; omega
  · exact le_refl 256
  · exact le_refl 2048
theorem woSl_inb (p : ℕ) : ∀ a, (![p % 2, 0, 0] : Fin 3 → ℕ) a + S1x2048x512.size a ≤ S2x2048x512.size a := by
  intro a; fin_cases a
  · show p % 2 + 1 ≤ 2; omega
  · exact le_refl 2048
  · exact le_refl 512

/-- The device's partial product of block `k`: batch `k % 4`'s rows by chunk `k / 4`'s columns. -/
def V (c : Dev nD) (k : ℕ) : S256x512.Idx → F .f32 :=
  k0_pay63 (aM.view.readAt (Elt F) (Rect.unit (s := S4x256x2048) ![k % 4 % 4, 0, 0] S1x256x2048.size (aRow_inb (k % 4))).toLoadRect (aBuf m c))
    (woM.view.readAt (Elt F) (Rect.unit (s := S2x2048x512) ![k / 4 % 2, 0, 0] S1x2048x512.size (woSl_inb (k / 4))).toLoadRect (woBuf m c (k / 4)))

/-- The outgoing buffer holding block `k`. -/
def sBuf (c : Dev nD) (k : ℕ) : S2x256x512.Idx → F .f32 := fun i => V m c k (ix2 (i 1 : Fin 256) (i 2 : Fin 512))

/-- The block an element of the result lies in. -/
def blkOf (i : S4x2x256x4096.Idx) : ℕ := 4 * ((i 3).val / 512) + (i 0).val
def inBlk (i : S4x2x256x4096.Idx) : S256x512.Idx := ix2 (i 2 : Fin 256) (⟨(i 3).val % 512, Nat.mod_lt _ (by decide)⟩ : Fin 512)

/-- Partial products laid out as the result. -/
def pBuf (c : Dev nD) : S4x2x256x4096.Idx → F .f32 := fun i => V m c (blkOf i) (inBlk i)

/-- The half of an element of the result, and the holder device whose rows are half `q` of device `c`'s result. -/
def half (i : S4x2x256x4096.Idx) : Fin 2 := i 1
def hol (c : Dev nD) (q : Fin 2) : Dev nD := ⟨6 * (c.val / 2 % 2) + q.val, by have := q.isLt; change _ < 8; omega⟩

theorem hol_nbr1 (c : Dev nD) (q : Fin 2) : hol (nbr1 c) q = hol c q := by revert c q; decide
theorem hol_nbr2 (c : Dev nD) (q : Fin 2) : hol (nbr2 c) q = hol c q := by revert c q; decide
theorem hol_self (c : Dev nD) (h : holder c = true) : hol c (zc c) = c := by revert c; decide

/-- The result: at half `q` the sum of the two partial products of the holder and its `y` neighbour. -/
def outBuf (c : Dev nD) : S4x2x256x4096.Idx → F .f32 := fun i =>
  addf (F := F) (s := S256x512) (φ := .f32) (V m (nbr0 (hol c (half i))) (blkOf i)) (V m (hol c (half i)) (blkOf i)) (inBlk i)

theorem outBuf_nbr1 (c : Dev nD) : outBuf m (nbr1 c) = outBuf m c := by funext i; unfold outBuf; rw [hol_nbr1]
theorem outBuf_nbr2 (c : Dev nD) : outBuf m (nbr2 c) = outBuf m c := by funext i; unfold outBuf; rw [hol_nbr2]

/-! ## What the transfers and the stores leave -/

/-- A transfer leaves, on the destination's elements, any contents that read there as the source does. -/
theorem dma_eq {sp sp' : Space} {s : Shape} {e : EltTy} (src : Memref sig .tc sp s e) (dst : Memref sig .tc sp' s e)
    (fs : src.view.ty.Contents (Elt F)) (fd G : dst.view.ty.Contents (Elt F))
    (h : ∀ j, dst.view.read (Elt F) G j = src.view.read (Elt F) fs j) :
    ∀ i ∈ dst.view.set, dst.view.write (Elt F) fd (src.view.read (Elt F) fs) Finset.univ i = G i := by
  intro i hi
  obtain ⟨j, -, rfl⟩ := Finset.mem_map.mp hi
  rw [View.write_emb, if_pos (Finset.mem_univ _), ← h j, View.read_apply, cast_cast, cast_eq]

/-- A store through a box leaves, on the box, any contents that read there as what was stored. -/
theorem store_eq {sp : Space} {s : Shape} {e : EltTy} (v : View sig .tc sp s e) (w : s.Idx → Elt F e)
    (f G : v.ty.Contents (Elt F)) (h : ∀ j, v.read (Elt F) G j = w j) :
    ∀ i ∈ v.set, v.write (Elt F) f w Finset.univ i = G i := by
  intro i hi
  obtain ⟨j, -, rfl⟩ := Finset.mem_map.mp hi
  rw [View.write_emb, if_pos (Finset.mem_univ _), ← h j, View.read_apply, cast_cast, cast_eq]

theorem read_wo (c : Dev nD) (ch : ℕ) (hch : ch < 8) (h h') (j : S2048x512.Idx) :
    (woV ![ch % 2, 0, 0] h).view.read (Elt F) (woBuf m c ch) j = (wV ![0, 512 * ch] h').view.read (Elt F) (wA m c) j := by
  obtain ⟨x, y, rfl⟩ : ∃ (x : Fin 2048) (y : Fin 512), j = ix2 x y := ⟨j 0, j 1, eq_ix2 j⟩
  show woBuf m c ch ((woV ![ch % 2, 0, 0] h).view.emb (ix2 x y)) = wA m c ((wV ![0, 512 * ch] h').view.emb (ix2 x y))
  rw [woV_emb, wV_emb]
  unfold woBuf
  congr 1
  funext a
  fin_cases a
  · apply Fin.ext
    show ((Rect.unit (s := S2x2048x512) ![ch % 2, 0, 0] S1x2048x512.size h).emb (ix3 (⟨0, Nat.one_pos⟩ : Fin 1) x y) 1).val = ((Rect.unit (s := S2048x4096) ![0, 512 * ch] S2048x512.size h').emb (ix2 x y) 0).val
    rw [unit_emb_val, unit_emb_val]; rfl
  · apply Fin.ext
    show 512 * (ch % 8) + ((Rect.unit (s := S2x2048x512) ![ch % 2, 0, 0] S1x2048x512.size h).emb (ix3 (⟨0, Nat.one_pos⟩ : Fin 1) x y) 2).val = ((Rect.unit (s := S2048x4096) ![0, 512 * ch] S2048x512.size h').emb (ix2 x y) 1).val
    rw [unit_emb_val, unit_emb_val]
    show 512 * (ch % 8) + (0 + y.val) = 512 * ch + y.val
    omega

theorem read_contig (c : Dev nD) (b p : ℕ) (hb : b < 4) (h h') (j : S256x16x128.Idx) :
    (a3V ![p, 0, 0, 0] h).view.read (Elt F) (a3Buf m c b) j = (xV ![b, base c, 0, 0] h').view.read (Elt F) (xA m c) j := by
  obtain ⟨x, y, z, rfl⟩ : ∃ (x : Fin 256) (y : Fin 16) (z : Fin 128), j = ix3 x y z := ⟨j 0, j 1, j 2, eq_ix3 j⟩
  show a3Buf m c b ((a3V ![p, 0, 0, 0] h).view.emb (ix3 x y z)) = xA m c ((xV ![b, base c, 0, 0] h').view.emb (ix3 x y z))
  rw [a3V_emb, xV_emb]
  unfold a3Buf
  congr 1
  funext a
  apply Fin.ext
  have hv : ∀ a, ((Rect.unit (s := S2x256x16x128) ![p, 0, 0, 0] S1x256x16x128.size h).emb (ix4 (⟨0, Nat.one_pos⟩ : Fin 1) x y z) a).val = _ := fun a => unit_emb_val _ _ _ _ a
  have hw : ∀ a, ((Rect.unit (s := S4x1024x16x128) ![b, base c, 0, 0] S1x256x16x128.size h').emb (ix4 (⟨0, Nat.one_pos⟩ : Fin 1) x y z) a).val = _ := fun a => unit_emb_val _ _ _ _ a
  refine Eq.trans ?_ (hw a).symm
  fin_cases a
  · show b % 4 = b + 0; omega
  · refine (congrArg (base c + ·) (hv 1)).trans ?_
    show base c + (0 + x.val) = base c + x.val; omega
  · exact hv 2
  · exact hv 3

theorem read_head (c : Dev nD) (b p hd : ℕ) (hb : b < 4) (hh : hd < 16) (h h') (j : S256x128.Idx) :
    (aV ![b, 0, 128 * hd] h).view.read (Elt F) (aBuf m c) j = (hV ![p, 0, hd, 0] h').view.read (Elt F) (a3Buf m c b) j := by
  obtain ⟨x, y, rfl⟩ : ∃ (x : Fin 256) (y : Fin 128), j = ix2 x y := ⟨j 0, j 1, eq_ix2 j⟩
  show aBuf m c ((aV ![b, 0, 128 * hd] h).view.emb (ix2 x y)) = a3Buf m c b ((hV ![p, 0, hd, 0] h').view.emb (ix2 x y))
  rw [aV_emb, hV_emb]
  unfold aBuf a3Buf
  congr 1
  funext a
  apply Fin.ext
  have hv : ∀ a, ((Rect.unit (s := S4x256x2048) ![b, 0, 128 * hd] S1x256x128.size h).emb (ix3 (⟨0, Nat.one_pos⟩ : Fin 1) x y) a).val = _ := fun a => unit_emb_val _ _ _ _ a
  have hw : ∀ a, ((Rect.unit (s := S2x256x16x128) ![p, 0, hd, 0] S1x256x1x128.size h').emb (ix4 (⟨0, Nat.one_pos⟩ : Fin 1) x (⟨0, Nat.one_pos⟩ : Fin 1) y) a).val = _ := fun a => unit_emb_val _ _ _ _ a
  have hy := y.isLt
  fin_cases a
  · refine (hv 0).trans ?_
    show b + 0 = b % 4; omega
  · refine (congrArg (base c + ·) (hv 1)).trans (congrArg (base c + ·) (hw 1)).symm
  · refine (congrArg (· / 128) (hv 2)).trans ((?_ : _ = hd + 0).trans (hw 2).symm)
    show (128 * hd + y.val) / 128 = hd + 0; omega
  · refine (congrArg (· % 128) (hv 2)).trans ((?_ : _ = 0 + y.val).trans (hw 3).symm)
    show (128 * hd + y.val) % 128 = 0 + y.val; omega

theorem read_y (c : Dev nD) (q k p : ℕ) (hk : k < 32) (h h') (j : S256x512.Idx) :
    (oV ![k % 4, q, 0, 512 * (k / 4)] h).view.read (Elt F) (pBuf m c) j = (sV ![p, 0, 0] h').view.read (Elt F) (sBuf m c k) j := by
  obtain ⟨x, y, rfl⟩ : ∃ (x : Fin 256) (y : Fin 512), j = ix2 x y := ⟨j 0, j 1, eq_ix2 j⟩
  show pBuf m c ((oV ![k % 4, q, 0, 512 * (k / 4)] h).view.emb (ix2 x y)) = sBuf m c k ((sV ![p, 0, 0] h').view.emb (ix2 x y))
  rw [oV_emb, sV_emb]
  have hv : ∀ a, ((Rect.unit (s := S4x2x256x4096) ![k % 4, q, 0, 512 * (k / 4)] S1x1x256x512.size h).emb (ix4 (⟨0, Nat.one_pos⟩ : Fin 1) (⟨0, Nat.one_pos⟩ : Fin 1) x y) a).val = _ := fun a => unit_emb_val _ _ _ _ a
  have hw : ∀ a, ((Rect.unit (s := S2x256x512) ![p, 0, 0] S1x256x512.size h').emb (ix3 (⟨0, Nat.one_pos⟩ : Fin 1) x y) a).val = _ := fun a => unit_emb_val _ _ _ _ a
  have hy := y.isLt
  have h0 : ((Rect.unit (s := S4x2x256x4096) ![k % 4, q, 0, 512 * (k / 4)] S1x1x256x512.size h).emb (ix4 (⟨0, Nat.one_pos⟩ : Fin 1) (⟨0, Nat.one_pos⟩ : Fin 1) x y) 0).val = k % 4 := hv 0
  have h3 : ((Rect.unit (s := S4x2x256x4096) ![k % 4, q, 0, 512 * (k / 4)] S1x1x256x512.size h).emb (ix4 (⟨0, Nat.one_pos⟩ : Fin 1) (⟨0, Nat.one_pos⟩ : Fin 1) x y) 3).val = 512 * (k / 4) + y.val := hv 3
  have hk' : blkOf ((Rect.unit (s := S4x2x256x4096) ![k % 4, q, 0, 512 * (k / 4)] S1x1x256x512.size h).emb (ix4 (⟨0, Nat.one_pos⟩ : Fin 1) (⟨0, Nat.one_pos⟩ : Fin 1) x y)) = k := by
    unfold blkOf; rw [h0, h3]; omega
  unfold pBuf sBuf
  rw [hk']
  congr 1
  funext a
  apply Fin.ext
  fin_cases a
  · exact (hv 2).trans (hw 1).symm
  · refine (congrArg (· % 512) h3).trans ((?_ : _ = 0 + y.val).trans (hw 2).symm)
    omega

theorem read_send (c : Dev nD) (k p : ℕ) (h) (j : S1x256x512.Idx) :
    (sM.access (Rect.unit (s := S2x256x512) ![p, 0, 0] S1x256x512.size h)).read (Elt F) (sBuf m c k) j = k0_pay3 (F := F) (V m c k) j := by
  have hw : ∀ a, ((Rect.unit (s := S2x256x512) ![p, 0, 0] S1x256x512.size h).emb j a).val = _ := fun a => unit_emb_val _ _ _ _ a
  obtain ⟨x, y, z, rfl⟩ : ∃ (x : Fin 1) (y : Fin 256) (z : Fin 512), j = ix3 x y z := ⟨j 0, j 1, j 2, eq_ix3 j⟩
  refine Eq.trans ?_ (shapeCast_ab_1ab_apply (V m c k) shapeCasts_S256x512_S1x256x512 x y z).symm
  show sBuf m c k ((Rect.unit (s := S2x256x512) ![p, 0, 0] S1x256x512.size h).emb (ix3 x y z)) = V m c k _
  unfold sBuf
  congr 1
  funext a
  apply Fin.ext
  fin_cases a
  · exact (hw 1).trans (Nat.zero_add _)
  · exact (hw 2).trans (Nat.zero_add _)

theorem shapeCast_11ab_apply {α : Type} {a b : ℕ} (x : (⟨4, ![1, 1, a, b]⟩ : Shape).Idx → α)
    (h : (⟨4, ![1, 1, a, b]⟩ : Shape).ShapeCasts ⟨2, ![a, b]⟩) (r : Fin a) (l : Fin b) :
    shapeCast (⟨2, ![a, b]⟩ : Shape) x h (ix2 r l) = x (ix4 (⟨0, Nat.one_pos⟩ : Fin 1) (⟨0, Nat.one_pos⟩ : Fin 1) r l) :=
  shapeCast_apply x h _ _ (by
    rw [Shape.rowMajor_val_four, Shape.rowMajor_val_two]
    show ((0 * 1 + 0) * a + r.val) * b + l.val = r.val * b + l.val
    simp only [Nat.zero_mul, Nat.zero_add])
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (r : Fin a) (l : Fin b) :
    shapeCast (⟨4, ![1, 1, a, b]⟩ : Shape) x h (ix4 u v r l) = x (ix2 r l) :=
  shapeCast_apply x h _ _ (by
    have hu : u.val = 0 := by omega
    have hv : v.val = 0 := by omega
    rw [Shape.rowMajor_val_four, Shape.rowMajor_val_two]
    show r.val * b + l.val = ((u.val * 1 + v.val) * a + r.val) * b + l.val
    simp only [hu, hv, Nat.zero_mul, Nat.zero_add])

theorem read_out (c : Dev nD) (hc : holder c = true) (k : ℕ) (hk : k < 32) (h) (j : S1x1x256x512.Idx) :
    (oM.access (Rect.unit (s := S4x2x256x4096) ![k % 4, c.val % 2, 0, 512 * (k / 4)] S1x1x256x512.size h)).read (Elt F) (outBuf m c) j
      = k0_pay1 (F := F) (V m c k) (oM.view.readAt (Elt F) (Rect.unit (s := S4x2x256x4096) ![k % 4, c.val % 2, 0, 512 * (k / 4)] S1x1x256x512.size h).toLoadRect (pBuf m (nbr0 c))) j := by
  have hw : ∀ a, ((Rect.unit (s := S4x2x256x4096) ![k % 4, c.val % 2, 0, 512 * (k / 4)] S1x1x256x512.size h).emb j a).val = _ := fun a => unit_emb_val _ _ _ _ a
  obtain ⟨u, v, x, y, rfl⟩ : ∃ (u v : Fin 1) (x : Fin 256) (y : Fin 512), j = ix4 u v x y := ⟨j 0, j 1, j 2, j 3, eq_ix4 j⟩
  refine Eq.trans ?_ (shapeCast_ab_11ab_apply (addf (F := F) (s := S256x512) (φ := .f32) (shapeCast S256x512 (oM.view.readAt (Elt F) (Rect.unit (s := S4x2x256x4096) ![k % 4, c.val % 2, 0, 512 * (k / 4)] S1x1x256x512.size h).toLoadRect (pBuf m (nbr0 c))) shapeCasts_S1x1x256x512_S256x512) (V m c k)) shapeCasts_S256x512_S1x1x256x512 u v x y).symm
  have hy := y.isLt
  have hu : u = ⟨0, Nat.one_pos⟩ := Fin.ext (by omega)
  have hv : v = ⟨0, Nat.one_pos⟩ := Fin.ext (by omega)
  subst hu hv
  have h0 := hw 0
  have h3 := hw 3
  generalize he : (Rect.unit (s := S4x2x256x4096) ![k % 4, c.val % 2, 0, 512 * (k / 4)] S1x1x256x512.size h).emb (ix4 (⟨0, Nat.one_pos⟩ : Fin 1) (⟨0, Nat.one_pos⟩ : Fin 1) x y) = i at hw h0 h3
  have h0 : (i 0).val = k % 4 := h0
  have h3 : (i 3).val = 512 * (k / 4) + y.val := h3
  have hb : blkOf i = k := by unfold blkOf; rw [h0, h3]; omega
  have hi : inBlk i = ix2 x y := by
    unfold inBlk
    funext a; apply Fin.ext; fin_cases a
    · exact (hw 2).trans (Nat.zero_add _)
    · refine (congrArg (· % 512) h3).trans ?_
      show (512 * (k / 4) + y.val) % 512 = y.val; omega
  have hh : half i = zc c := Fin.ext (hw 1)
  show outBuf m c ((Rect.unit (s := S4x2x256x4096) ![k % 4, c.val % 2, 0, 512 * (k / 4)] S1x1x256x512.size h).emb (ix4 (⟨0, Nat.one_pos⟩ : Fin 1) (⟨0, Nat.one_pos⟩ : Fin 1) x y)) = _
  rw [he]
  unfold outBuf
  rw [hh, hol_self c hc, hb, hi]
  refine congrArg (fun t => FloatOps.addf t (V m c k (ix2 x y))) ?_
  refine Eq.trans ?_ (shapeCast_11ab_apply _ shapeCasts_S1x1x256x512_S256x512 x y).symm
  show _ = pBuf m (nbr0 c) ((Rect.unit (s := S4x2x256x4096) ![k % 4, c.val % 2, 0, 512 * (k / 4)] S1x1x256x512.size h).emb (ix4 (⟨0, Nat.one_pos⟩ : Fin 1) (⟨0, Nat.one_pos⟩ : Fin 1) x y))
  rw [he]
  unfold pBuf
  rw [hb, hi]

end Cert.KernelIdeal.Proj
-- ==== Proof.Sched.lean ====
module

public import proofs.«01_k».proof.Proof.Content

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The protocol: cells, windows, what each transfer hands over, levels -/

/-- Duty names: a semaphore's round has up to sixteen contributions. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## Cells -/

set_option backward.proofsInPublic true in
/-- The transfer semaphore number `n`: 1, 2 the right operand's, 3, 4 the left operand's, 5, 6 the transpositions',
    `7 + 32 * d + k` block `k`'s of direction `d`. -/
def sD (n : ℕ) : DmaSem sig := ⟨n % 263, Nat.mod_lt _ (by decide)⟩
abbrev barS : Sem sig := (SemArray.scalar (sig.barrier 0 rfl) : Sems sig S_).sem
abbrev exS : Sem sig := (cc0_scoped0 : Sems sig S_).sem
abbrev dC (c : Dev nD) (n : ℕ) : GSem nD τ sig := ((c : Thread nD τ), .dma (sD n))
abbrev barC (c : Dev nD) : GSem nD τ sig := ((c : Thread nD τ), .reg barS)
abbrev exC (c : Dev nD) : GSem nD τ sig := ((c : Thread nD τ), .reg exS)

/-- The neighbour a device's signal `d` goes to: signal 0 across `y`, 1 across `x`, 2 across `z`. -/
def nb (c : Dev nD) (d : ℕ) : Dev nD := if d = 0 then nbr0 c else if d = 1 then nbr1 c else nbr2 c
theorem nb_nb (c : Dev nD) (d : ℕ) : nb (nb c d) d = c := by
  unfold nb; split
  · exact nbr0_nbr0 c
  · split
    · exact nbr1_nbr1 c
    · exact nbr2_nbr2 c

theorem ex_ne_bar : exS ≠ barS := by decide
theorem barS_val : (barS : Sem sig).val = 0 := rfl
theorem exS_val : (exS : Sem sig).val = 1 := rfl
theorem sD_val (n : ℕ) (h : n < 263) : (sD n).val = n := Nat.mod_eq_of_lt h

/-! ## Windows -/

/-- Block `k` of half `z` of device `c`'s result. -/
def oW (c : Dev nD) (z k : ℕ) (q : PosShare TreeShare) (f : S4x2x256x4096.Idx → F .f32) : sProp 𝕄 :=
  ((c : Thread nD τ).loc cc0_stg0_0) ↦[boxSet S4x2x256x4096 ![k % 4, z, 0, 512 * (k / 4)] S1x1x256x512.size]{q} f
/-- Column chunk `ch` of device `c`'s right operand. -/
def wW (c : Dev nD) (ch : ℕ) : sProp 𝕄 :=
  ((c : Thread nD τ).loc main_arg1) ↦[boxSet S2048x4096 ![0, 512 * ch] S2048x512.size]{fullShare} wA m c
/-- Device `c`'s 256 rows of batch `b` of its left operand. -/
def xW (c : Dev nD) (b : ℕ) : sProp 𝕄 :=
  ((c : Thread nD τ).loc main_arg0) ↦[boxSet S4x1024x16x128 ![b, base c, 0, 0] S1x256x16x128.size]{fullShare} xA m c
/-- Slot `p` of the right operand's buffer. -/
def woS (c : Dev nD) (p : ℕ) (f : S2x2048x512.Idx → F .f32) : sProp 𝕄 :=
  ((c : Thread nD τ).loc cc0_scratch0) ↦[boxSet S2x2048x512 ![p, 0, 0] S1x2048x512.size]{fullShare} f
/-- Slot `p` of the landing buffer, and head `h` of it. -/
def a3S (c : Dev nD) (p : ℕ) (f : S2x256x16x128.Idx → F .f32) : sProp 𝕄 :=
  ((c : Thread nD τ).loc cc0_scratch1) ↦[boxSet S2x256x16x128 ![p, 0, 0, 0] S1x256x16x128.size]{fullShare} f
def a3P (c : Dev nD) (p h : ℕ) (f : S2x256x16x128.Idx → F .f32) : sProp 𝕄 :=
  ((c : Thread nD τ).loc cc0_scratch1) ↦[boxSet S2x256x16x128 ![p, 0, h, 0] S1x256x1x128.size]{fullShare} f
/-- Head `h` of batch `b` of the left operand's buffer, and all of the batch. -/
def aP (c : Dev nD) (b h : ℕ) (f : S4x256x2048.Idx → F .f32) : sProp 𝕄 :=
  ((c : Thread nD τ).loc cc0_scratch2) ↦[boxSet S4x256x2048 ![b, 0, 128 * h] S1x256x128.size]{fullShare} f
def aR (c : Dev nD) (b : ℕ) (f : S4x256x2048.Idx → F .f32) : sProp 𝕄 :=
  ((c : Thread nD τ).loc cc0_scratch2) ↦[boxSet S4x256x2048 ![b, 0, 0] S1x256x2048.size]{fullShare} f
/-- Slot `p` of the outgoing buffer. -/
def sS (c : Dev nD) (p : ℕ) (f : S2x256x512.Idx → F .f32) : sProp 𝕄 :=
  ((c : Thread nD τ).loc cc0_scratch3) ↦[boxSet S2x256x512 ![p, 0, 0] S1x256x512.size]{fullShare} f

/-! ## What is handed over -/

/-- The windows of the result device `d` lets another write: half `z`, every block. -/
def lend (d : Dev nD) (z : ℕ) : sProp 𝕄 := bigSep (Finset.range 32) fun k => iprop(∃ f, oW d z k fullShare f)
/-- Signal `d` of the entry barrier hands device `c` the windows of its neighbour's result that it will write. -/
def barPay (c : Dev nD) (d : ℕ) : sProp 𝕄 :=
  if d = 2 ∨ (d = 1 ∧ holder c = true) ∨ (d = 0 ∧ holder c = false) then lend (F := F) (nb c d) (zc c).val else iprop(emp)
def woPay (c : Dev nD) (ch : ℕ) : sProp 𝕄 := iprop(woS c (ch % 2) (woBuf m c ch) ∗ wW m c ch)
def cPay (c : Dev nD) (b : ℕ) : sProp 𝕄 := iprop(a3S c (b % 2) (a3Buf m c b) ∗ xW m c b)
def aPay (c : Dev nD) (b h : ℕ) : sProp 𝕄 := iprop(aP c b h (aBuf m c) ∗ a3P c (b % 2) h (a3Buf m c b))
/-- Direction `d`'s transfer of block `k`: 0 the partial product sent across `y`, 1 received; 2 the result sent across `x`,
    3 received; 4 the holder's result sent across `z`, 5 received; 6 the other's result sent across `z`, 7 received. -/
def xPay (c : Dev nD) (d k : ℕ) : sProp 𝕄 :=
  if d = 0 then iprop(∃ f, sS c (k % 2) f)
  else if d = 1 then oW c (zc c).val k fullShare (pBuf m (nbr0 c))
  else if d = 2 then oW c (zc c).val k fullShare.left (outBuf m c)
  else if d = 3 then oW c (zc c).val k fullShare (outBuf m c)
  else if d = 4 then oW c (zc c).val k fullShare.right (outBuf m c)
  else if d = 6 then oW c (zc c).val k fullShare (outBuf m c)
  else oW c (zo c).val k fullShare (outBuf m c)
/-- Which directions a device uses. -/
def used (c : Dev nD) (d : ℕ) : Bool := if d = 1 ∨ d = 2 ∨ d = 4 ∨ d = 5 then holder c else !holder c

abbrev woN : ℕ := (woV ![0, 0, 0] inb_S2x2048x512_S1x2048x512_0_0_0).view.dmaCredit
abbrev a3N : ℕ := (a3V ![0, 0, 0, 0] inb_S2x256x16x128_S1x256x16x128_0_0_0_0).view.dmaCredit
abbrev aN : ℕ := (aV ![0, 0, 0] inb_S4x256x2048_S1x256x128_0_0_0).view.dmaCredit
abbrev oN : ℕ := (sV ![0, 0, 0] inb_S2x256x512_S1x256x512_0_0_0).view.dmaCredit

def dDut (c : Dev nD) (n r : ℕ) : Finset (Fin 16) :=
  if n = 0 then ∅ else if n < 3 then (if r < 4 then {0} else ∅) else if n < 5 then (if r < 2 then {0} else ∅)
  else if n < 7 then (if r < 2 then Finset.univ else ∅) else if r = 0 ∧ used c ((n - 7) / 32) = true then {0} else ∅
def dAmt (n : ℕ) : ℕ := if n < 3 then woN else if n < 5 then a3N else if n < 7 then aN else oN
def dPay (c : Dev nD) (n r : ℕ) (d : ℕ) : sProp 𝕄 :=
  if n < 3 then woPay m c (2 * r + (n - 1)) else if n < 5 then cPay m c (2 * r + (n - 3))
  else if n < 7 then aPay m c (2 * r + (n - 5)) d else xPay m c ((n - 7) / 32) ((n - 7) % 32)

theorem dAmt_pos (n : ℕ) : 0 < dAmt n := by
  unfold dAmt
  split
  · exact View.dmaCredit_pos _ (by decide)
  · split
    · exact View.dmaCredit_pos _ (by decide)
    · split
      · exact View.dmaCredit_pos _ (by decide)
      · exact View.dmaCredit_pos _ (by decide)

/-- The schedule: the two barriers have three contributions of one unit; the right operand's semaphores four rounds, the
    left operand's two; a transposition's two rounds of sixteen contributions; a block's one round. -/
def Rd : Rounds.Schedule (GSem nD τ sig) (Fin 16) 𝕄 where
  duties g r := match g with
    | ((c, .tc), .reg _) => if r = 0 then {0, 1, 2} else ∅
    | ((c, .tc), .dma q) => dDut c q.val r
    | _ => ∅
  unitless _ := False
  amount g _ _ := match g.2 with | .reg _ => 1 | .dma q => dAmt q.val
  payload g r d := match g.2 with
    | .reg s => if s.val = 0 then barPay g.1.1 d.val else iprop(emp)
    | .dma q => dPay m g.1.1 q.val r d.val
  amount_pos g _ _ _ := by
    dsimp only
    split
    · exact Nat.one_pos
    · exact dAmt_pos _

instance (c : Dev nD) (z k q f) : BI.Storable (upEmb : UEmb _ 𝕄) (oW (F := F) c z k q f) := by unfold oW; infer_instance
instance lend_storable (c : Dev nD) (z : ℕ) : BI.Storable (upEmb : UEmb _ 𝕄) (lend (F := F) c z) := by unfold lend; infer_instance
instance Rd_payload_storable (g : GSem nD τ sig) (r : ℕ) (d : Fin 16) :
    BI.Storable (upEmb : UEmb _ 𝕄) ((Rd (F := F) m).payload g r d) := by
  obtain ⟨t, s⟩ := g
  cases s with
  | reg s =>
    show BI.Storable upEmb (if s.val = 0 then barPay t.1 d.val else iprop(emp))
    unfold barPay
    (repeat' split) <;> infer_instance
  | dma q =>
    show BI.Storable upEmb (dPay m t.1 q.val r d.val)
    unfold dPay woPay cPay aPay xPay oW woS wW a3S xW aP a3P sS
    (repeat' split) <;> infer_instance

/-! ## The schedule's facts -/

theorem duties_d (c : Dev nD) (n r : ℕ) (h : n < 263) : (Rd (F := F) m).duties (dC c n) r = dDut c n r := by
  show dDut c (sD n).val r = _; rw [sD_val n h]
theorem amount_d (c : Dev nD) (n r : ℕ) (d) (h : n < 263) : (Rd (F := F) m).amount (dC c n) r d = dAmt n := by
  show dAmt (sD n).val = _; rw [sD_val n h]
theorem payload_d (c : Dev nD) (n r : ℕ) (d : Fin 16) (h : n < 263) : (Rd (F := F) m).payload (dC c n) r d = dPay m c n r d.val := by
  show dPay m c (sD n).val r d.val = _; rw [sD_val n h]
theorem duties_r (c : Dev nD) (s : Sem sig) : (Rd (F := F) m).duties ((c : Thread nD τ), .reg s) 0 = {0, 1, 2} := rfl
theorem duties_r' (c : Dev nD) (s : Sem sig) (r : ℕ) (h : 1 ≤ r) : (Rd (F := F) m).duties ((c : Thread nD τ), .reg s) r = ∅ :=
  if_neg (by omega)
theorem expect_r (c : Dev nD) (s : Sem sig) : (Rd (F := F) m).expect ((c : Thread nD τ), .reg s) 0 = 3 := rfl

theorem dDut_wo (c : Dev nD) (p r : ℕ) (hp : p < 2) (hr : r < 4) : dDut c (1 + p) r = {0} := by
  unfold dDut; rw [if_neg (by omega), if_pos (by omega), if_pos hr]
theorem dDut_c (c : Dev nD) (p r : ℕ) (hp : p < 2) (hr : r < 2) : dDut c (3 + p) r = {0} := by
  unfold dDut; rw [if_neg (by omega), if_neg (by omega), if_pos (by omega), if_pos hr]
theorem dDut_a (c : Dev nD) (p r : ℕ) (hp : p < 2) (hr : r < 2) : dDut c (5 + p) r = Finset.univ := by
  unfold dDut; rw [if_neg (by omega), if_neg (by omega), if_neg (by omega), if_pos (by omega), if_pos hr]
theorem dDut_x (c : Dev nD) (d k : ℕ) (hd : d < 8) (hk : k < 32) (hu : used c d = true) : dDut c (7 + 32 * d + k) 0 = {0} := by
  have h : (7 + 32 * d + k - 7) / 32 = d := by omega
  unfold dDut; rw [if_neg (by omega), if_neg (by omega), if_neg (by omega), if_neg (by omega), h, if_pos ⟨rfl, hu⟩]
theorem dAmt_wo (p : ℕ) (hp : p < 2) : dAmt (1 + p) = woN := if_pos (by omega)
theorem dAmt_c (p : ℕ) (hp : p < 2) : dAmt (3 + p) = a3N := by unfold dAmt; rw [if_neg (by omega), if_pos (by omega)]
theorem dAmt_a (p : ℕ) (hp : p < 2) : dAmt (5 + p) = aN := by unfold dAmt; rw [if_neg (by omega), if_neg (by omega), if_pos (by omega)]
theorem dAmt_x (d k : ℕ) : dAmt (7 + 32 * d + k) = oN := by unfold dAmt; rw [if_neg (by omega), if_neg (by omega), if_neg (by omega)]
theorem dPay_wo (c : Dev nD) (ch : ℕ) (d : ℕ) : dPay m c (1 + ch % 2) (ch / 2) d = woPay m c ch := by
  unfold dPay; rw [if_pos (by omega)]; congr 1; omega
theorem dPay_c (c : Dev nD) (b : ℕ) (d : ℕ) : dPay m c (3 + b % 2) (b / 2) d = cPay m c b := by
  unfold dPay; rw [if_neg (by omega), if_pos (by omega)]; congr 1; omega
theorem dPay_a (c : Dev nD) (b : ℕ) (d : ℕ) : dPay m c (5 + b % 2) (b / 2) d = aPay m c b d := by
  unfold dPay; rw [if_neg (by omega), if_neg (by omega), if_pos (by omega)]; congr 1; omega
theorem dPay_x (c : Dev nD) (d k r e : ℕ) (hk : k < 32) : dPay m c (7 + 32 * d + k) r e = xPay m c d k := by
  have h : (7 + 32 * d + k - 7) / 32 = d := by omega
  have h' : (7 + 32 * d + k - 7) % 32 = k := by omega
  unfold dPay; rw [if_neg (by omega), if_neg (by omega), if_neg (by omega), h, h']

theorem expect_d (c : Dev nD) (n r : ℕ) (h : n < 263) : (Rd (F := F) m).expect (dC c n) r = (dDut c n r).card * dAmt n := by
  unfold Schedule.expect Schedule.amountOf
  rw [duties_d m c n r h, Finset.sum_congr rfl fun d _ => amount_d m c n r d h, Finset.sum_const, smul_eq_mul]

/-! ## What a device owes; the levels -/

def oweF (g : ℕ → GSem nD τ sig) (a i lim : ℕ) : CellTallies nD τ sig Unit := ∑ k ∈ Finset.Ico i lim, tallyAt (g k) () a

theorem oweF_pop (g : ℕ → GSem nD τ sig) (a i lim : ℕ) (h : i < lim) :
    oweF g a i lim = oweF g a (i + 1) lim + tallyAt (g i) () a := by
  unfold oweF; rw [show Finset.Ico i lim = insert i (Finset.Ico (i + 1) lim) by ext x; simp only [Finset.mem_Ico, Finset.mem_insert]; omega,
    Finset.sum_insert (by rw [Finset.mem_Ico]; omega), add_comm]
theorem oweF_done (g : ℕ → GSem nD τ sig) (a i lim : ℕ) (h : lim ≤ i) : oweF g a i lim = 0 := by
  unfold oweF; rw [Finset.Ico_eq_empty (by omega), Finset.sum_empty]

theorem sum_tally_pos {ι : Type} (S : Finset ι) (f : ι → CellTallies nD τ sig Unit) {p : GSem nD τ sig} {u : Unit}
    (h : 0 < (∑ k ∈ S, f k) p u) : ∃ k ∈ S, 0 < f k p u := by
  rw [Finset.sum_apply, Finsupp.finsetSum_apply] at h
  by_contra hn
  refine absurd h (Nat.not_lt.mpr (Nat.le_of_eq (Finset.sum_eq_zero fun k hk => ?_)))
  by_contra h0
  exact hn ⟨k, hk, Nat.pos_of_ne_zero h0⟩
theorem oweF_pos {g : ℕ → GSem nD τ sig} {a i lim : ℕ} {p : GSem nD τ sig} {u : Unit} (h : 0 < oweF g a i lim p u) :
    ∃ k, i ≤ k ∧ k < lim ∧ p = g k := by
  obtain ⟨k, hk, hp⟩ := sum_tally_pos _ _ h
  rw [tallyAt_apply] at hp
  refine ⟨k, (Finset.mem_Ico.mp hk).1, (Finset.mem_Ico.mp hk).2, ?_⟩
  by_contra hne
  rw [if_neg (fun h' => hne h'.1)] at hp
  exact Nat.lt_irrefl 0 hp

/-- The receive cells a device's transfers credit: a holder's across `x` and across `z`; another's across `y` and across `z`. -/
def g1 (c : Dev nD) (k : ℕ) : GSem nD τ sig := if holder c = true then dC (nbr1 c) (7 + 32 * 3 + k) else dC (nbr0 c) (7 + 32 * 1 + k)
def g2 (c : Dev nD) (k : ℕ) : GSem nD τ sig := if holder c = true then dC (nbr2 c) (7 + 32 * 5 + k) else dC (nbr2 c) (7 + 32 * 7 + k)

/-- What device `c` owes after `b` entry signals, `i` and `j` transfers and `e` exit signals. -/
def Ow (c : Dev nD) (b i j e : ℕ) : CellTallies nD τ sig Unit :=
  oweF (fun d => barC (nb c d)) 1 b 3 + oweF (g1 c) oN i 32 + oweF (g2 c) oN j 32 + oweF (fun d => exC (nb c d)) 1 e 3

theorem Ow_b (c : Dev nD) (b i j e : ℕ) (h : b < 3) : Ow c b i j e = Ow c (b + 1) i j e + tallyAt (barC (nb c b)) () 1 := by
  unfold Ow; rw [oweF_pop _ _ b 3 h]; ac_rfl
theorem Ow_1 (c : Dev nD) (b i j e : ℕ) (h : i < 32) : Ow c b i j e = Ow c b (i + 1) j e + tallyAt (g1 c i) () oN := by
  unfold Ow; rw [oweF_pop _ _ i 32 h]; ac_rfl
theorem Ow_2 (c : Dev nD) (b i j e : ℕ) (h : j < 32) : Ow c b i j e = Ow c b i (j + 1) e + tallyAt (g2 c j) () oN := by
  unfold Ow; rw [oweF_pop _ _ j 32 h]; ac_rfl
theorem Ow_e (c : Dev nD) (b i j e : ℕ) (h : e < 3) : Ow c b i j e = Ow c b i j (e + 1) + tallyAt (exC (nb c e)) () 1 := by
  unfold Ow; rw [oweF_pop _ _ e 3 h]; ac_rfl
theorem Ow_done (c : Dev nD) : Ow c 3 32 32 3 = 0 := by
  unfold Ow; rw [oweF_done _ _ _ _ (le_refl _), oweF_done _ _ _ _ (le_refl _), oweF_done _ _ _ _ (le_refl _), oweF_done _ _ _ _ (le_refl _)]; simp only [add_zero]

def L (g : GSem nD τ sig) : Finset Unit := if g.1.2 = .tc then {()} else ∅
def dLv (n : ℕ) : ℕ :=
  if n < 39 then 0 else if (n - 7) / 32 = 1 then 10 * ((n - 7) % 32) + 10 else if (n - 7) / 32 = 3 ∨ (n - 7) / 32 = 5 then 10 * ((n - 7) % 32) + 15
  else if (n - 7) / 32 = 7 then 10 * ((n - 7) % 32) + 16 else 0
/-- The entry barrier first, then by blocks the partial product across `y`, the result across `x` or by a holder across `z`,
    the result across `z` by another; the exit barrier last. -/
def lv (g : GSem nD τ sig) (_ : Unit) : ℕ := match g.2 with
  | .reg s => if s.val = 0 then 1 else 1000
  | .dma q => dLv q.val

theorem L_of_ne (g : GSem nD τ sig) (h : g.1.2 ≠ .tc) : L g = ∅ := if_neg h
theorem L_tc (c : Dev nD) (sm : SemLoc sig) : L ((c : Thread nD τ), sm) = {()} := if_pos rfl
theorem lv_d (c : Dev nD) (n : ℕ) (h : n < 263) : lv (dC c n) () = dLv n := by show dLv (sD n).val = _; rw [sD_val n h]
theorem dLv_x (d k : ℕ) (hd : d < 8) (hk : k < 32) : dLv (7 + 32 * d + k)
    = if d = 1 then 10 * k + 10 else if d = 3 ∨ d = 5 then 10 * k + 15 else if d = 7 then 10 * k + 16 else 0 := by
  have h : (7 + 32 * d + k - 7) / 32 = d := by omega
  have h' : (7 + 32 * d + k - 7) % 32 = k := by omega
  unfold dLv; rw [h, h']
  split
  · rw [if_neg (by omega), if_neg (by omega), if_neg (by omega)]
  · rfl

theorem lv_g1 (c : Dev nD) (k : ℕ) (hk : k < 32) : 10 * k + 10 ≤ lv (g1 c k) () := by
  unfold g1; split
  · rw [lv_d _ _ (by omega), dLv_x _ _ (by decide) hk, if_neg (by decide), if_pos (by decide)]; omega
  · rw [lv_d _ _ (by omega), dLv_x _ _ (by decide) hk, if_pos rfl]
theorem lv_g1' (c : Dev nD) (k : ℕ) (hk : k < 32) (hc : holder c = true) : 10 * k + 15 ≤ lv (g1 c k) () := by
  unfold g1; rw [if_pos hc, lv_d _ _ (by omega), dLv_x _ _ (by decide) hk, if_neg (by decide), if_pos (by decide)]
theorem lv_g2 (c : Dev nD) (k : ℕ) (hk : k < 32) : 10 * k + 15 ≤ lv (g2 c k) () := by
  unfold g2; split
  · rw [lv_d _ _ (by omega), dLv_x _ _ (by decide) hk, if_neg (by decide), if_pos (by decide)]
  · rw [lv_d _ _ (by omega), dLv_x _ _ (by decide) hk, if_neg (by decide), if_neg (by decide), if_pos rfl]; omega
theorem lv_g2' (c : Dev nD) (k : ℕ) (hk : k < 32) (hc : holder c = false) : 10 * k + 16 ≤ lv (g2 c k) () := by
  unfold g2; rw [if_neg (by rw [hc]; decide), lv_d _ _ (by omega), dLv_x _ _ (by decide) hk, if_neg (by decide), if_neg (by decide), if_pos rfl]

theorem g1_tc (c : Dev nD) (k : ℕ) : (g1 c k).1.2 = .tc := by unfold g1; split <;> rfl
theorem g2_tc (c : Dev nD) (k : ℕ) : (g2 c k).1.2 = .tc := by unfold g2; split <;> rfl

/-- A device may wait on a semaphore whose level is below those of everything it still owes. -/
theorem mayWait_Ow (c : Dev nD) (sm : SemLoc sig) (n b i j e : ℕ) (hl : lv ((c : Thread nD τ), sm) () ≤ n)
    (hb : b < 3 → n < 1) (h1 : ∀ k, i ≤ k → k < 32 → n < lv (g1 c k) ()) (h2 : ∀ k, j ≤ k → k < 32 → n < lv (g2 c k) ())
    (he : e < 3 → n < 1000) : (levAts L lv : sProp 𝕄) ⊢ MayWait (c : Thread nD τ) sm () (Ow c b i j e) := by
  have key : ∀ (g : GSem nD τ sig) (u : Unit), 0 < Ow c b i j e g u → g.1.2 = .tc ∧ n < lv g u := by
    intro g u h
    have h : 0 < oweF (fun d => barC (nb c d)) 1 b 3 g u + oweF (g1 c) oN i 32 g u + oweF (g2 c) oN j 32 g u + oweF (fun d => exC (nb c d)) 1 e 3 g u := h
    have h' : 0 < oweF (fun d => barC (nb c d)) 1 b 3 g u ∨ 0 < oweF (g1 c) oN i 32 g u ∨ 0 < oweF (g2 c) oN j 32 g u ∨ 0 < oweF (fun d => exC (nb c d)) 1 e 3 g u := by omega
    rcases h' with h | h | h | h
    · obtain ⟨k, h1, h2, rfl⟩ := oweF_pos h
      exact ⟨rfl, hb (by omega)⟩
    · obtain ⟨k, h3, h4, rfl⟩ := oweF_pos h
      exact ⟨g1_tc c k, h1 k h3 h4⟩
    · obtain ⟨k, h3, h4, rfl⟩ := oweF_pos h
      exact ⟨g2_tc c k, h2 k h3 h4⟩
    · obtain ⟨k, h3, h4, rfl⟩ := oweF_pos h
      exact ⟨rfl, he (by omega)⟩
  exact MayOwe.of_cut (L := L) (lev := lv) n (fun p hp => by rw [Finset.mem_singleton.mp hp, L_tc]; exact Finset.mem_singleton_self _)
    (fun g u hg => by unfold L; rw [if_pos (key g u hg).1]; exact Finset.mem_singleton_self _)
    (fun p hp => by rw [Finset.mem_singleton.mp hp]; exact hl)
    (fun g u hg => (key g u hg).2)

end Cert.KernelIdeal.Proj
-- ==== Proof.State.lean ====
module

public import proofs.«01_k».proof.Proof.Sched

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # A device's progress, and the rule of each kind of step -/

variable (m : (ℓ : Loc nD τ sig) → Buf (Elt F) ℓ) (K : Dev nD × Fin 265 → ℕ)

/-- All the cells: a device's 263 transfer semaphores, then its entry and its exit barrier. -/
def kcell (p : Dev nD × Fin 265) : GSem nD τ sig :=
  if p.2.val < 263 then dC p.1 p.2.val else if p.2.val = 263 then barC p.1 else exC p.1

/-- What every device knows: each cell's invariant, that each is at round 0 or later, and the levels. The result's own
    semaphore, number 0, is not a cell. -/
def Ctx : sProp 𝕄 := iprop((bigSep Finset.univ fun p : Dev nD × Fin 264 =>
  iprop(cellInv ER (Rd m) (K (p.1, p.2.succ)) (kcell (p.1, p.2.succ)) ∗ reached ER (kcell (p.1, p.2.succ)) 0)) ∗ levAts L lv)
instance Ctx_persistent : BI.Persistent (Ctx m K) := by unfold Ctx; infer_instance

theorem Ctx_lev : Ctx m K ⊢ levAts L lv := by unfold Ctx; iintro ⟨-, H⟩; iexact H
theorem Ctx_get (c : Dev nD) (n : Fin 265) (h : n ≠ 0) : Ctx m K ⊢ iprop(cellInv ER (Rd m) (K (c, n)) (kcell (c, n)) ∗ reached ER (kcell (c, n)) 0) := by
  obtain ⟨j, rfl⟩ := Fin.exists_succ_eq.mpr h
  unfold Ctx
  exact BI.Entails.trans (BI.Entails.trans BI.sep_and BI.and_elimL) <| bigSep_elim (Φ := fun p : Dev nD × Fin 264 =>
    iprop(cellInv ER (Rd m) (K (p.1, p.2.succ)) (kcell (p.1, p.2.succ)) ∗ reached ER (kcell (p.1, p.2.succ)) 0)) (Finset.mem_univ (c, j))
/-- The name of the invariant of a cell. -/
def kd (c : Dev nD) (n : ℕ) : ℕ := K (c, ⟨n % 265, Nat.mod_lt _ (by decide)⟩)
theorem kcell_d (c : Dev nD) (n : ℕ) (h : n < 263) : kcell (c, ⟨n % 265, Nat.mod_lt _ (by decide)⟩) = dC c n := by
  have h' : n % 265 = n := by omega
  unfold kcell; dsimp only; rw [if_pos (by omega), h']
theorem Ctx_d (c : Dev nD) (n : ℕ) (h : 0 < n ∧ n < 263) : Ctx m K ⊢ iprop(cellInv ER (Rd m) (kd K c n) (dC c n) ∗ reached ER (dC c n) 0) := by
  have h' : n % 265 = n := by omega
  have := Ctx_get m K c ⟨n % 265, Nat.mod_lt _ (by decide)⟩ (fun hh => absurd (congrArg Fin.val hh) (by show n % 265 ≠ 0; omega))
  rw [kcell_d c n h.2] at this; exact this
theorem Ctx_bar (c : Dev nD) : Ctx m K ⊢ iprop(cellInv ER (Rd m) (kd K c 263) (barC c) ∗ reached ER (barC c) 0) := Ctx_get m K c 263 (by decide)
theorem Ctx_ex (c : Dev nD) : Ctx m K ⊢ iprop(cellInv ER (Rd m) (kd K c 264) (exC c) ∗ reached ER (exC c) 0) := Ctx_get m K c 264 (by decide)
theorem dDut_pos {c : Dev nD} {n r : ℕ} {d : Fin 16} (h : d ∈ dDut c n r) : 0 < n := by
  rcases Nat.eq_zero_or_pos n with rfl | h'
  · exact absurd h (Finset.notMem_empty d)
  · exact h'

/-- What a device knows and owes after `b` entry signals, `i` and `j` transfers and `e` exit signals. -/
def Own (c : Dev nD) (b i j e : ℕ) : sProp 𝕄 := iprop(Ctx m K ∗ ∃ W, owes (c : Thread nD τ) (Ow c b i j e) W)

/-- Running device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A rule given as a wand, used under a frame. -/
theorem step_of {A B R X Y : sProp 𝕄} (h : A ⊢ iprop((B -∗ X) -∗ Y)) (hk : iprop(B ∗ R) ⊢ X) : iprop(A ∗ R) ⊢ Y := by
  iintro ⟨HA, HR⟩
  iapply h $$ HA
  iintro HB
  iapply hk
  isplitl [HB]; · iexact HB
  iexact HR

section Rules
variable (c : Dev nD) {b i j e : ℕ} {α : Type}

/-- A wait for the whole of a round of a transfer semaphore that has one contribution. -/
theorem wait_d {Q : α → sProp 𝕄} (n r : ℕ) (hn : n < 263) (hd : dDut c n r = {0}) {sp sp' : Space} {s : Shape} {y : EltTy}
    {src : Memref sig .tc sp s y} {dst : Memref sig .tc sp' s y} {h1 h2} (hk : dst.view.dmaCredit = dAmt n)
    {k : PUnit → Prog (TpuEff nD τ sig (Elt F) Λ₀ .tc) α}
    (hb : b < 3 → dLv n < 1) (hi : ∀ k, i ≤ k → k < 32 → dLv n < lv (g1 c k) ()) (hj : ∀ k, j ≤ k → k < 32 → dLv n < lv (g2 c k) ())
    (he : e < 3 → dLv n < 1000) :
    iprop(Own m K c b i j e ∗ cred (tallyAt (dC c n) () (dAmt n)) ∗ atPos ER (dC c n) r ∅ 0)
      ⊢ iprop(((Own m K c b i j e ∗ atPos ER (dC c n) (r + 1) ∅ 0 ∗ reached ER (dC c n) (r + 1) ∗ dPay m c n r 0) -∗ WP c (k ⟨⟩) Q)
        -∗ WP c (.op (.waitDma2 (sD n) src dst h1 h2) k) Q) := by
  unfold Own
  iintro ⟨⟨#HC, %W, HO⟩, Hc, Ha⟩ Hk
  ihave #HI := (Ctx_d m K c n ⟨dDut_pos (d := 0) (by rw [hd]; exact Finset.mem_singleton_self _), hn⟩) $$ HC
  icases HI with ⟨#HI, -⟩
  iapply (Rounds.wp_wait_rest_token 𝒱₀ ER (Rd m) (c : Thread nD τ) none (κ := kd K c n)
      (wpE_waitDma2_eq 𝒱₀ (c : Thread nD τ) none Set.univ) (Set.mem_univ _) () (O := Ow c b i j e) (W := W) (R := r) (m := 0) (T := ∅)
      (by rw [expect_d m c n r hn, hd, Finset.card_singleton, hk]; omega)) $$ [Hc HO Ha]
  · isplitr; · iexact HI
    rw [hk]
    isplitl [Hc]; · iexact Hc
    isplitl [HO]; · iexact HO
    isplitr
    · ihave Hl := (Ctx_lev m K) $$ HC
      iapply (mayWait_Ow c (.dma (sD n)) (dLv n) b i j e (le_of_eq (lv_d c n hn)) hb hi hj he); iexact Hl
    iexact Ha
  iintro ⟨HO, Ha, Hr, Hp⟩
  iapply Hk
  isplitl [HO]
  · isplitr; · iexact HC
    iexists _; iexact HO
  isplitl [Ha]; · iexact Ha
  isplitl [Hr]; · iexact Hr
  iapply (Entails.of_eq (show bigSep ((Rd m).duties (dC c n) r \ ∅) (fun d => (Rd m).payload (dC c n) r d) = dPay m c n r 0 by
    rw [duties_d m c n r hn, hd, Finset.sdiff_empty, bigSep_singleton, payload_d m c n r 0 hn]; rfl))
  iexact Hp

/-- A transfer between the device's own buffers. -/
theorem copy_d {Q : α → sProp 𝕄} (n r : ℕ) (d : Fin 16) (hn : n < 263) (hd : d ∈ dDut c n r) {sp sp' : Space} {s : Shape} {y : EltTy}
    {src : Memref sig .tc sp s y} {dst : Memref sig .tc sp' s y} {h1 h2 h3} (hk : dst.view.dmaCredit = dAmt n)
    {k : PUnit → Prog (TpuEff nD τ sig (Elt F) Λ₀ .tc) α}
    (fs : Buf (Elt F) (src.view.loc (c : Thread nD τ))) (fd G : Buf (Elt F) (dst.view.loc (c : Thread nD τ)))
    (hG : ∀ j, dst.view.read (Elt F) G j = src.view.read (Elt F) fs j)
    (hpay : iprop((dst.view.loc (c : Thread nD τ) ↦[dst.view.set]{fullShare} G)
              ∗ (src.view.loc (c : Thread nD τ) ↦[src.view.set]{fullShare} fs)) ⊢ dPay m c n r d.val) :
    iprop(Ctx m K ∗ (src.view.loc (c : Thread nD τ) ↦[src.view.set]{fullShare} fs) ∗ (dst.view.loc (c : Thread nD τ) ↦[dst.view.set]{fullShare} fd)
        ∗ dutyTok ER (dC c n) r d ∗ reached ER (dC c n) r)
      ⊢ iprop((cred (tallyAt (dC c n) () (dAmt n)) -∗ WP c (k ⟨⟩) Q)
        -∗ WP c (.op (.enqueueDma src (.here dst) (.dma (sD n)) h1 h2 h3) k) Q) := by
  iintro ⟨#HC, Hs, Hd, Ht, Hr⟩
  ihave #HI := (Ctx_d m K c n ⟨dDut_pos hd, hn⟩) $$ HC
  icases HI with ⟨#HI, -⟩
  iapply (Rounds.wp_copy_pointsTo 𝒱₀ ER (Rd m) (c : Thread nD τ) none (κ := kd K c n) (r := r) (d := d) (q := fullShare) (fs := fs) (fd := fd)
    (by rw [duties_d m c n r hn]; exact hd) () (dAmt n) (show dst.view.amount (.dma (sD n)) = dAmt n from hk) (amount_d m c n r d hn)
    (by rw [payload_d m c n r d hn, pointsTo_congr (dma_eq src dst fs fd G hG)]; exact hpay))
  isplitr; · iexact HI
  isplitl [Hs]; · iexact Hs
  isplitl [Hd]; · iexact Hd
  isplitl [Ht]; · iexact Ht
  iexact Hr

/-- A transfer of block `k` in direction `d` to a neighbour `t`: it pays the device's own send cell and the neighbour's
    receive cell. -/
theorem send_d {Q : α → sProp 𝕄} (t : Dev nD) (d k : ℕ) (hd : d < 7) (hk32 : k < 32) (hu : used c d = true) (hu' : used t (d + 1) = true)
    {sp sp' : Space} {s : Shape} {y : EltTy} {src : Memref sig .tc sp s y} {dst : Memref sig .tc sp' s y} {hsc h1 h2 h3}
    (hk : dst.view.dmaCredit = oN) {kk : PUnit → Prog (TpuEff nD τ sig (Elt F) Λ₀ .tc) α} (q : PosShare TreeShare)
    (fs : Buf (Elt F) (src.view.loc (c : Thread nD τ))) (fd G : Buf (Elt F) (dst.view.loc (t : Thread nD τ)))
    (hG : ∀ j, dst.view.read (Elt F) G j = src.view.read (Elt F) fs j)
    (O O' : CellTallies nD τ sig Unit) (hO : O = O' + tallyAt (dC t (7 + 32 * (d + 1) + k)) () oN) (W : Waits sig Unit)
    (hpay₁ : (src.view.loc (c : Thread nD τ) ↦[src.view.set]{q} fs) ⊢ xPay m c d k)
    (hpay₂ : (dst.view.loc (t : Thread nD τ) ↦[dst.view.set]{fullShare} G) ⊢ xPay m t (d + 1) k) :
    iprop(Ctx m K ∗ owes (c : Thread nD τ) O W ∗ (src.view.loc (c : Thread nD τ) ↦[src.view.set]{q} fs) ∗ (dst.view.loc (t : Thread nD τ) ↦[dst.view.set]{fullShare} fd)
        ∗ dutyTok ER (dC c (7 + 32 * d + k)) 0 0 ∗ dutyTok ER (dC t (7 + 32 * (d + 1) + k)) 0 0)
      ⊢ iprop(((cred (tallyAt (dC c (7 + 32 * d + k)) () oN) ∗ owes (c : Thread nD τ) O' W) -∗ WP c (kk ⟨⟩) Q)
        -∗ WP c (.op (.enqueueDma src (.remote (Dev.tc t : Thread nD τ) dst (.dma (sD (7 + 32 * d + k))) hsc) (.dma (sD (7 + 32 * (d + 1) + k))) h1 h2 h3) kk) Q) := by
  iintro ⟨#HC, HO, Hs, Hd, Ht, Ht'⟩
  ihave #HI := (Ctx_d m K c (7 + 32 * d + k) (by omega)) $$ HC
  icases HI with ⟨#HI, #HR⟩
  ihave #HI' := (Ctx_d m K t (7 + 32 * (d + 1) + k) (by omega)) $$ HC
  icases HI' with ⟨#HI', #HR'⟩
  iapply (Rounds.wp_send_pointsTo 𝒱₀ ER (Rd m) (c : Thread nD τ) none (κ₁ := kd K c (7 + 32 * d + k)) (κ₂ := kd K t (7 + 32 * (d + 1) + k))
    (r₁ := 0) (r₂ := 0) (d₁ := 0) (d₂ := 0) (q := q) (fs := fs) (fd := fd)
    (by rw [duties_d m c _ 0 (by omega), dDut_x c d k (by omega) hk32 hu]; exact Finset.mem_singleton_self _)
    (by rw [duties_d m t _ 0 (by omega), dDut_x t (d + 1) k (by omega) hk32 hu']; exact Finset.mem_singleton_self _)
    () () oN (show dst.view.amount (.dma (sD (7 + 32 * (d + 1) + k))) = oN from hk) ((amount_d m c _ 0 0 (by omega)).trans (dAmt_x d k)) ((amount_d m t _ 0 0 (by omega)).trans (dAmt_x (d + 1) k)) O' hO (W := W)
    (by rw [payload_d m c _ 0 0 (by omega), dPay_x m c d k _ _ hk32]; exact hpay₁)
    (by rw [payload_d m t _ 0 0 (by omega), dPay_x m t (d + 1) k _ _ hk32, pointsTo_congr (dma_eq (src := src) (dst := dst) fs fd G hG)]; exact hpay₂))
  isplitr; · iexact HI
  isplitr; · iexact HI'
  isplitl [Hs]; · iexact Hs
  isplitl [Hd]; · iexact Hd
  isplitl [HO]; · iexact HO
  isplitl [Ht]; · iexact Ht
  isplitr; · iexact HR
  isplitl [Ht']; · iexact Ht'
  iexact HR'

end Rules

end Cert.KernelIdeal.Proj
-- ==== Proof.Local.lean ====
module

public import proofs.«01_k».proof.Proof.State
public import Idealize.SL.BI.BigOpNat

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The device's own transfers: the right operand's chunks, the left operand's batches and their transposition -/

variable (m : (ℓ : Loc nD τ sig) → Buf (Elt F) ℓ) (K : Dev nD × Fin 265 → ℕ)

/-! ## The windows as the program's views name them -/

theorem oV_pts (c : Dev nD) (z k : ℕ) (q : PosShare TreeShare) (f) (h) :
    ((oV ![k % 4, z, 0, 512 * (k / 4)] h).view.loc (c : Thread nD τ) ↦[(oV ![k % 4, z, 0, 512 * (k / 4)] h).view.set]{q} f : sProp 𝕄) = oW c z k q f := by
  unfold oW; rw [squeeze_set cc0_stg0_0]; rfl
theorem wV_pts (c : Dev nD) (ch : ℕ) (h) :
    ((wV ![0, 512 * ch] h).view.loc (c : Thread nD τ) ↦[(wV ![0, 512 * ch] h).view.set]{fullShare} wA m c : sProp 𝕄) = wW m c ch := by
  unfold wW; rw [slice_set main_arg1]; rfl
theorem xV_pts (c : Dev nD) (b : ℕ) (h) :
    ((xV ![b, base c, 0, 0] h).view.loc (c : Thread nD τ) ↦[(xV ![b, base c, 0, 0] h).view.set]{fullShare} xA m c : sProp 𝕄) = xW m c b := by
  unfold xW; rw [squeeze_set main_arg0]; rfl
theorem woV_pts (c : Dev nD) (p : ℕ) (f) (h) :
    ((woV ![p, 0, 0] h).view.loc (c : Thread nD τ) ↦[(woV ![p, 0, 0] h).view.set]{fullShare} f : sProp 𝕄) = woS c p f := by
  unfold woS; rw [squeeze_set cc0_scratch0]; rfl
theorem a3V_pts (c : Dev nD) (p : ℕ) (f) (h) :
    ((a3V ![p, 0, 0, 0] h).view.loc (c : Thread nD τ) ↦[(a3V ![p, 0, 0, 0] h).view.set]{fullShare} f : sProp 𝕄) = a3S c p f := by
  unfold a3S; rw [squeeze_set cc0_scratch1]; rfl
theorem hV_pts (c : Dev nD) (p t : ℕ) (f) (h) :
    ((hV ![p, 0, t, 0] h).view.loc (c : Thread nD τ) ↦[(hV ![p, 0, t, 0] h).view.set]{fullShare} f : sProp 𝕄) = a3P c p t f := by
  unfold a3P; rw [squeeze_set cc0_scratch1]; rfl
theorem aV_pts (c : Dev nD) (b t : ℕ) (f) (h) :
    ((aV ![b, 0, 128 * t] h).view.loc (c : Thread nD τ) ↦[(aV ![b, 0, 128 * t] h).view.set]{fullShare} f : sProp 𝕄) = aP c b t f := by
  unfold aP; rw [squeeze_set cc0_scratch2]; rfl
theorem sV_pts (c : Dev nD) (p : ℕ) (f) (h) :
    ((sV ![p, 0, 0] h).view.loc (c : Thread nD τ) ↦[(sV ![p, 0, 0] h).view.set]{fullShare} f : sProp 𝕄) = sS c p f := by
  unfold sS; rw [squeeze_set cc0_scratch3]; rfl

/-! ## The right operand's chunks -/

def wTok (c : Dev nD) (ch : ℕ) : sProp 𝕄 := iprop(dutyTok ER (dC c (1 + ch % 2)) (ch / 2) 0 ∗ wW m c ch)
def wFly (c : Dev nD) (ch : ℕ) : sProp 𝕄 := iprop(cred (tallyAt (dC c (1 + ch % 2)) () woN) ∗ atPos ER (dC c (1 + ch % 2)) (ch / 2) ∅ 0)
def wSlot (c : Dev nD) (n : ℕ) : sProp 𝕄 := if n < 2 then iprop(∃ f, woS c (n % 2) f) else woS c (n % 2) (woBuf m c (n - 2))
def wCell (c : Dev nD) (n : ℕ) : sProp 𝕄 :=
  iprop(atPos ER (dC c (1 + n % 2)) (n / 2) ∅ 0 ∗ reached ER (dC c (1 + n % 2)) (n / 2) ∗ wSlot m c n)
/-- `ws` chunks started and `ww` of them waited for. -/
def WSt (c : Dev nD) (ws ww : ℕ) : sProp 𝕄 :=
  iprop(bigSep (Finset.Ico ws 8) (wTok m c) ∗ bigSep (Finset.Ico ww ws) (wFly (F := F) c) ∗ bigSep (Finset.Ico ws (ww + 2)) (wCell m c)
    ∗ bigSep (Finset.range ww) (wW m c))

theorem wSlot_some (c : Dev nD) (n : ℕ) : wSlot m c n ⊢ iprop(∃ f, woS c (n % 2) f) := by
  unfold wSlot; split
  · iintro H; iexact H
  · iintro H; iexists _; iexact H

section
variable (c : Dev nD) {b i j e : ℕ} {α : Type}

theorem wo_start {Q : α → sProp 𝕄} {R : sProp 𝕄} {ws ww : ℕ} (h1 : ws < 8 := by omega) (h2 : ww ≤ ws := by omega) (h3 : ws < ww + 2 := by omega) {s : DmaSem sig} (hs : s = sD (1 + ws % 2) := by decide +kernel)
    {o1 : Fin 2 → ℕ} {o2 : Fin 3 → ℕ} {ho1 ho2} (e1 : o1 = ![0, 512 * ws] := by decide +kernel) (e2 : o2 = ![ws % 2, 0, 0] := by decide +kernel) {h1' h2' h3'}
    {k : PUnit → Prog (TpuEff nD τ sig (Elt F) Λ₀ .tc) α}
    (hk : iprop(Own m K c b i j e ∗ WSt m c (ws + 1) ww ∗ R) ⊢ WP c (k ⟨⟩) Q) :
    iprop(Own m K c b i j e ∗ WSt m c ws ww ∗ R)
      ⊢ WP c (.op (.enqueueDma (wV o1 ho1) (.here (woV o2 ho2)) (.dma s) h1' h2' h3') k) Q := by
  subst hs e1 e2
  rw [show WSt m c ws ww = iprop((wTok m c ws ∗ bigSep (Finset.Ico (ws + 1) 8) (wTok m c)) ∗ bigSep (Finset.Ico ww ws) (wFly (F := F) c)
    ∗ (wCell m c ws ∗ bigSep (Finset.Ico (ws + 1) (ww + 2)) (wCell m c)) ∗ bigSep (Finset.range ww) (wW m c)) by
      unfold WSt; rw [bigSep_Ico_succ_bot h1, bigSep_Ico_succ_bot h3]]
  unfold Own wTok wCell at *
  iintro ⟨⟨#HC, HO⟩, ⟨⟨⟨Ht, Hw⟩, HT⟩, HF, ⟨⟨Ha, Hr, Hs⟩, HCe⟩, HD⟩, HR⟩
  ihave Hs := (wSlot_some m c ws) $$ Hs
  icases Hs with ⟨%f, Hs⟩
  iapply (copy_d m K c (1 + ws % 2) (ws / 2) 0 (by omega) (by rw [dDut_wo c _ _ (by omega) (by omega)]; exact Finset.mem_singleton_self _)
    (src := wV _ ho1) (dst := woV _ ho2) ((rfl : _ = woN).trans (dAmt_wo _ (by omega)).symm) (wA m c) f (woBuf m c ws)
    (fun j => read_wo m c ws h1 ho2 ho1 j)
    (by rw [dPay_wo]; unfold woPay; rw [wV_pts, woV_pts])) $$ [Hw Hs Ht Hr]
  · isplitr; · iexact HC
    isplitl [Hw]; · rw [wV_pts]; iexact Hw
    isplitl [Hs]; · rw [woV_pts]; iexact Hs
    isplitl [Ht]; · iexact Ht
    iexact Hr
  iintro Hc
  iapply hk
  isplitl [HO]
  · isplitr; · iexact HC
    iexact HO
  isplitr [HR]
  · unfold WSt
    rw [bigSep_Ico_succ_top h2]
    isplitl [HT]; · iexact HT
    isplitl [HF Hc Ha]
    · isplitl [Hc Ha]
      · unfold wFly
        isplitl [Hc]
        · rw [dAmt_wo _ (by omega)]; iexact Hc
        iexact Ha
      iexact HF
    isplitl [HCe]; · iexact HCe
    iexact HD
  iexact HR

theorem range_succ' (n : ℕ) (Φ : ℕ → sProp 𝕄) : bigSep (Finset.range (n + 1)) Φ = iprop(bigSep (Finset.range n) Φ ∗ Φ n) := by
  rw [bigSep_range_succ]; exact BI.sep_comm.antisymm BI.sep_comm
theorem union' {ι : Type} [DecidableEq ι] {s t : Finset ι} (h : Disjoint s t) {Φ : ι → sProp 𝕄} : bigSep (s ∪ t) Φ = iprop(bigSep s Φ ∗ bigSep t Φ) :=
  bigSep_union h
theorem erase' {ι : Type} [DecidableEq ι] {s : Finset ι} {i : ι} (h : i ∈ s) {Φ : ι → sProp 𝕄} : bigSep s Φ = iprop(Φ i ∗ bigSep (s.erase i) Φ) :=
  bigSep_erase h
theorem elim' {ι : Type} [DecidableEq ι] {s : Finset ι} {i : ι} (h : i ∈ s) (Φ : ι → sProp 𝕄) : BIBase.Entails (bigSep s Φ) (Φ i) := bigSep_elim h

theorem own_wait0 {Q : α → sProp 𝕄} (n r : ℕ) (hn : n < 263) (hd : dDut c n r = {0}) (hl : dLv n = 0) {sp sp' : Space} {s : Shape} {y : EltTy}
    {src : Memref sig .tc sp s y} {dst : Memref sig .tc sp' s y} {h1 h2} (hk : dst.view.dmaCredit = dAmt n)
    {k : PUnit → Prog (TpuEff nD τ sig (Elt F) Λ₀ .tc) α} :
    iprop(Own m K c b i j e ∗ cred (tallyAt (dC c n) () (dAmt n)) ∗ atPos ER (dC c n) r ∅ 0)
      ⊢ iprop(((Own m K c b i j e ∗ atPos ER (dC c n) (r + 1) ∅ 0 ∗ reached ER (dC c n) (r + 1) ∗ dPay m c n r 0) -∗ WP c (k ⟨⟩) Q)
        -∗ WP c (.op (.waitDma2 (sD n) src dst h1 h2) k) Q) :=
  wait_d m K c n r hn hd hk (fun _ => by omega) (fun k _ h => by have := lv_g1 c k h; omega)
    (fun k _ h => by have := lv_g2 c k h; omega) (fun _ => by omega)

theorem wo_wait {Q : α → sProp 𝕄} {R : sProp 𝕄} {ws ww : ℕ} (h1 : ww < ws := by omega) (h2 : ws ≤ ww + 2 := by omega) (h3 : ws ≤ 8 := by omega) {s : DmaSem sig} (hs : s = sD (1 + ww % 2) := by decide +kernel)
    {sp sp' : Space} {sh : Shape} {y : EltTy} {src : Memref sig .tc sp sh y} {dst : Memref sig .tc sp' sh y} {h1' h2'} (hd : dst.view.dmaCredit = woN := by rfl)
    {k : PUnit → Prog (TpuEff nD τ sig (Elt F) Λ₀ .tc) α}
    (hk : iprop(Own m K c b i j e ∗ WSt m c ws (ww + 1) ∗ R) ⊢ WP c (k ⟨⟩) Q) :
    iprop(Own m K c b i j e ∗ WSt m c ws ww ∗ R) ⊢ WP c (.op (.waitDma2 s src dst h1' h2') k) Q := by
  subst hs
  rw [show WSt m c ws ww = iprop(bigSep (Finset.Ico ws 8) (wTok m c) ∗ (wFly (F := F) c ww ∗ bigSep (Finset.Ico (ww + 1) ws) (wFly (F := F) c))
    ∗ bigSep (Finset.Ico ws (ww + 2)) (wCell m c) ∗ bigSep (Finset.range ww) (wW m c)) by
      unfold WSt; rw [bigSep_Ico_succ_bot h1]]
  rw [show WSt m c ws (ww + 1) = iprop(bigSep (Finset.Ico ws 8) (wTok m c) ∗ bigSep (Finset.Ico (ww + 1) ws) (wFly (F := F) c)
    ∗ (wCell m c (ww + 2) ∗ bigSep (Finset.Ico ws (ww + 2)) (wCell m c)) ∗ (bigSep (Finset.range ww) (wW m c) ∗ wW m c ww)) by
      unfold WSt; rw [range_succ', show ww + 1 + 2 = ww + 2 + 1 from rfl, bigSep_Ico_succ_top h2]] at hk
  unfold wFly wCell at *
  iintro ⟨HO, ⟨HT, ⟨⟨Hc, Ha⟩, HF⟩, HCe, HD⟩, HR⟩
  iapply (own_wait0 m K c (1 + ww % 2) (ww / 2) (by omega) (dDut_wo c _ _ (by omega) (by omega)) (by unfold dLv; rw [if_pos (by omega)])
    (hd.trans (dAmt_wo _ (by omega)).symm)) $$ [HO Hc Ha]
  · isplitl [HO]; · iexact HO
    isplitl [Hc]; · rw [dAmt_wo _ (by omega)]; iexact Hc
    iexact Ha
  rw [dPay_wo]
  unfold woPay
  iintro ⟨HO, Ha, Hr, Hs, Hw⟩
  iapply hk
  isplitl [HO]; · iexact HO
  isplitr [HR]
  · isplitl [HT]; · iexact HT
    isplitl [HF]; · iexact HF
    isplitr [HD Hw]
    · isplitr [HCe]
      · rw [show (ww + 2) % 2 = ww % 2 by omega, show (ww + 2) / 2 = ww / 2 + 1 by omega]
        isplitl [Ha]; · iexact Ha
        isplitl [Hr]; · iexact Hr
        unfold wSlot
        rw [if_neg (by omega), show (ww + 2) % 2 = ww % 2 by omega, show ww + 2 - 2 = ww by omega]
        iexact Hs
      iexact HCe
    isplitl [HD]; · iexact HD
    iexact Hw
  iexact HR

/-- Reading the chunk `ch` in its slot. -/
theorem wo_load {Q : α → sProp 𝕄} {R S : sProp 𝕄} {ws ww : ℕ} (ch : ℕ) (h1 : ws ≤ ch + 2 := by omega) (h2 : ch < ww := by omega) {o : Fin 3 → ℕ} {ho} (eo : o = ![ch % 2, 0, 0] := by decide +kernel) {h1'}
    {k : (S1x2048x512.Idx → Elt F .f32) → Prog (TpuEff nD τ sig (Elt F) Λ₀ .tc) α}
    (hk : iprop(S ∗ WSt m c ws ww ∗ R) ⊢ WP c (k (woM.view.readAt (Elt F) (Rect.unit (s := S2x2048x512) o S1x2048x512.size ho).toLoadRect (woBuf m c ch))) Q) :
    iprop(S ∗ WSt m c ws ww ∗ R) ⊢ WP c (.op (.load woM (Rect.unit (s := S2x2048x512) o S1x2048x512.size ho).toLoadRect h1') k) Q := by
  subst eo
  rw [show WSt m c ws ww = iprop(bigSep (Finset.Ico ws 8) (wTok m c) ∗ bigSep (Finset.Ico ww ws) (wFly (F := F) c)
    ∗ (wCell m c (ch + 2) ∗ bigSep ((Finset.Ico ws (ww + 2)).erase (ch + 2)) (wCell m c)) ∗ bigSep (Finset.range ww) (wW m c)) by
      unfold WSt; rw [erase' (s := Finset.Ico ws (ww + 2)) (Finset.mem_Ico.mpr ⟨h1, by omega⟩)]] at *
  unfold wCell wSlot at *
  rw [if_neg (by omega), show ch + 2 - 2 = ch by omega, show (ch + 2) % 2 = ch % 2 by omega] at *
  iintro ⟨HO, ⟨HT, HF, ⟨⟨Ha, Hr, Hs⟩, HCe⟩, HD⟩, HR⟩
  ihave Hs := (Entails.of_eq (show woS c (ch % 2) (woBuf m c ch) = _ from rfl)) $$ Hs
  unfold woS
  iapply (wp_load 𝒱₀ (c : Thread nD τ) none Set.univ (m := woM) (le_of_eq (setOn_whole cc0_scratch0 _ _ _))) $$ Hs; iintro Hs
  iapply hk
  isplitl [HO]; · iexact HO
  isplitr [HR]
  · isplitl [HT]; · iexact HT
    isplitl [HF]; · iexact HF
    isplitr [HD]
    · isplitr [HCe]
      · isplitl [Ha]; · iexact Ha
        isplitl [Hr]; · iexact Hr
        unfold woS
        iexact Hs
      iexact HCe
    iexact HD
  iexact HR

/-! ## The left operand's batches -/

def cTok (c : Dev nD) (q : ℕ) : sProp 𝕄 := iprop(dutyTok ER (dC c (3 + q % 2)) (q / 2) 0 ∗ xW m c q)
def cFly (c : Dev nD) (q : ℕ) : sProp 𝕄 := iprop(cred (tallyAt (dC c (3 + q % 2)) () a3N) ∗ atPos ER (dC c (3 + q % 2)) (q / 2) ∅ 0)
def cCell (c : Dev nD) (n : ℕ) : sProp 𝕄 := iprop(atPos ER (dC c (3 + n % 2)) (n / 2) ∅ 0 ∗ reached ER (dC c (3 + n % 2)) (n / 2))
def cSlot (c : Dev nD) (n : ℕ) : sProp 𝕄 := iprop(∃ f, a3S (F := F) c (n % 2) f)
/-- Piece `t` is head `t % 16` of batch `t / 16`. -/
def pSrc (c : Dev nD) (t : ℕ) : sProp 𝕄 := a3P c (t / 16 % 2) (t % 16) (a3Buf m c (t / 16))
def pTok (c : Dev nD) (t : ℕ) : sProp 𝕄 :=
  iprop(dutyTok ER (dC c (5 + t / 16 % 2)) (t / 16 / 2) (⟨t % 16, Nat.mod_lt _ (by decide)⟩ : Fin 16) ∗ ∃ f, aP (F := F) c (t / 16) (t % 16) f)
def pFly (c : Dev nD) (t : ℕ) : sProp 𝕄 := cred (tallyAt (dC c (5 + t / 16 % 2)) () aN)
abbrev pCell (c : Dev nD) (n : ℕ) : sProp 𝕄 := reached ER (dC c (5 + n % 2)) (n / 2)
def pCur (c : Dev nD) (tb u : ℕ) : sProp 𝕄 :=
  iprop(∃ S : Finset (Fin 16), ⌜u = 0 → S = ∅⌝ ∗ atPos ER (dC c (5 + tb % 2)) (tb / 2) S (u * aN) ∗ bigSep S fun d => aPay m c tb d.val)
/-- `cs` batches started and `cw` waited for; `tb` batches wholly transposed and `u` pieces of the next; `ts` pieces started. -/
def CSt (c : Dev nD) (cs cw tb u ts : ℕ) : sProp 𝕄 :=
  iprop(bigSep (Finset.Ico cs 4) (cTok m c) ∗ bigSep (Finset.Ico cw cs) (cFly (F := F) c) ∗ bigSep (Finset.Ico cs (cw + 2)) (cCell (F := F) c)
    ∗ bigSep (Finset.Ico cs (tb + 2)) (cSlot (F := F) c) ∗ bigSep (Finset.range cw) (xW m c)
    ∗ bigSep (Finset.Ico ts (16 * cw)) (pSrc m c) ∗ bigSep (Finset.Ico ts 64) (pTok (F := F) c) ∗ bigSep (Finset.Ico (16 * tb + u) ts) (pFly (F := F) c)
    ∗ pCur m c tb u ∗ atPos ER (dC c (5 + (tb + 1) % 2)) ((tb + 1) / 2) ∅ 0 ∗ bigSep (Finset.range (tb + 2)) (pCell (F := F) c)
    ∗ bigSep (Finset.range tb) fun q => aR c q (aBuf m c))

theorem a3_split (c : Dev nD) (p : ℕ) (f) : a3S (F := F) c p f = bigSep (Finset.range 16) fun t => a3P c p t f := by
  unfold a3S a3P
  rw [box_split (s := S2x256x16x128) (off := ![p, 0, 0, 0]) (size := S1x256x16x128.size) (size' := S1x256x1x128.size) (off' := fun t => ![p, 0, t, 0])
    2 1 16 (by decide) rfl rfl (fun t => by show t = 0 + 1 * t; omega)
    (fun x hx => by fin_cases x <;> first | exact absurd rfl hx | exact ⟨rfl, fun t => rfl⟩)]
  exact pointsTo_biUnion _ _ fun t _ t' _ h => box_split_disjoint (s := S2x256x16x128) (size' := S1x256x1x128.size) (off' := fun t => ![p, 0, t, 0]) (o := 0) 2 1 rfl (fun t => by show t = 0 + 1 * t; omega) h
theorem a_split (c : Dev nD) (q : ℕ) (f) : aR (F := F) c q f = bigSep (Finset.range 16) fun t => aP c q t f := by
  unfold aR aP
  rw [box_split (s := S4x256x2048) (off := ![q, 0, 0]) (size := S1x256x2048.size) (size' := S1x256x128.size) (off' := fun t => ![q, 0, 128 * t])
    2 128 16 (by decide) rfl rfl (fun t => by show 128 * t = 0 + 128 * t; omega)
    (fun x hx => by fin_cases x <;> first | exact absurd rfl hx | exact ⟨rfl, fun t => rfl⟩)]
  exact pointsTo_biUnion _ _ fun t _ t' _ h => box_split_disjoint (s := S4x256x2048) (size' := S1x256x128.size) (off' := fun t => ![q, 0, 128 * t]) (o := 0) 2 128 rfl (fun t => by show 128 * t = 0 + 128 * t; omega) h

theorem bigSep_fin16 (Φ : ℕ → sProp 𝕄) : bigSep (Finset.univ : Finset (Fin 16)) (fun d => Φ d.val) = bigSep (Finset.range 16) Φ := by
  rw [show Finset.range 16 = (Finset.univ : Finset (Fin 16)).map Fin.valEmbedding by decide, bigSep_map]; rfl

theorem pieces (c : Dev nD) (q : ℕ) : a3S c (q % 2) (a3Buf m c q) = bigSep (Finset.Ico (16 * q) (16 * q + 16)) (pSrc m c) := by
  rw [a3_split, show Finset.Ico (16 * q) (16 * q + 16) = (Finset.range 16).map ⟨fun t => 16 * q + t, fun a b h => by dsimp only at h; omega⟩ from by
    ext x; simp only [Finset.mem_Ico, Finset.mem_map, Finset.mem_range, Function.Embedding.coeFn_mk]
    exact ⟨fun h => ⟨x - 16 * q, by omega, by show 16 * q + (x - 16 * q) = x; omega⟩, fun ⟨y, h1, h2⟩ => by
      have h2 : 16 * q + y = x := h2
      omega⟩, bigSep_map]
  refine bigSep_congr fun t ht => ?_
  have ht := Finset.mem_range.mp ht
  show _ = pSrc m c (16 * q + t)
  unfold pSrc
  rw [show (16 * q + t) / 16 = q by omega, show (16 * q + t) % 16 = t by omega]

theorem c_start {Q : α → sProp 𝕄} {R W : sProp 𝕄} {cs cw tb u ts : ℕ} (h1 : cs < 4 := by omega) (h2 : cw ≤ cs := by omega) (h3 : cs < cw + 2 := by omega) (h4 : cs < tb + 2 := by omega)
    {s : DmaSem sig} (hs : s = sD (3 + cs % 2) := by decide +kernel)
    {o1 : Dev nD → Fin 4 → ℕ} {o2 : Fin 4 → ℕ} {ho1 ho2} (e1 : ∀ c, o1 c = ![cs, base c, 0, 0] := by decide +kernel) (e2 : o2 = ![cs % 2, 0, 0, 0] := by decide +kernel) {h1' h2' h3'}
    {k : PUnit → Prog (TpuEff nD τ sig (Elt F) Λ₀ .tc) α}
    (hk : iprop(Own m K c b i j e ∗ W ∗ CSt m c (cs + 1) cw tb u ts ∗ R) ⊢ WP c (k ⟨⟩) Q) :
    iprop(Own m K c b i j e ∗ W ∗ CSt m c cs cw tb u ts ∗ R)
      ⊢ WP c (.op (.enqueueDma (xV (o1 c) ho1) (.here (a3V o2 ho2)) (.dma s) h1' h2' h3') k) Q := by
  have e1 := e1 c
  revert ho1 h1'
  generalize o1 c = o at e1
  subst e1
  intro ho1 h1'
  subst hs e2
  unfold CSt at *
  rw [bigSep_Ico_succ_bot h1, bigSep_Ico_succ_bot h3, bigSep_Ico_succ_bot h4]
  rw [bigSep_Ico_succ_top h2] at hk
  unfold Own cTok cCell cSlot at *
  iintro ⟨⟨#HC, HO⟩, HW, ⟨⟨⟨Ht, Hx⟩, HT⟩, HF, ⟨⟨Ha, Hr⟩, HCe⟩, ⟨⟨%f, Hs⟩, HSl⟩, Hrest⟩, HR⟩
  iapply (copy_d m K c (3 + cs % 2) (cs / 2) 0 (by omega) (by rw [dDut_c c _ _ (by omega) (by omega)]; exact Finset.mem_singleton_self _)
    (src := xV _ ho1) (dst := a3V _ ho2) ((rfl : _ = a3N).trans (dAmt_c _ (by omega)).symm) (xA m c) f (a3Buf m c cs)
    (fun j => read_contig m c cs (cs % 2) h1 ho2 ho1 j)
    (by rw [dPay_c]; unfold cPay; rw [xV_pts, a3V_pts])) $$ [Hx Hs Ht Hr]
  · isplitr; · iexact HC
    isplitl [Hx]; · rw [xV_pts]; iexact Hx
    isplitl [Hs]; · rw [a3V_pts]; iexact Hs
    isplitl [Ht]; · iexact Ht
    iexact Hr
  iintro Hc
  iapply hk
  isplitl [HO]
  · isplitr; · iexact HC
    iexact HO
  isplitl [HW]; · iexact HW
  isplitr [HR]
  · isplitl [HT]; · iexact HT
    isplitl [HF Hc Ha]
    · isplitl [Hc Ha]
      · unfold cFly
        isplitl [Hc]
        · rw [dAmt_c _ (by omega)]; iexact Hc
        iexact Ha
      iexact HF
    isplitl [HCe]; · iexact HCe
    isplitl [HSl]; · iexact HSl
    iexact Hrest
  iexact HR

theorem c_wait {Q : α → sProp 𝕄} {R W : sProp 𝕄} {cs cw tb u ts : ℕ} (h1 : cw < cs := by omega) (h2 : cs ≤ cw + 2 := by omega) (h3 : cs ≤ 4 := by omega) (h4 : ts ≤ 16 * cw := by omega)
    {s : DmaSem sig} (hs : s = sD (3 + cw % 2) := by decide +kernel)
    {sp sp' : Space} {sh : Shape} {y : EltTy} {src : Memref sig .tc sp sh y} {dst : Memref sig .tc sp' sh y} {h1' h2'} (hd : dst.view.dmaCredit = a3N := by rfl)
    {k : PUnit → Prog (TpuEff nD τ sig (Elt F) Λ₀ .tc) α}
    (hk : iprop(Own m K c b i j e ∗ W ∗ CSt m c cs (cw + 1) tb u ts ∗ R) ⊢ WP c (k ⟨⟩) Q) :
    iprop(Own m K c b i j e ∗ W ∗ CSt m c cs cw tb u ts ∗ R) ⊢ WP c (.op (.waitDma2 s src dst h1' h2') k) Q := by
  subst hs
  unfold CSt at *
  rw [bigSep_Ico_succ_bot h1]
  rw [range_succ', show cw + 1 + 2 = cw + 2 + 1 from rfl, bigSep_Ico_succ_top h2, show 16 * (cw + 1) = 16 * cw + 16 by omega,
    ← Finset.Ico_union_Ico_eq_Ico h4 (show 16 * cw ≤ 16 * cw + 16 by omega), union' (Finset.Ico_disjoint_Ico_consecutive _ _ _), ← pieces] at hk
  unfold cFly cCell at *
  iintro ⟨HO, HW, ⟨HT, ⟨⟨Hc, Ha⟩, HF⟩, HCe, HSl, HX, HP, Hrest⟩, HR⟩
  iapply (own_wait0 m K c (3 + cw % 2) (cw / 2) (by omega) (dDut_c c _ _ (by omega) (by omega)) (by unfold dLv; rw [if_pos (by omega)])
    (hd.trans (dAmt_c _ (by omega)).symm)) $$ [HO Hc Ha]
  · isplitl [HO]; · iexact HO
    isplitl [Hc]; · rw [dAmt_c _ (by omega)]; iexact Hc
    iexact Ha
  rw [dPay_c]
  unfold cPay
  iintro ⟨HO, Ha, Hr, Hs, Hx⟩
  iapply hk
  isplitl [HO]; · iexact HO
  isplitl [HW]; · iexact HW
  isplitr [HR]
  · isplitl [HT]; · iexact HT
    isplitl [HF]; · iexact HF
    isplitl [HCe Ha Hr]
    · isplitr [HCe]
      · rw [show (cw + 2) % 2 = cw % 2 by omega, show (cw + 2) / 2 = cw / 2 + 1 by omega]
        isplitl [Ha]; · iexact Ha
        iexact Hr
      iexact HCe
    isplitl [HSl]; · iexact HSl
    isplitl [HX Hx]
    · isplitl [HX]; · iexact HX
      iexact Hx
    isplitl [HP Hs]
    · isplitl [HP]; · iexact HP
      iexact Hs
    iexact Hrest
  iexact HR

/-! ## The transpositions -/

theorem a_start {Q : α → sProp 𝕄} {R W : sProp 𝕄} {cs cw tb u ts : ℕ} (h1 : ts < 16 * cw := by omega) (h2 : cw ≤ 4 := by omega) (h3 : 16 * tb + u ≤ ts := by omega) (h4 : ts < 16 * (tb + 2) := by omega)
    {s : DmaSem sig} (hs : s = sD (5 + ts / 16 % 2) := by decide +kernel)
    {o1 : Fin 4 → ℕ} {o2 : Fin 3 → ℕ} {ho1 ho2} (e1 : o1 = ![ts / 16 % 2, 0, ts % 16, 0] := by decide +kernel) (e2 : o2 = ![ts / 16, 0, 128 * (ts % 16)] := by decide +kernel) {h1' h2' h3'}
    {k : PUnit → Prog (TpuEff nD τ sig (Elt F) Λ₀ .tc) α}
    (hk : iprop(Own m K c b i j e ∗ W ∗ CSt m c cs cw tb u (ts + 1) ∗ R) ⊢ WP c (k ⟨⟩) Q) :
    iprop(Own m K c b i j e ∗ W ∗ CSt m c cs cw tb u ts ∗ R)
      ⊢ WP c (.op (.enqueueDma (hV o1 ho1) (.here (aV o2 ho2)) (.dma s) h1' h2' h3') k) Q := by
  subst hs e1 e2
  unfold CSt at *
  rw [bigSep_Ico_succ_bot h1, bigSep_Ico_succ_bot (show ts < 64 by omega)]
  rw [bigSep_Ico_succ_top h3] at hk
  unfold Own pTok at *
  iintro ⟨⟨#HC, HO⟩, HW, ⟨HT, HF, HCe, HSl, HX, ⟨Hsrc, HP⟩, ⟨⟨Ht, %f, Hdst⟩, HPT⟩, HFl, Hcur, Hat, Hre, HA⟩, HR⟩
  ihave #Hr := (elim' (Finset.mem_range.mpr (show ts / 16 < tb + 2 by omega)) (pCell (F := F) c)) $$ Hre
  unfold pSrc pCell
  iapply (copy_d m K c (5 + ts / 16 % 2) (ts / 16 / 2) ⟨ts % 16, Nat.mod_lt _ (by decide)⟩ (by omega)
    (by rw [dDut_a c _ _ (by omega) (by omega)]; exact Finset.mem_univ _)
    (src := hV _ ho1) (dst := aV _ ho2) ((rfl : _ = aN).trans (dAmt_a _ (by omega)).symm) (a3Buf m c (ts / 16)) f (aBuf m c)
    (fun j => read_head m c (ts / 16) (ts / 16 % 2) (ts % 16) (by omega) (by omega) ho2 ho1 j)
    (by rw [dPay_a]; unfold aPay; rw [hV_pts, aV_pts])) $$ [Hsrc Hdst Ht]
  · isplitr; · iexact HC
    isplitl [Hsrc]; · rw [hV_pts]; iexact Hsrc
    isplitl [Hdst]; · rw [aV_pts]; iexact Hdst
    isplitl [Ht]; · iexact Ht
    iexact Hr
  iintro Hc
  iapply hk
  isplitl [HO]
  · isplitr; · iexact HC
    iexact HO
  isplitl [HW]; · iexact HW
  isplitr [HR]
  · isplitl [HT]; · iexact HT
    isplitl [HF]; · iexact HF
    isplitl [HCe]; · iexact HCe
    isplitl [HSl]; · iexact HSl
    isplitl [HX]; · iexact HX
    isplitl [HP]; · iexact HP
    isplitl [HPT]; · iexact HPT
    isplitl [Hc HFl]
    · isplitl [Hc]
      · unfold pFly; rw [dAmt_a _ (by omega)]; iexact Hc
      iexact HFl
    isplitl [Hcur]; · iexact Hcur
    isplitl [Hat]; · iexact Hat
    isplitl [Hre]; · iexact Hre
    iexact HA
  iexact HR

theorem a_wait {Q : α → sProp 𝕄} {R W : sProp 𝕄} {cs cw tb u ts : ℕ} (h1 : u < 15 := by omega) (h2 : 16 * tb + u < ts := by omega) (h3 : tb < 4 := by omega)
    {s : DmaSem sig} (hs : s = sD (5 + tb % 2) := by decide +kernel)
    {sp sp' : Space} {sh : Shape} {y : EltTy} {src : Memref sig .tc sp sh y} {dst : Memref sig .tc sp' sh y} {h1' h2'} (hd : dst.view.dmaCredit = aN := by rfl)
    {k : PUnit → Prog (TpuEff nD τ sig (Elt F) Λ₀ .tc) α}
    (hk : iprop(Own m K c b i j e ∗ W ∗ CSt m c cs cw tb (u + 1) ts ∗ R) ⊢ WP c (k ⟨⟩) Q) :
    iprop(Own m K c b i j e ∗ W ∗ CSt m c cs cw tb u ts ∗ R) ⊢ WP c (.op (.waitDma2 s src dst h1' h2') k) Q := by
  subst hs
  unfold CSt at *
  rw [bigSep_Ico_succ_bot h2]
  unfold Own pCur at *
  iintro ⟨⟨#HC, %Ws, HO⟩, HW, ⟨HT, HF, HCe, HSl, HX, HP, HPT, ⟨Hc, HFl⟩, ⟨%S, %hS0, Hat, Hpay⟩, Hrest⟩, HR⟩
  unfold pFly
  rw [show (16 * tb + u) / 16 = tb by omega, show 16 * tb + u + 1 = 16 * tb + (u + 1) by omega]
  ihave #HI := (Ctx_d m K c (5 + tb % 2) (by omega)) $$ HC
  icases HI with ⟨#HI, -⟩
  iapply (Rounds.wp_wait 𝒱₀ ER (Rd m) (c : Thread nD τ) none (κ := kd K c (5 + tb % 2))
      (wpE_waitDma2_eq 𝒱₀ (c : Thread nD τ) none Set.univ) (Set.mem_univ _) (cr := Finsupp.single () aN) {(SemLoc.dma (sD (5 + tb % 2)), ())} (O := Ow c b i j e) (W := Ws)
      (R := tb / 2) (m := u * aN) (T := S) ((Idealize.SL.Util.total_single _ _).trans hd.symm)
      (by intro p hp; obtain ⟨x, -, rfl⟩ := Finset.mem_image.mp hp; exact Finset.mem_singleton_self _)) $$ [Hc HO Hat]
  · isplitr; · iexact HI
    isplitl [Hc]; · iexact Hc
    isplitl [HO]; · iexact HO
    isplitr
    · ihave Hl := (Ctx_lev m K) $$ HC
      iapply (mayWait_Ow c (.dma (sD (5 + tb % 2))) 0 b i j e
        (le_of_eq ((lv_d c _ (by omega)).trans (by unfold dLv; rw [if_pos (by omega)])))
        (fun _ => by omega) (fun k _ h => by have := lv_g1 c k h; omega) (fun k _ h => by have := lv_g2 c k h; omega) (fun _ => by omega))
      iexact Hl
    iexact Hat
  iintro %S' ⟨%hS, HO, Hat, Hnew⟩
  iapply hk
  isplitl [HO]
  · isplitr; · iexact HC
    iexists _; iexact HO
  isplitl [HW]; · iexact HW
  isplitr [HR]
  · isplitl [HT]; · iexact HT
    isplitl [HF]; · iexact HF
    isplitl [HCe]; · iexact HCe
    isplitl [HSl]; · iexact HSl
    isplitl [HX]; · iexact HX
    isplitl [HP]; · iexact HP
    isplitl [HPT]; · iexact HPT
    isplitl [HFl]; · iexact HFl
    isplitl [Hat Hpay Hnew]
    · iexists S'
      isplitr; · ipureintro; intro h; omega
      isplitl [Hat]
      · rw [show (u + 1) * aN = u * aN + dst.view.dmaCredit by rw [hd, Nat.succ_mul]]; iexact Hat
      rw [show bigSep S' (fun d => aPay m c tb d.val) = iprop(bigSep S (fun d => aPay m c tb d.val) ∗ bigSep (S' \ S) (fun d => aPay m c tb d.val)) by
        rw [← union' Finset.disjoint_sdiff, Finset.union_sdiff_of_subset hS.1]]
      isplitl [Hpay]; · iexact Hpay
      iapply (Entails.of_eq (bigSep_congr fun d _ => (payload_d m c (5 + tb % 2) (tb / 2) d (by omega)).trans (dPay_a m c tb d.val)))
      iexact Hnew
    iexact Hrest
  iexact HR

theorem a_wait_last {Q : α → sProp 𝕄} {R W : sProp 𝕄} {cs cw tb ts : ℕ} (h2 : 16 * tb + 15 < ts := by omega) (h3 : tb < 4 := by omega) (h4 : cs ≤ tb + 2 := by omega)
    {s : DmaSem sig} (hs : s = sD (5 + tb % 2) := by decide +kernel)
    {sp sp' : Space} {sh : Shape} {y : EltTy} {src : Memref sig .tc sp sh y} {dst : Memref sig .tc sp' sh y} {h1' h2'} (hd : dst.view.dmaCredit = aN := by rfl)
    {k : PUnit → Prog (TpuEff nD τ sig (Elt F) Λ₀ .tc) α}
    (hk : iprop(Own m K c b i j e ∗ W ∗ CSt m c cs cw (tb + 1) 0 ts ∗ R) ⊢ WP c (k ⟨⟩) Q) :
    iprop(Own m K c b i j e ∗ W ∗ CSt m c cs cw tb 15 ts ∗ R) ⊢ WP c (.op (.waitDma2 s src dst h1' h2') k) Q := by
  subst hs
  unfold CSt at *
  rw [bigSep_Ico_succ_bot h2]
  rw [range_succ' tb, show tb + 1 + 2 = tb + 2 + 1 from rfl, bigSep_Ico_succ_top h4, range_succ' (tb + 2)] at hk
  unfold Own pCur at *
  iintro ⟨⟨#HC, %Ws, HO⟩, HW, ⟨HT, HF, HCe, HSl, HX, HP, HPT, ⟨Hc, HFl⟩, ⟨%S, %hS0, Hat, Hpay⟩, Hat', Hre, HA⟩, HR⟩
  unfold pFly
  rw [show (16 * tb + 15) / 16 = tb by omega, show 16 * tb + 15 + 1 = 16 * (tb + 1) + 0 by omega]
  ihave #HI := (Ctx_d m K c (5 + tb % 2) (by omega)) $$ HC
  icases HI with ⟨#HI, -⟩
  have hdut : (Rd m).duties (dC c (5 + tb % 2)) (tb / 2) = Finset.univ := by
    rw [duties_d m c _ _ (by omega), dDut_a c _ _ (by omega) (by omega)]
  iapply (Rounds.wp_wait_rest_token 𝒱₀ ER (Rd m) (c : Thread nD τ) none (κ := kd K c (5 + tb % 2))
      (wpE_waitDma2_eq 𝒱₀ (c : Thread nD τ) none Set.univ) (Set.mem_univ _) () (O := Ow c b i j e) (W := Ws)
      (R := tb / 2) (m := 15 * aN) (T := S) (by
        rw [expect_d m c _ _ (by omega), dDut_a c _ _ (by omega) (by omega), dAmt_a _ (by omega), hd, Finset.card_univ, Fintype.card_fin]; omega)) $$ [Hc HO Hat]
  · isplitr; · iexact HI
    isplitl [Hc]; · rw [hd]; iexact Hc
    isplitl [HO]; · iexact HO
    isplitr
    · ihave Hl := (Ctx_lev m K) $$ HC
      iapply (mayWait_Ow c (.dma (sD (5 + tb % 2))) 0 b i j e
        (le_of_eq ((lv_d c _ (by omega)).trans (by unfold dLv; rw [if_pos (by omega)])))
        (fun _ => by omega) (fun k _ h => by have := lv_g1 c k h; omega) (fun k _ h => by have := lv_g2 c k h; omega) (fun _ => by omega))
      iexact Hl
    iexact Hat
  iintro ⟨HO, Hat, Hr, Hnew⟩
  ihave Hall := (Entails.of_eq (show iprop(bigSep S (fun d => aPay m c tb d.val) ∗ bigSep ((Rd m).duties (dC c (5 + tb % 2)) (tb / 2) \ S) (fun d => (Rd m).payload (dC c (5 + tb % 2)) (tb / 2) d))
      = iprop(aR c tb (aBuf m c) ∗ a3S c (tb % 2) (a3Buf m c tb)) by
    rw [hdut, bigSep_congr (s := Finset.univ \ S) (fun d _ => (payload_d m c (5 + tb % 2) (tb / 2) d (by omega)).trans (dPay_a m c tb d.val)), ← union' Finset.disjoint_sdiff, Finset.union_sdiff_of_subset (Finset.subset_univ S), bigSep_fin16 (fun t => aPay m c tb t), a_split, a3_split]
    exact bigSep_sep _ _ _)) $$ [Hpay Hnew]
  · isplitl [Hpay]; · iexact Hpay
    iexact Hnew
  icases Hall with ⟨Hrow, Hsl⟩
  iapply hk
  isplitl [HO]
  · isplitr; · iexact HC
    iexists _; iexact HO
  isplitl [HW]; · iexact HW
  isplitr [HR]
  · isplitl [HT]; · iexact HT
    isplitl [HF]; · iexact HF
    isplitl [HCe]; · iexact HCe
    isplitl [HSl Hsl]
    · isplitl [Hsl]
      · unfold cSlot; iexists _; rw [show (tb + 2) % 2 = tb % 2 by omega]; iexact Hsl
      iexact HSl
    isplitl [HX]; · iexact HX
    isplitl [HP]; · iexact HP
    isplitl [HPT]; · iexact HPT
    isplitl [HFl]; · iexact HFl
    isplitl [Hat']
    · iexists ∅
      isplitr; · ipureintro; intro _; rfl
      rw [Nat.zero_mul, bigSep_empty]
      isplitl [Hat']; · iexact Hat'
      iempintro
    rw [show tb + 1 + 1 = tb + 2 from rfl, show (tb + 2) % 2 = tb % 2 by omega, show (tb + 2) / 2 = tb / 2 + 1 by omega]
    isplitl [Hat]; · iexact Hat
    isplitl [Hre Hr]
    · isplitl [Hre]; · iexact Hre
      unfold pCell
      rw [show (tb + 2) % 2 = tb % 2 by omega, show (tb + 2) / 2 = tb / 2 + 1 by omega]
      iexact Hr
    isplitl [HA]; · iexact HA
    iexact Hrow
  iexact HR

/-- Reading batch `q` of the left operand's buffer. -/
theorem a_load {Q : α → sProp 𝕄} {R S W : sProp 𝕄} {cs cw tb u ts : ℕ} (q : ℕ) (h1 : q < tb := by omega) {o : Fin 3 → ℕ} {ho} (eo : o = ![q, 0, 0] := by decide +kernel) {h1'}
    {k : (S1x256x2048.Idx → Elt F .f32) → Prog (TpuEff nD τ sig (Elt F) Λ₀ .tc) α}
    (hk : iprop(S ∗ W ∗ CSt m c cs cw tb u ts ∗ R) ⊢ WP c (k (aM.view.readAt (Elt F) (Rect.unit (s := S4x256x2048) o S1x256x2048.size ho).toLoadRect (aBuf m c))) Q) :
    iprop(S ∗ W ∗ CSt m c cs cw tb u ts ∗ R) ⊢ WP c (.op (.load aM (Rect.unit (s := S4x256x2048) o S1x256x2048.size ho).toLoadRect h1') k) Q := by
  subst eo
  unfold CSt at *
  rw [erase' (s := Finset.range tb) (Finset.mem_range.mpr h1)] at *
  iintro ⟨HO, HW, ⟨HT, HF, HCe, HSl, HX, HP, HPT, HFl, Hcur, Hat', Hre, HA, HA'⟩, HR⟩
  unfold aR
  iapply (wp_load 𝒱₀ (c : Thread nD τ) none Set.univ (m := aM) (le_of_eq (setOn_whole cc0_scratch2 _ _ _))) $$ HA; iintro HA
  iapply hk
  isplitl [HO]; · iexact HO
  isplitl [HW]; · iexact HW
  isplitr [HR]
  · isplitl [HT]; · iexact HT
    isplitl [HF]; · iexact HF
    isplitl [HCe]; · iexact HCe
    isplitl [HSl]; · iexact HSl
    isplitl [HX]; · iexact HX
    isplitl [HP]; · iexact HP
    isplitl [HPT]; · iexact HPT
    isplitl [HFl]; · iexact HFl
    isplitl [Hcur]; · iexact Hcur
    isplitl [Hat']; · iexact Hat'
    isplitl [Hre]; · iexact Hre
    isplitl [HA]; · unfold aR; iexact HA
    iexact HA'
  iexact HR

end

end Cert.KernelIdeal.Proj
-- ==== Proof.RolesN.lean ====
module

public import proofs.«01_k».proof.Proof.Local

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The two roles: what a holder and what another device has at each point, and the rule of each step -/

variable (m : (ℓ : Loc nD τ sig) → Buf (Elt F) ℓ) (K : Dev nD × Fin 265 → ℕ)

abbrev xC (c : Dev nD) (d k : ℕ) : GSem nD τ sig := dC c (7 + 32 * d + k)
def sTok (c : Dev nD) (d : ℕ) (t : Dev nD) (k : ℕ) : sProp 𝕄 :=
  iprop(dutyTok ER (xC c d k) 0 0 ∗ dutyTok ER (xC t (d + 1) k) 0 0 ∗ atPos ER (xC c d k) 0 ∅ 0 ∗ ∃ f, oW (F := F) t (zc c).val k fullShare f)
def xFly (c : Dev nD) (d k : ℕ) : sProp 𝕄 := iprop(cred (tallyAt (xC c d k) () oN) ∗ atPos ER (xC c d k) 0 ∅ 0)
def xDone (c : Dev nD) (d k : ℕ) : sProp 𝕄 := atPos ER (xC c d k) 1 ∅ 0
/-- Direction `d` out: `i` blocks sent to `t`, `q` of them waited for. -/
def SendCh (c : Dev nD) (d : ℕ) (t : Dev nD) (i q : ℕ) : sProp 𝕄 :=
  iprop(bigSep (Finset.Ico i 32) (sTok (F := F) c d t) ∗ bigSep (Finset.Ico q i) (xFly (F := F) c d) ∗ bigSep (Finset.range q) (xDone (F := F) c d))
/-- Direction `d` in: `r` blocks waited for. -/
def RecvCh (c : Dev nD) (d r : ℕ) : sProp 𝕄 :=
  iprop(bigSep (Finset.Ico r 32) (xFly (F := F) c d) ∗ bigSep (Finset.range r) (xDone (F := F) c d))

section
variable (c : Dev nD) {b i j e : ℕ} {α : Type}

theorem send_step {Q : α → sProp 𝕄} {i' j' : ℕ} (t : Dev nD) (d n q : ℕ) (hd : d < 7) (hn : n < 32) (hq : q ≤ n) (hu : used c d = true) (hu' : used t (d + 1) = true)
    {sp : Space} {src : Memref sig .tc sp S256x512 .f32} {o : Fin 4 → ℕ} {ho} (eo : o = ![n % 4, (zc c).val, 0, 512 * (n / 4)]) {s s' : DmaSem sig} {hsc h1 h2 h3} (hs : s = sD (7 + 32 * d + n)) (hs' : s' = sD (7 + 32 * (d + 1) + n))
    {k : PUnit → Prog (TpuEff nD τ sig (Elt F) Λ₀ .tc) α} (sh : PosShare TreeShare)
    (fs : Buf (Elt F) (src.view.loc (c : Thread nD τ))) (G : S4x2x256x4096.Idx → F .f32)
    (hG : ∀ h j, (oV ![n % 4, (zc c).val, 0, 512 * (n / 4)] h).view.read (Elt F) G j = src.view.read (Elt F) fs j)
    (hO : Ow c b i j e = Ow c b i' j' e + tallyAt (xC t (d + 1) n) () oN)
    (hpay₁ : (src.view.loc (c : Thread nD τ) ↦[src.view.set]{sh} fs) ⊢ xPay m c d n)
    (hpay₂ : oW t (zc c).val n fullShare G ⊢ xPay m t (d + 1) n) :
    iprop(Own m K c b i j e ∗ SendCh c d t n q ∗ (src.view.loc (c : Thread nD τ) ↦[src.view.set]{sh} fs))
      ⊢ iprop(((Own m K c b i' j' e ∗ SendCh c d t (n + 1) q) -∗ WP c (k ⟨⟩) Q)
        -∗ WP c (.op (.enqueueDma src (.remote (Dev.tc t : Thread nD τ) (oV o ho) (.dma s) hsc) (.dma s') h1 h2 h3) k) Q) := by
  subst hs hs' eo
  unfold SendCh
  rw [bigSep_Ico_succ_bot hn, bigSep_Ico_succ_top hq]
  unfold Own sTok
  iintro ⟨⟨#HC, %W, HO⟩, ⟨⟨⟨Ht, Ht', Ha, %f, Hd⟩, HT⟩, HF, HD⟩, Hs⟩ Hk
  iapply (send_d m K c t d n hd hn hu hu' (src := src) (dst := oV _ ho) rfl sh fs f G (hG ho) _ _ hO W hpay₁ (by rw [oV_pts]; exact hpay₂)) $$ [HO Hs Hd Ht Ht']
  · isplitr; · iexact HC
    isplitl [HO]; · iexact HO
    isplitl [Hs]; · iexact Hs
    isplitl [Hd]; · rw [oV_pts]; iexact Hd
    isplitl [Ht]; · iexact Ht
    iexact Ht'
  iintro ⟨Hc, HO⟩
  iapply Hk
  isplitl [HO]
  · isplitr; · iexact HC
    iexists _; iexact HO
  isplitl [HT]; · iexact HT
  isplitr [HD]
  · isplitl [Hc Ha]
    · unfold xFly
      isplitl [Hc]; · iexact Hc
      iexact Ha
    iexact HF
  iexact HD

theorem x_wait {Q : α → sProp 𝕄} (d n : ℕ) (hd : d < 8) (hn : n < 32) (hu : used c d = true) {s : DmaSem sig} (hs : s = sD (7 + 32 * d + n))
    {sp sp' : Space} {sh : Shape} {y : EltTy} {src : Memref sig .tc sp sh y} {dst : Memref sig .tc sp' sh y} {h1' h2'} (hdst : dst.view.dmaCredit = oN)
    {k : PUnit → Prog (TpuEff nD τ sig (Elt F) Λ₀ .tc) α} (lvl : ℕ) (hl : dLv (7 + 32 * d + n) = lvl)
    (hb : b < 3 → lvl < 1) (hi : ∀ k, i ≤ k → k < 32 → lvl < lv (g1 c k) ()) (hj : ∀ k, j ≤ k → k < 32 → lvl < lv (g2 c k) ())
    (he : lvl < 1000) :
    iprop(Own m K c b i j e ∗ xFly c d n)
      ⊢ iprop(((Own m K c b i j e ∗ xDone c d n ∗ xPay m c d n) -∗ WP c (k ⟨⟩) Q) -∗ WP c (.op (.waitDma2 s src dst h1' h2') k) Q) := by
  subst hs hl
  iintro ⟨HO, HF⟩ Hk
  unfold xFly xDone
  icases HF with ⟨Hc, Ha⟩
  iapply (wait_d m K c (7 + 32 * d + n) 0 (by omega) (dDut_x c d n hd hn hu) (hdst.trans (dAmt_x d n).symm) hb hi hj (fun _ => he)) $$ [HO Hc Ha]
  · isplitl [HO]; · iexact HO
    isplitl [Hc]; · rw [dAmt_x]; iexact Hc
    iexact Ha
  rw [dPay_x m c d n _ _ hn]
  iintro ⟨HO, Ha, -, Hp⟩
  iapply Hk
  isplitl [HO]; · iexact HO
  isplitl [Ha]; · iexact Ha
  iexact Hp

theorem sendwait_step {Q : α → sProp 𝕄} (t : Dev nD) (d n q : ℕ) (hd : d < 8) (hn : n ≤ 32) (hq : q < n) (hu : used c d = true)
    (he : d = 0 ∨ d = 2 ∨ d = 4 ∨ d = 6) {s : DmaSem sig} (hs : s = sD (7 + 32 * d + q))
    {sp sp' : Space} {sh : Shape} {y : EltTy} {src : Memref sig .tc sp sh y} {dst : Memref sig .tc sp' sh y} {h1' h2'} (hdst : dst.view.dmaCredit = oN)
    {k : PUnit → Prog (TpuEff nD τ sig (Elt F) Λ₀ .tc) α} :
    iprop(Own m K c b i j e ∗ SendCh c d t n q)
      ⊢ iprop(((Own m K c b i j e ∗ SendCh c d t n (q + 1) ∗ xPay m c d q) -∗ WP c (k ⟨⟩) Q) -∗ WP c (.op (.waitDma2 s src dst h1' h2') k) Q) := by
  unfold SendCh
  rw [bigSep_Ico_succ_bot hq, range_succ']
  iintro ⟨HO, HT, ⟨Hx, HF⟩, HD⟩ Hk
  iapply (x_wait m K c (b := b) (i := i) (j := j) d q hd (by omega) hu hs hdst 0 (by rw [dLv_x d q hd (by omega), if_neg (by omega), if_neg (by omega), if_neg (by omega)])
    (fun _ => by omega) (fun k _ h => by have := lv_g1 c k h; omega) (fun k _ h => by have := lv_g2 c k h; omega) (by omega)) $$ [HO Hx]
  · isplitl [HO]; · iexact HO
    iexact Hx
  iintro ⟨HO, Hx, Hp⟩
  iapply Hk
  isplitl [HO]; · iexact HO
  isplitr [Hp]
  · isplitl [HT]; · iexact HT
    isplitl [HF]; · iexact HF
    isplitl [HD]; · iexact HD
    iexact Hx
  iexact Hp

theorem recvwait_step {Q : α → sProp 𝕄} (d r : ℕ) (hd : d < 8) (hr : r < 32) (hu : used c d = true) {s : DmaSem sig} (hs : s = sD (7 + 32 * d + r))
    {sp sp' : Space} {sh : Shape} {y : EltTy} {src : Memref sig .tc sp sh y} {dst : Memref sig .tc sp' sh y} {h1' h2'} (hdst : dst.view.dmaCredit = oN)
    {k : PUnit → Prog (TpuEff nD τ sig (Elt F) Λ₀ .tc) α} (lvl : ℕ) (hl : dLv (7 + 32 * d + r) = lvl)
    (hb : 3 ≤ b) (hi : ∀ k, i ≤ k → k < 32 → lvl < lv (g1 c k) ()) (hj : ∀ k, j ≤ k → k < 32 → lvl < lv (g2 c k) ())
    (he : lvl < 1000) :
    iprop(Own m K c b i j e ∗ RecvCh c d r)
      ⊢ iprop(((Own m K c b i j e ∗ RecvCh c d (r + 1) ∗ xPay m c d r) -∗ WP c (k ⟨⟩) Q) -∗ WP c (.op (.waitDma2 s src dst h1' h2') k) Q) := by
  unfold RecvCh
  rw [bigSep_Ico_succ_bot hr, range_succ']
  iintro ⟨HO, ⟨Hx, HF⟩, HD⟩ Hk
  iapply (x_wait m K c (b := b) (i := i) (j := j) d r hd hr hu hs hdst lvl hl (fun h => absurd h (by omega)) hi hj he) $$ [HO Hx]
  · isplitl [HO]; · iexact HO
    iexact Hx
  iintro ⟨HO, Hx, Hp⟩
  iapply Hk
  isplitl [HO]; · iexact HO
  isplitr [Hp]
  · isplitl [HF]; · iexact HF
    isplitl [HD]; · iexact HD
    iexact Hx
  iexact Hp

/-! ## A device that is not a holder -/

def sAny (c : Dev nD) (n : ℕ) : sProp 𝕄 := iprop(∃ f, sS (F := F) c (n % 2) f)
def sFull (c : Dev nD) (k : ℕ) : sProp 𝕄 := sS c (k % 2) (sBuf m c k)
def oOwn (c : Dev nD) (k : ℕ) : sProp 𝕄 := oW c (zc c).val k fullShare (outBuf m c)
def oFar (c : Dev nD) (k : ℕ) : sProp 𝕄 := oW c (zo c).val k fullShare (outBuf m c)
def oL (c : Dev nD) (k : ℕ) : sProp 𝕄 := oW c (zc c).val k fullShare.left (outBuf m c)
def oR (c : Dev nD) (k : ℕ) : sProp 𝕄 := oW c (zc c).val k fullShare.right (outBuf m c)
def oP (c : Dev nD) (k : ℕ) : sProp 𝕄 := oW c (zc c).val k fullShare (pBuf m (nbr0 c))

theorem xPay_0 (c : Dev nD) (k : ℕ) : xPay m c 0 k = sAny (F := F) c k := if_pos rfl
theorem xPay_1 (c : Dev nD) (k : ℕ) : xPay m c 1 k = oP m c k := by unfold xPay; rw [if_neg (by decide), if_pos rfl]; rfl
theorem xPay_2 (c : Dev nD) (k : ℕ) : xPay m c 2 k = oL m c k := by
  unfold xPay; rw [if_neg (by decide), if_neg (by decide), if_pos rfl]; rfl
theorem xPay_3 (c : Dev nD) (k : ℕ) : xPay m c 3 k = oOwn m c k := by
  unfold xPay; rw [if_neg (by decide), if_neg (by decide), if_neg (by decide), if_pos rfl]; rfl
theorem xPay_4 (c : Dev nD) (k : ℕ) : xPay m c 4 k = oR m c k := by
  unfold xPay; rw [if_neg (by decide), if_neg (by decide), if_neg (by decide), if_neg (by decide), if_pos rfl]; rfl
theorem xPay_5 (c : Dev nD) (k : ℕ) : xPay m c 5 k = oFar m c k := by
  unfold xPay; rw [if_neg (by decide), if_neg (by decide), if_neg (by decide), if_neg (by decide), if_neg (by decide), if_neg (by decide)]; rfl
theorem xPay_6 (c : Dev nD) (k : ℕ) : xPay m c 6 k = oOwn m c k := by
  unfold xPay; rw [if_neg (by decide), if_neg (by decide), if_neg (by decide), if_neg (by decide), if_neg (by decide), if_pos rfl]; rfl
theorem xPay_7 (c : Dev nD) (k : ℕ) : xPay m c 7 k = oFar m c k := by
  unfold xPay; rw [if_neg (by decide), if_neg (by decide), if_neg (by decide), if_neg (by decide), if_neg (by decide), if_neg (by decide)]; rfl

/-- `st` blocks stored in the outgoing buffer, `yi` sent across `y` and `ys` of those waited for; `xr` results received, `fi` of
    them forwarded across `z` and `fq` of those waited for; `fr` received across `z`. -/
def NSt (c : Dev nD) (yi ys st xr fi fq fr : ℕ) : sProp 𝕄 :=
  iprop(SendCh c 0 (nbr0 c) yi ys ∗ bigSep (Finset.Ico yi st) (sFull m c) ∗ bigSep (Finset.Ico st (ys + 2)) (sAny (F := F) c)
    ∗ RecvCh c 3 xr ∗ bigSep (Finset.Ico fi xr) (oOwn m c) ∗ SendCh c 6 (nbr2 c) fi fq ∗ bigSep (Finset.range fq) (oOwn m c)
    ∗ RecvCh c 7 fr ∗ bigSep (Finset.range fr) (oFar m c))

section
variable (hc : holder c = false)
include hc

theorem n_load {Q : α → sProp 𝕄} {R W C : sProp 𝕄} {yi ys st xr fi fq fr : ℕ} (h1 : st < ys + 2 := by omega) {o : Fin 3 → ℕ} {ho} (eo : o = ![st % 2, 0, 0] := by decide +kernel) {h1'}
    {k : (S1x256x512.Idx → Elt F .f32) → Prog (TpuEff nD τ sig (Elt F) Λ₀ .tc) α}
    (hk : ∀ v, iprop(Own m K c b i j e ∗ W ∗ C ∗ NSt m c yi ys st xr fi fq fr ∗ R) ⊢ WP c (k v) Q) :
    iprop(Own m K c b i j e ∗ W ∗ C ∗ NSt m c yi ys st xr fi fq fr ∗ R)
      ⊢ WP c (.op (.load sM (Rect.unit (s := S2x256x512) o S1x256x512.size ho).toLoadRect h1') k) Q := by
  subst eo
  unfold NSt sAny at *
  rw [bigSep_Ico_succ_bot h1] at *
  iintro ⟨HO, HW, HC, ⟨HS, HB, ⟨⟨%f, Hs⟩, HA⟩, Hrest⟩, HR⟩
  unfold sS
  iapply (wp_load 𝒱₀ (c : Thread nD τ) none Set.univ (m := sM) (le_of_eq (setOn_whole cc0_scratch3 _ _ _))) $$ Hs; iintro Hs
  iapply (hk _)
  isplitl [HO]; · iexact HO
  isplitl [HW]; · iexact HW
  isplitl [HC]; · iexact HC
  isplitr [HR]
  · isplitl [HS]; · iexact HS
    isplitl [HB]; · iexact HB
    isplitl [HA Hs]
    · isplitl [Hs]; · iexists f; unfold sS; iexact Hs
      iexact HA
    iexact Hrest
  iexact HR

theorem n_store {Q : α → sProp 𝕄} {R W C : sProp 𝕄} {yi ys st xr fi fq fr : ℕ} (h1 : st < ys + 2 := by omega) (h2 : yi ≤ st := by omega) {o : Fin 3 → ℕ} {ho} (eo : o = ![st % 2, 0, 0] := by decide +kernel)
    {h1' h2'} {pay : S1x256x512.Idx → Elt F .f32} (hp : pay = k0_pay3 (F := F) (V m c st) := by rfl)
    {k : PUnit → Prog (TpuEff nD τ sig (Elt F) Λ₀ .tc) α}
    (hk : iprop(Own m K c b i j e ∗ W ∗ C ∗ NSt m c yi ys (st + 1) xr fi fq fr ∗ R) ⊢ WP c (k ⟨⟩) Q) :
    iprop(Own m K c b i j e ∗ W ∗ C ∗ NSt m c yi ys st xr fi fq fr ∗ R)
      ⊢ WP c (.op (.store sM (Rect.unit (s := S2x256x512) o S1x256x512.size ho) pay Finset.univ h1' h2') k) Q := by
  subst eo hp
  have key : ∀ f, (((sM.access (Rect.unit (s := S2x256x512) ![st % 2, 0, 0] S1x256x512.size ho)).loc (c : Thread nD τ)) ↦[boxSet S2x256x512 ![st % 2, 0, 0] S1x256x512.size]{fullShare}
      ((sM.access (Rect.unit (s := S2x256x512) ![st % 2, 0, 0] S1x256x512.size ho)).write (Elt F) f (k0_pay3 (F := F) (V m c st)) Finset.univ) : sProp 𝕄) = sS c (st % 2) (sBuf m c st) :=
    fun f => pointsTo_congr fun x hx => store_eq (sM.access (Rect.unit (s := S2x256x512) ![st % 2, 0, 0] S1x256x512.size ho)) (k0_pay3 (F := F) (V m c st)) f (sBuf m c st)
      (read_send m c st (st % 2) ho) x (by rw [access_set cc0_scratch3]; exact hx)
  unfold NSt at *
  rw [bigSep_Ico_succ_bot h1]
  rw [bigSep_Ico_succ_top h2] at hk
  iintro ⟨HO, HW, HC, ⟨HS, HB, ⟨Hany, HA⟩, Hrest⟩, HR⟩
  unfold sAny sS
  icases Hany with ⟨%f, Hs⟩
  iapply (wp_store 𝒱₀ (c : Thread nD τ) none Set.univ (m := sM) (r := Rect.unit (s := S2x256x512) ![st % 2, 0, 0] S1x256x512.size ho) (Mk := Finset.univ)
    (S := boxSet S2x256x512 ![st % 2, 0, 0] S1x256x512.size) (le_of_eq ((View.setOn_univ _).trans (access_set cc0_scratch3 _ _ _)))) $$ Hs; iintro Hs
  iapply hk
  isplitl [HO]; · iexact HO
  isplitl [HW]; · iexact HW
  isplitl [HC]; · iexact HC
  isplitr [HR]
  · isplitl [HS]; · iexact HS
    isplitl [HB Hs]
    · isplitl [Hs]
      · unfold sFull
        iapply (Entails.of_eq (key f)); iexact Hs
      iexact HB
    isplitl [HA]; · iexact HA
    iexact Hrest
  iexact HR

theorem n_send {Q : α → sProp 𝕄} {R W C : sProp 𝕄} {yi ys st xr fi fq fr : ℕ} (h1 : yi < st := by omega) (h2 : yi < 32 := by omega) (h3 : ys ≤ yi := by omega)
    {td : Dev nD → ℕ} {ht} (et : ∀ c, holder c = false → td c = (nbr0 c).val := by decide +kernel)
    {o1 : Fin 3 → ℕ} {ho1} (e1 : o1 = ![yi % 2, 0, 0] := by decide +kernel)
    {o2 : Dev nD → Fin 4 → ℕ} {ho2} (e2 : ∀ c, holder c = false → o2 c = ![yi % 4, (zc c).val, 0, 512 * (yi / 4)] := by decide +kernel)
    {s s' : DmaSem sig} (hs : s = sD (7 + 32 * 0 + yi) := by decide +kernel) (hs' : s' = sD (7 + 32 * (0 + 1) + yi) := by decide +kernel) {hsc h1' h2' h3'}
    {k : PUnit → Prog (TpuEff nD τ sig (Elt F) Λ₀ .tc) α}
    (hk : iprop(Own m K c b (yi + 1) j e ∗ W ∗ C ∗ NSt m c (yi + 1) ys st xr fi fq fr ∗ R) ⊢ WP c (k ⟨⟩) Q) :
    iprop(Own m K c b yi j e ∗ W ∗ C ∗ NSt m c yi ys st xr fi fq fr ∗ R)
      ⊢ WP c (.op (.enqueueDma (sV o1 ho1) (.remote (Dev.tc (⟨td c, ht⟩ : Dev nD) : Thread nD τ) (oV (o2 c) ho2) (.dma s) hsc) (.dma s') h1' h2' h3') k) Q := by
  subst e1
  have et : (⟨td c, ht⟩ : Dev nD) = nbr0 c := Fin.ext (et c hc)
  revert hsc h1' h2' h3'
  generalize (⟨td c, ht⟩ : Dev nD) = t at et
  subst et
  intro hsc h1' h2' h3'
  unfold NSt at *
  rw [bigSep_Ico_succ_bot h1]
  iintro ⟨HO, HW, HC, ⟨HS, ⟨Hb, HB⟩, Hrest⟩, HR⟩
  unfold sFull
  iapply (send_step m K c (nbr0 c) 0 yi ys (by decide) h2 h3 (by unfold used; rw [hc]; rfl) (by unfold used; rw [holder_nbr0, hc]; rfl)
    (src := sV ![yi % 2, 0, 0] ho1) (e2 c hc) hs hs' fullShare (sBuf m c yi) (pBuf m c) (i' := yi + 1) (j' := j)
    (fun h j => read_y m c (zc c).val yi (yi % 2) h2 h ho1 j)
    (by rw [Ow_1 c b yi j e h2]; unfold g1; rw [if_neg (by rw [hc]; decide)])
    (by rw [sV_pts, xPay_0]; unfold sAny; iintro H; iexists _; iexact H)
    (by rw [xPay_1]; unfold oP; rw [zc_nbr0, nbr0_nbr0])) $$ [HO HS Hb]
  · isplitl [HO]; · iexact HO
    isplitl [HS]; · iexact HS
    rw [sV_pts]; iexact Hb
  iintro ⟨HO, HS⟩
  iapply hk
  isplitl [HO]; · iexact HO
  isplitl [HW]; · iexact HW
  isplitl [HC]; · iexact HC
  isplitr [HR]
  · isplitl [HS]; · iexact HS
    isplitl [HB]; · iexact HB
    iexact Hrest
  iexact HR

theorem n_sent {Q : α → sProp 𝕄} {R W C : sProp 𝕄} {yi ys st xr fi fq fr : ℕ} (h1 : ys < yi := by omega) (h2 : yi ≤ 32 := by omega) (h3 : st ≤ ys + 2 := by omega)
    {s : DmaSem sig} (hs : s = sD (7 + 32 * 0 + ys) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b i j e ∗ W ∗ C ∗ NSt m c yi (ys + 1) st xr fi fq fr ∗ R) ⊢ WP c (k ⟨⟩) Q) :
    iprop(Own m K c b i j e ∗ W ∗ C ∗ NSt m c yi ys st xr fi fq fr ∗ R) ⊢ WP c (.op (.waitDma2 s src dst h1' h2') k) Q := by
  unfold NSt at *
  rw [show ys + 1 + 2 = ys + 2 + 1 from rfl, bigSep_Ico_succ_top h3] at hk
  iintro ⟨HO, HW, HC, ⟨HS, HB, HA, Hrest⟩, HR⟩
  iapply (sendwait_step m K c (nbr0 c) 0 yi ys (by decide) h2 h1 (by unfold used; rw [hc]; rfl) (.inl rfl) hs hd) $$ [HO HS]
  · isplitl [HO]; · iexact HO
    iexact HS
  iintro ⟨HO, HS, Hp⟩
  iapply hk
  isplitl [HO]; · iexact HO
  isplitl [HW]; · iexact HW
  isplitl [HC]; · iexact HC
  isplitr [HR]
  · isplitl [HS]; · iexact HS
    isplitl [HB]; · iexact HB
    isplitl [HA Hp]
    · isplitl [Hp]
      · ihave Hp := (Entails.of_eq (xPay_0 m c ys)) $$ Hp
        unfold sAny; rw [Nat.add_mod_right]; iexact Hp
      iexact HA
    iexact Hrest
  iexact HR

theorem n_recv {Q : α → sProp 𝕄} {R W C : sProp 𝕄} {yi ys st xr fi fq fr : ℕ} (h0 : 3 ≤ b := by omega) (h1 : xr < 32 := by omega) (h2 : fi ≤ xr := by omega) (h3 : xr < yi ∨ 32 ≤ yi := by omega)
    {s : DmaSem sig} (hs : s = sD (7 + 32 * 3 + xr) := by decide +kernel) (hf : xr ≤ fi := by omega)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b yi fi e ∗ W ∗ C ∗ NSt m c yi ys st (xr + 1) fi fq fr ∗ R) ⊢ WP c (k ⟨⟩) Q) :
    iprop(Own m K c b yi fi e ∗ W ∗ C ∗ NSt m c yi ys st xr fi fq fr ∗ R) ⊢ WP c (.op (.waitDma2 s src dst h1' h2') k) Q := by
  unfold NSt at *
  rw [bigSep_Ico_succ_top h2] at hk
  iintro ⟨HO, HW, HC, ⟨HS, HB, HA, HX, HY, Hrest⟩, HR⟩
  iapply (recvwait_step m K c 3 xr (by decide) h1 (by unfold used; rw [hc]; rfl) hs hd (10 * xr + 15) (i := yi) (j := fi)
    (by rw [dLv_x 3 xr (by decide) h1, if_neg (by decide), if_pos (by decide)]) h0
    (fun k h h' => by have := lv_g1 c k h'; omega) (fun k h h' => by have := lv_g2' c k h' hc; omega) (by omega)) $$ [HO HX]
  · isplitl [HO]; · iexact HO
    iexact HX
  iintro ⟨HO, HX, Hp⟩
  iapply hk
  isplitl [HO]; · iexact HO
  isplitl [HW]; · iexact HW
  isplitl [HC]; · iexact HC
  isplitr [HR]
  · isplitl [HS]; · iexact HS
    isplitl [HB]; · iexact HB
    isplitl [HA]; · iexact HA
    isplitl [HX]; · iexact HX
    isplitl [HY Hp]
    · isplitl [Hp]
      · ihave Hp := (Entails.of_eq (xPay_3 m c xr)) $$ Hp
        iexact Hp
      iexact HY
    iexact Hrest
  iexact HR

theorem read_same (c : Dev nD) (o) (h h') (f : S4x2x256x4096.Idx → F .f32) (j : S256x512.Idx) :
    (oV o h).view.read (Elt F) f j = (oV o h').view.read (Elt F) f j := rfl

theorem n_fwd {Q : α → sProp 𝕄} {R W C : sProp 𝕄} {yi ys st xr fi fq fr : ℕ} (h1 : fi < xr := by omega) (h2 : fi < 32 := by omega) (h3 : fq ≤ fi := by omega)
    {td : Dev nD → ℕ} {ht} (et : ∀ c, holder c = false → td c = (nbr2 c).val := by decide +kernel)
    {o1 : Dev nD → Fin 4 → ℕ} {ho1 ho2} (e1 : ∀ c, holder c = false → o1 c = ![fi % 4, (zc c).val, 0, 512 * (fi / 4)] := by decide +kernel)
    {s s' : DmaSem sig} (hs : s = sD (7 + 32 * 6 + fi) := by decide +kernel) (hs' : s' = sD (7 + 32 * (6 + 1) + fi) := by decide +kernel) {hsc h1' h2' h3'}
    {k : PUnit → Prog (TpuEff nD τ sig (Elt F) Λ₀ .tc) α}
    (hk : iprop(Own m K c b i (fi + 1) e ∗ W ∗ C ∗ NSt m c yi ys st xr (fi + 1) fq fr ∗ R) ⊢ WP c (k ⟨⟩) Q) :
    iprop(Own m K c b i fi e ∗ W ∗ C ∗ NSt m c yi ys st xr fi fq fr ∗ R)
      ⊢ WP c (.op (.enqueueDma (oV (o1 c) ho1) (.remote (Dev.tc (⟨td c, ht⟩ : Dev nD) : Thread nD τ) (oV (o1 c) ho2) (.dma s) hsc) (.dma s') h1' h2' h3') k) Q := by
  have e1 := e1 c hc
  revert ho1 ho2 hsc h1' h2' h3'
  generalize o1 c = o at e1
  subst e1
  have et : (⟨td c, ht⟩ : Dev nD) = nbr2 c := Fin.ext (et c hc)
  generalize (⟨td c, ht⟩ : Dev nD) = t at et
  subst et
  intro ho1 ho2 hsc h1' h2' h3'
  unfold NSt at *
  rw [bigSep_Ico_succ_bot h1]
  iintro ⟨HO, HW, HC, ⟨HS, HB, HA, HX, ⟨Hb, HY⟩, HZ, Hrest⟩, HR⟩
  unfold oOwn
  iapply (send_step m K c (nbr2 c) 6 fi fq (by decide) h2 h3 (by unfold used; rw [hc]; rfl) (by unfold used; rw [holder_nbr2, hc]; rfl)
    (src := oV _ ho1) rfl hs hs' fullShare (outBuf m c) (outBuf m c) (i' := i) (j' := fi + 1)
    (fun h j => rfl)
    (by rw [Ow_2 c b i fi e h2]; unfold g2; rw [if_neg (by rw [hc]; decide)])
    (by rw [oV_pts, xPay_6]; exact BI.Entails.refl _)
    (by rw [xPay_7]; unfold oFar; rw [zo_nbr2, outBuf_nbr2])) $$ [HO HZ Hb]
  · isplitl [HO]; · iexact HO
    isplitl [HZ]; · iexact HZ
    rw [oV_pts]; iexact Hb
  iintro ⟨HO, HZ⟩
  iapply hk
  isplitl [HO]; · iexact HO
  isplitl [HW]; · iexact HW
  isplitl [HC]; · iexact HC
  isplitr [HR]
  · isplitl [HS]; · iexact HS
    isplitl [HB]; · iexact HB
    isplitl [HA]; · iexact HA
    isplitl [HX]; · iexact HX
    isplitl [HY]; · iexact HY
    isplitl [HZ]; · iexact HZ
    iexact Hrest
  iexact HR

theorem n_fwded {Q : α → sProp 𝕄} {R W C : sProp 𝕄} {yi ys st xr fi fq fr : ℕ} (h1 : fq < fi := by omega) (h2 : fi ≤ 32 := by omega)
    {s : DmaSem sig} (hs : s = sD (7 + 32 * 6 + fq) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b i j e ∗ W ∗ C ∗ NSt m c yi ys st xr fi (fq + 1) fr ∗ R) ⊢ WP c (k ⟨⟩) Q) :
    iprop(Own m K c b i j e ∗ W ∗ C ∗ NSt m c yi ys st xr fi fq fr ∗ R) ⊢ WP c (.op (.waitDma2 s src dst h1' h2') k) Q := by
  unfold NSt at *
  rw [range_succ'] at hk
  iintro ⟨HO, HW, HC, ⟨HS, HB, HA, HX, HY, HZ, HD, Hrest⟩, HR⟩
  iapply (sendwait_step m K c (nbr2 c) 6 fi fq (by decide) h2 h1 (by unfold used; rw [hc]; rfl) (.inr (.inr (.inr rfl))) hs hd) $$ [HO HZ]
  · isplitl [HO]; · iexact HO
    iexact HZ
  iintro ⟨HO, HZ, Hp⟩
  iapply hk
  isplitl [HO]; · iexact HO
  isplitl [HW]; · iexact HW
  isplitl [HC]; · iexact HC
  isplitr [HR]
  · isplitl [HS]; · iexact HS
    isplitl [HB]; · iexact HB
    isplitl [HA]; · iexact HA
    isplitl [HX]; · iexact HX
    isplitl [HY]; · iexact HY
    isplitl [HZ]; · iexact HZ
    isplitl [HD Hp]
    · isplitl [HD]; · iexact HD
      ihave Hp := (Entails.of_eq (xPay_6 m c fq)) $$ Hp
      iexact Hp
    iexact Hrest
  iexact HR

theorem n_far {Q : α → sProp 𝕄} {R W C : sProp 𝕄} {ys st xr fq fr : ℕ} (h0 : 3 ≤ b := by omega) (h1 : fr < 32 := by omega)
    {s : DmaSem sig} (hs : s = sD (7 + 32 * 7 + fr) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b 32 32 e ∗ W ∗ C ∗ NSt m c 32 ys st xr 32 fq (fr + 1) ∗ R) ⊢ WP c (k ⟨⟩) Q) :
    iprop(Own m K c b 32 32 e ∗ W ∗ C ∗ NSt m c 32 ys st xr 32 fq fr ∗ R) ⊢ WP c (.op (.waitDma2 s src dst h1' h2') k) Q := by
  unfold NSt at *
  rw [range_succ' fr] at hk
  iintro ⟨HO, HW, HC, ⟨HS, HB, HA, HX, HY, HZ, HD, HV, HU⟩, HR⟩
  iapply (recvwait_step m K c 7 fr (by decide) h1 (by unfold used; rw [hc]; rfl) hs hd (10 * fr + 16) (i := 32) (j := 32)
    (by rw [dLv_x 7 fr (by decide) h1, if_neg (by decide), if_neg (by decide), if_pos rfl]) h0
    (fun k h h' => by omega) (fun k h h' => by omega) (by omega)) $$ [HO HV]
  · isplitl [HO]; · iexact HO
    iexact HV
  iintro ⟨HO, HV, Hp⟩
  iapply hk
  isplitl [HO]; · iexact HO
  isplitl [HW]; · iexact HW
  isplitl [HC]; · iexact HC
  isplitr [HR]
  · isplitl [HS]; · iexact HS
    isplitl [HB]; · iexact HB
    isplitl [HA]; · iexact HA
    isplitl [HX]; · iexact HX
    isplitl [HY]; · iexact HY
    isplitl [HZ]; · iexact HZ
    isplitl [HD]; · iexact HD
    isplitl [HV]; · iexact HV
    isplitl [HU]; · iexact HU
    ihave Hp := (Entails.of_eq (xPay_7 m c fr)) $$ Hp
    iexact Hp
  iexact HR

end

end

end Cert.KernelIdeal.Proj
-- ==== Proof.RolesH.lean ====
module

public import proofs.«01_k».proof.Proof.RolesN

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # A holder: what it has at each point, and the rule of each step -/

variable (m : (ℓ : Loc nD τ sig) → Buf (Elt F) ℓ) (K : Dev nD × Fin 265 → ℕ)

/-- `yr` partial products received and `st` of them added to; `xi` results sent across `x`, `zi` across `z`, `xq` and `zq` of
    those waited for; `zr` results received across `z`. -/
def HSt (c : Dev nD) (yr st xi xq zi zq zr : ℕ) : sProp 𝕄 :=
  iprop(RecvCh c 1 yr ∗ bigSep (Finset.Ico st yr) (oP m c) ∗ bigSep (Finset.Ico xi st) (oL m c) ∗ bigSep (Finset.Ico zi st) (oR m c)
    ∗ SendCh c 2 (nbr1 c) xi xq ∗ bigSep (Finset.range xq) (oL m c) ∗ SendCh c 4 (nbr2 c) zi zq ∗ bigSep (Finset.range zq) (oR m c)
    ∗ RecvCh c 5 zr ∗ bigSep (Finset.range zr) (oFar m c))

theorem halves (c : Dev nD) (k : ℕ) : BIBase.Entails (oW c (zc c).val k fullShare (outBuf m c)) iprop(oL m c k ∗ oR m c k) :=
  (pointsTo_share (PosShare.mem_left_op_right fullShare)).1

section
variable (c : Dev nD) {b i j e : ℕ} {α : Type} (hc : holder c = true)
include hc

theorem h_recv {Q : α → sProp 𝕄} {R W C : sProp 𝕄} {yr st xi xq zi zq zr : ℕ} (h0 : 3 ≤ b := by omega) (h1 : yr < 32 := by omega) (h2 : st ≤ yr := by omega) (h3 : yr ≤ xi := by omega) (h4 : yr ≤ zi := by omega)
    {s : DmaSem sig} (hs : s = sD (7 + 32 * 1 + yr) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b xi zi e ∗ W ∗ C ∗ HSt m c (yr + 1) st xi xq zi zq zr ∗ R) ⊢ WP c (k ⟨⟩) Q) :
    iprop(Own m K c b xi zi e ∗ W ∗ C ∗ HSt m c yr st xi xq zi zq zr ∗ R) ⊢ WP c (.op (.waitDma2 s src dst h1' h2') k) Q := by
  unfold HSt at *
  rw [bigSep_Ico_succ_top h2] at hk
  iintro ⟨HO, HW, HC, ⟨HA, HB, Hrest⟩, HR⟩
  iapply (recvwait_step m K c 1 yr (by decide) h1 (by unfold used; rw [hc]; rfl) hs hd (10 * yr + 10) (i := xi) (j := zi)
    (by rw [dLv_x 1 yr (by decide) h1, if_pos rfl]) h0
    (fun k h h' => by have := lv_g1' c k h' hc; omega) (fun k h h' => by have := lv_g2 c k h'; omega) (by omega)) $$ [HO HA]
  · isplitl [HO]; · iexact HO
    iexact HA
  iintro ⟨HO, HA, Hp⟩
  iapply hk
  isplitl [HO]; · iexact HO
  isplitl [HW]; · iexact HW
  isplitl [HC]; · iexact HC
  isplitr [HR]
  · isplitl [HA]; · iexact HA
    isplitl [HB Hp]
    · isplitl [Hp]
      · ihave Hp := (Entails.of_eq (xPay_1 m c yr)) $$ Hp
        iexact Hp
      iexact HB
    iexact Hrest
  iexact HR

theorem h_load {Q : α → sProp 𝕄} {R W C : sProp 𝕄} {yr st xi xq zi zq zr : ℕ} (h1 : st < yr := by omega)
    {o : Dev nD → Fin 4 → ℕ} {ho} (eo : ∀ c, holder c = true → o c = ![st % 4, (zc c).val, 0, 512 * (st / 4)] := by decide +kernel) {h1'}
    {k : (S1x1x256x512.Idx → Elt F .f32) → Prog (TpuEff nD τ sig (Elt F) Λ₀ .tc) α}
    (hk : iprop(Own m K c b i j e ∗ W ∗ C ∗ HSt m c yr st xi xq zi zq zr ∗ R)
      ⊢ WP c (k (oM.view.readAt (Elt F) (Rect.unit (s := S4x2x256x4096) (o c) S1x1x256x512.size ho).toLoadRect (pBuf m (nbr0 c)))) Q) :
    iprop(Own m K c b i j e ∗ W ∗ C ∗ HSt m c yr st xi xq zi zq zr ∗ R)
      ⊢ WP c (.op (.load oM (Rect.unit (s := S4x2x256x4096) (o c) S1x1x256x512.size ho).toLoadRect h1') k) Q := by
  have eo := eo c hc
  revert ho h1' hk
  generalize o c = o at eo
  subst eo
  intro ho h1' hk
  unfold HSt at *
  rw [bigSep_Ico_succ_bot h1] at *
  iintro ⟨HO, HW, HC, ⟨HA, ⟨Hs, HB⟩, Hrest⟩, HR⟩
  unfold oP oW
  iapply (wp_load 𝒱₀ (c : Thread nD τ) none Set.univ (m := oM) (le_of_eq (setOn_whole cc0_stg0_0 _ _ _))) $$ Hs; iintro Hs
  iapply hk
  isplitl [HO]; · iexact HO
  isplitl [HW]; · iexact HW
  isplitl [HC]; · iexact HC
  isplitr [HR]
  · isplitl [HA]; · iexact HA
    isplitl [HB Hs]
    · isplitl [Hs]; · unfold oP oW; iexact Hs
      iexact HB
    iexact Hrest
  iexact HR

theorem h_store {Q : α → sProp 𝕄} {R W C : sProp 𝕄} {yr st xi xq zi zq zr : ℕ} (h1 : st < yr := by omega) (h2 : xi ≤ st := by omega) (h3 : zi ≤ st := by omega) (h4 : st < 32 := by omega)
    {o : Dev nD → Fin 4 → ℕ} {ho} (eo : ∀ c, holder c = true → o c = ![st % 4, (zc c).val, 0, 512 * (st / 4)] := by decide +kernel) {h1' h2'}
    {pay : S1x1x256x512.Idx → Elt F .f32}
    (hp : pay = k0_pay1 (F := F) (V m c st) (oM.view.readAt (Elt F) (Rect.unit (s := S4x2x256x4096) (o c) S1x1x256x512.size ho).toLoadRect (pBuf m (nbr0 c))) := by rfl)
    {k : PUnit → Prog (TpuEff nD τ sig (Elt F) Λ₀ .tc) α}
    (hk : iprop(Own m K c b i j e ∗ W ∗ C ∗ HSt m c yr (st + 1) xi xq zi zq zr ∗ R) ⊢ WP c (k ⟨⟩) Q) :
    iprop(Own m K c b i j e ∗ W ∗ C ∗ HSt m c yr st xi xq zi zq zr ∗ R)
      ⊢ WP c (.op (.store oM (Rect.unit (s := S4x2x256x4096) (o c) S1x1x256x512.size ho) pay Finset.univ h1' h2') k) Q := by
  subst hp
  have eo := eo c hc
  revert ho h1' h2'
  generalize o c = o at eo
  subst eo
  intro ho h1' h2'
  have key : ∀ f, (((oM.access (Rect.unit (s := S4x2x256x4096) ![st % 4, (zc c).val, 0, 512 * (st / 4)] S1x1x256x512.size ho)).loc (c : Thread nD τ))
        ↦[boxSet S4x2x256x4096 ![st % 4, (zc c).val, 0, 512 * (st / 4)] S1x1x256x512.size]{fullShare}
      ((oM.access (Rect.unit (s := S4x2x256x4096) ![st % 4, (zc c).val, 0, 512 * (st / 4)] S1x1x256x512.size ho)).write (Elt F) f
        (k0_pay1 (F := F) (V m c st) (oM.view.readAt (Elt F) (Rect.unit (s := S4x2x256x4096) ![st % 4, (zc c).val, 0, 512 * (st / 4)] S1x1x256x512.size ho).toLoadRect (pBuf m (nbr0 c))))
        Finset.univ) : sProp 𝕄) = oW c (zc c).val st fullShare (outBuf m c) :=
    fun f => pointsTo_congr fun x hx => store_eq (oM.access (Rect.unit (s := S4x2x256x4096) ![st % 4, (zc c).val, 0, 512 * (st / 4)] S1x1x256x512.size ho)) _ f (outBuf m c)
      (read_out m c hc st h4 ho) x (by rw [access_set cc0_stg0_0]; exact hx)
  unfold HSt at *
  rw [bigSep_Ico_succ_bot h1]
  rw [bigSep_Ico_succ_top h2, bigSep_Ico_succ_top h3] at hk
  iintro ⟨HO, HW, HC, ⟨HA, ⟨Hs, HB⟩, HL, HRt, Hrest⟩, HR⟩
  unfold oP oW
  iapply (wp_store 𝒱₀ (c : Thread nD τ) none Set.univ (m := oM) (r := Rect.unit (s := S4x2x256x4096) ![st % 4, (zc c).val, 0, 512 * (st / 4)] S1x1x256x512.size ho) (Mk := Finset.univ)
    (S := boxSet S4x2x256x4096 ![st % 4, (zc c).val, 0, 512 * (st / 4)] S1x1x256x512.size) (le_of_eq ((View.setOn_univ _).trans (access_set cc0_stg0_0 _ _ _)))) $$ Hs; iintro Hs
  ihave Hs := (Entails.of_eq (key _)) $$ Hs
  ihave Hs := (halves m c st) $$ Hs
  icases Hs with ⟨Hl, Hr⟩
  iapply hk
  isplitl [HO]; · iexact HO
  isplitl [HW]; · iexact HW
  isplitl [HC]; · iexact HC
  isplitr [HR]
  · isplitl [HA]; · iexact HA
    isplitl [HB]; · iexact HB
    isplitl [HL Hl]
    · isplitl [Hl]; · iexact Hl
      iexact HL
    isplitl [HRt Hr]
    · isplitl [Hr]; · iexact Hr
      iexact HRt
    iexact Hrest
  iexact HR

theorem h_xsend {Q : α → sProp 𝕄} {R W C : sProp 𝕄} {yr st xi xq zi zq zr : ℕ} (h1 : xi < st := by omega) (h2 : xi < 32 := by omega) (h3 : xq ≤ xi := by omega)
    {td : Dev nD → ℕ} {ht} (et : ∀ c, holder c = true → td c = (nbr1 c).val := by decide +kernel)
    {o1 : Dev nD → Fin 4 → ℕ} {ho1 ho2} (e1 : ∀ c, holder c = true → o1 c = ![xi % 4, (zc c).val, 0, 512 * (xi / 4)] := by decide +kernel)
    {s s' : DmaSem sig} (hs : s = sD (7 + 32 * 2 + xi) := by decide +kernel) (hs' : s' = sD (7 + 32 * (2 + 1) + xi) := by decide +kernel) {hsc h1' h2' h3'}
    {k : PUnit → Prog (TpuEff nD τ sig (Elt F) Λ₀ .tc) α}
    (hk : iprop(Own m K c b (xi + 1) j e ∗ W ∗ C ∗ HSt m c yr st (xi + 1) xq zi zq zr ∗ R) ⊢ WP c (k ⟨⟩) Q) :
    iprop(Own m K c b xi j e ∗ W ∗ C ∗ HSt m c yr st xi xq zi zq zr ∗ R)
      ⊢ WP c (.op (.enqueueDma (oV (o1 c) ho1) (.remote (Dev.tc (⟨td c, ht⟩ : Dev nD) : Thread nD τ) (oV (o1 c) ho2) (.dma s) hsc) (.dma s') h1' h2' h3') k) Q := by
  have e1 := e1 c hc
  revert ho1 ho2 hsc h1' h2' h3'
  generalize o1 c = o at e1
  subst e1
  have et : (⟨td c, ht⟩ : Dev nD) = nbr1 c := Fin.ext (et c hc)
  generalize (⟨td c, ht⟩ : Dev nD) = t at et
  subst et
  intro ho1 ho2 hsc h1' h2' h3'
  unfold HSt at *
  rw [bigSep_Ico_succ_bot h1]
  iintro ⟨HO, HW, HC, ⟨HA, HB, ⟨Hb, HL⟩, HRt, HS, Hrest⟩, HR⟩
  unfold oL
  iapply (send_step m K c (nbr1 c) 2 xi xq (by decide) h2 h3 (by unfold used; rw [hc]; rfl) (by unfold used; rw [holder_nbr1, hc]; rfl)
    (src := oV _ ho1) rfl hs hs' fullShare.left (outBuf m c) (outBuf m c) (i' := xi + 1) (j' := j)
    (fun h j => rfl)
    (by rw [Ow_1 c b xi j e h2]; unfold g1; rw [if_pos hc])
    (by rw [oV_pts, xPay_2]; exact BI.Entails.refl _)
    (by rw [xPay_3]; unfold oOwn; rw [zc_nbr1, outBuf_nbr1])) $$ [HO HS Hb]
  · isplitl [HO]; · iexact HO
    isplitl [HS]; · iexact HS
    rw [oV_pts]; iexact Hb
  iintro ⟨HO, HS⟩
  iapply hk
  isplitl [HO]; · iexact HO
  isplitl [HW]; · iexact HW
  isplitl [HC]; · iexact HC
  isplitr [HR]
  · isplitl [HA]; · iexact HA
    isplitl [HB]; · iexact HB
    isplitl [HL]; · iexact HL
    isplitl [HRt]; · iexact HRt
    isplitl [HS]; · iexact HS
    iexact Hrest
  iexact HR

theorem h_zsend {Q : α → sProp 𝕄} {R W C : sProp 𝕄} {yr st xi xq zi zq zr : ℕ} (h1 : zi < st := by omega) (h2 : zi < 32 := by omega) (h3 : zq ≤ zi := by omega)
    {td : Dev nD → ℕ} {ht} (et : ∀ c, holder c = true → td c = (nbr2 c).val := by decide +kernel)
    {o1 : Dev nD → Fin 4 → ℕ} {ho1 ho2} (e1 : ∀ c, holder c = true → o1 c = ![zi % 4, (zc c).val, 0, 512 * (zi / 4)] := by decide +kernel)
    {s s' : DmaSem sig} (hs : s = sD (7 + 32 * 4 + zi) := by decide +kernel) (hs' : s' = sD (7 + 32 * (4 + 1) + zi) := by decide +kernel) {hsc h1' h2' h3'}
    {k : PUnit → Prog (TpuEff nD τ sig (Elt F) Λ₀ .tc) α}
    (hk : iprop(Own m K c b i (zi + 1) e ∗ W ∗ C ∗ HSt m c yr st xi xq (zi + 1) zq zr ∗ R) ⊢ WP c (k ⟨⟩) Q) :
    iprop(Own m K c b i zi e ∗ W ∗ C ∗ HSt m c yr st xi xq zi zq zr ∗ R)
      ⊢ WP c (.op (.enqueueDma (oV (o1 c) ho1) (.remote (Dev.tc (⟨td c, ht⟩ : Dev nD) : Thread nD τ) (oV (o1 c) ho2) (.dma s) hsc) (.dma s') h1' h2' h3') k) Q := by
  have e1 := e1 c hc
  revert ho1 ho2 hsc h1' h2' h3'
  generalize o1 c = o at e1
  subst e1
  have et : (⟨td c, ht⟩ : Dev nD) = nbr2 c := Fin.ext (et c hc)
  generalize (⟨td c, ht⟩ : Dev nD) = t at et
  subst et
  intro ho1 ho2 hsc h1' h2' h3'
  unfold HSt at *
  rw [bigSep_Ico_succ_bot h1]
  iintro ⟨HO, HW, HC, ⟨HA, HB, HL, ⟨Hb, HRt⟩, HS, HD, HZ, Hrest⟩, HR⟩
  unfold oR
  iapply (send_step m K c (nbr2 c) 4 zi zq (by decide) h2 h3 (by unfold used; rw [hc]; rfl) (by unfold used; rw [holder_nbr2, hc]; rfl)
    (src := oV _ ho1) rfl hs hs' fullShare.right (outBuf m c) (outBuf m c) (i' := i) (j' := zi + 1)
    (fun h j => rfl)
    (by rw [Ow_2 c b i zi e h2]; unfold g2; rw [if_pos hc])
    (by rw [oV_pts, xPay_4]; exact BI.Entails.refl _)
    (by rw [xPay_5]; unfold oFar; rw [zo_nbr2, outBuf_nbr2])) $$ [HO HZ Hb]
  · isplitl [HO]; · iexact HO
    isplitl [HZ]; · iexact HZ
    rw [oV_pts]; iexact Hb
  iintro ⟨HO, HZ⟩
  iapply hk
  isplitl [HO]; · iexact HO
  isplitl [HW]; · iexact HW
  isplitl [HC]; · iexact HC
  isplitr [HR]
  · isplitl [HA]; · iexact HA
    isplitl [HB]; · iexact HB
    isplitl [HL]; · iexact HL
    isplitl [HRt]; · iexact HRt
    isplitl [HS]; · iexact HS
    isplitl [HD]; · iexact HD
    isplitl [HZ]; · iexact HZ
    iexact Hrest
  iexact HR

theorem h_xsent {Q : α → sProp 𝕄} {R W C : sProp 𝕄} {yr st xi xq zi zq zr : ℕ} (h1 : xq < xi := by omega) (h2 : xi ≤ 32 := by omega)
    {s : DmaSem sig} (hs : s = sD (7 + 32 * 2 + xq) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b i j e ∗ W ∗ C ∗ HSt m c yr st xi (xq + 1) zi zq zr ∗ R) ⊢ WP c (k ⟨⟩) Q) :
    iprop(Own m K c b i j e ∗ W ∗ C ∗ HSt m c yr st xi xq zi zq zr ∗ R) ⊢ WP c (.op (.waitDma2 s src dst h1' h2') k) Q := by
  unfold HSt at *
  rw [range_succ' xq] at hk
  iintro ⟨HO, HW, HC, ⟨HA, HB, HL, HRt, HS, HD, Hrest⟩, HR⟩
  iapply (sendwait_step m K c (nbr1 c) 2 xi xq (by decide) h2 h1 (by unfold used; rw [hc]; rfl) (.inr (.inl rfl)) hs hd) $$ [HO HS]
  · isplitl [HO]; · iexact HO
    iexact HS
  iintro ⟨HO, HS, Hp⟩
  iapply hk
  isplitl [HO]; · iexact HO
  isplitl [HW]; · iexact HW
  isplitl [HC]; · iexact HC
  isplitr [HR]
  · isplitl [HA]; · iexact HA
    isplitl [HB]; · iexact HB
    isplitl [HL]; · iexact HL
    isplitl [HRt]; · iexact HRt
    isplitl [HS]; · iexact HS
    isplitl [HD Hp]
    · isplitl [HD]; · iexact HD
      ihave Hp := (Entails.of_eq (xPay_2 m c xq)) $$ Hp
      iexact Hp
    iexact Hrest
  iexact HR

theorem h_zsent {Q : α → sProp 𝕄} {R W C : sProp 𝕄} {yr st xi xq zi zq zr : ℕ} (h1 : zq < zi := by omega) (h2 : zi ≤ 32 := by omega)
    {s : DmaSem sig} (hs : s = sD (7 + 32 * 4 + zq) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b i j e ∗ W ∗ C ∗ HSt m c yr st xi xq zi (zq + 1) zr ∗ R) ⊢ WP c (k ⟨⟩) Q) :
    iprop(Own m K c b i j e ∗ W ∗ C ∗ HSt m c yr st xi xq zi zq zr ∗ R) ⊢ WP c (.op (.waitDma2 s src dst h1' h2') k) Q := by
  unfold HSt at *
  rw [range_succ' zq] at hk
  iintro ⟨HO, HW, HC, ⟨HA, HB, HL, HRt, HS, HD, HZ, HE, Hrest⟩, HR⟩
  iapply (sendwait_step m K c (nbr2 c) 4 zi zq (by decide) h2 h1 (by unfold used; rw [hc]; rfl) (.inr (.inr (.inl rfl))) hs hd) $$ [HO HZ]
  · isplitl [HO]; · iexact HO
    iexact HZ
  iintro ⟨HO, HZ, Hp⟩
  iapply hk
  isplitl [HO]; · iexact HO
  isplitl [HW]; · iexact HW
  isplitl [HC]; · iexact HC
  isplitr [HR]
  · isplitl [HA]; · iexact HA
    isplitl [HB]; · iexact HB
    isplitl [HL]; · iexact HL
    isplitl [HRt]; · iexact HRt
    isplitl [HS]; · iexact HS
    isplitl [HD]; · iexact HD
    isplitl [HZ]; · iexact HZ
    isplitl [HE Hp]
    · isplitl [HE]; · iexact HE
      ihave Hp := (Entails.of_eq (xPay_4 m c zq)) $$ Hp
      iexact Hp
    iexact Hrest
  iexact HR

theorem h_far {Q : α → sProp 𝕄} {R W C : sProp 𝕄} {yr st xq zq zr : ℕ} (h0 : 3 ≤ b := by omega) (h1 : zr < 32 := by omega)
    {s : DmaSem sig} (hs : s = sD (7 + 32 * 5 + zr) := by decide +kernel)
    {sp sp' : Space} {sh : Shape} {y : EltTy} {src : Memref sig .tc sp sh y} {dst : Memref sig .tc sp' sh y} {h1' h2'} (hd : dst.view.dmaCredit = oN := by rfl)
    {k : PUnit → Prog (TpuEff nD τ sig (Elt F) Λ₀ .tc) α}
    (hk : iprop(Own m K c b 32 32 e ∗ W ∗ C ∗ HSt m c yr st 32 xq 32 zq (zr + 1) ∗ R) ⊢ WP c (k ⟨⟩) Q) :
    iprop(Own m K c b 32 32 e ∗ W ∗ C ∗ HSt m c yr st 32 xq 32 zq zr ∗ R) ⊢ WP c (.op (.waitDma2 s src dst h1' h2') k) Q := by
  unfold HSt at *
  rw [range_succ' zr] at hk
  iintro ⟨HO, HW, HC, ⟨HA, HB, HL, HRt, HS, HD, HZ, HE, HV, HU⟩, HR⟩
  iapply (recvwait_step m K c 5 zr (by decide) h1 (by unfold used; rw [hc]; rfl) hs hd (10 * zr + 15) (i := 32) (j := 32)
    (by rw [dLv_x 5 zr (by decide) h1, if_neg (by decide), if_pos (by decide)]) h0
    (fun k h h' => by omega) (fun k h h' => by omega) (by omega)) $$ [HO HV]
  · isplitl [HO]; · iexact HO
    iexact HV
  iintro ⟨HO, HV, Hp⟩
  iapply hk
  isplitl [HO]; · iexact HO
  isplitl [HW]; · iexact HW
  isplitl [HC]; · iexact HC
  isplitr [HR]
  · isplitl [HA]; · iexact HA
    isplitl [HB]; · iexact HB
    isplitl [HL]; · iexact HL
    isplitl [HRt]; · iexact HRt
    isplitl [HS]; · iexact HS
    isplitl [HD]; · iexact HD
    isplitl [HZ]; · iexact HZ
    isplitl [HE]; · iexact HE
    isplitl [HV]; · iexact HV
    isplitl [HU]; · iexact HU
    ihave Hp := (Entails.of_eq (xPay_5 m c zr)) $$ Hp
    iexact Hp
  iexact HR

end

end Cert.KernelIdeal.Proj
-- ==== Proof.Entry.lean ====
module

public import proofs.«01_k».proof.Proof.RolesH

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The two barriers, and the conditionals -/

variable (m : (ℓ : Loc nD τ sig) → Buf (Elt F) ℓ) (K : Dev nD × Fin 265 → ℕ)

def fin16 (d : ℕ) : Fin 16 := ⟨d % 16, Nat.mod_lt _ (by decide)⟩
theorem fin16_mem (d : ℕ) (h : d < 3) : fin16 d ∈ ({0, 1, 2} : Finset (Fin 16)) := by
  interval_cases d <;> decide
theorem fin16_val (d : ℕ) (h : d < 3) : (fin16 d).val = d := Nat.mod_eq_of_lt (by omega)

/-- Before entry signal `b`: the signals still to send, what each hands over, and the wait's due. -/
def BSt (c : Dev nD) (b : ℕ) : sProp 𝕄 :=
  iprop((bigSep (Finset.Ico b 3) fun d => iprop(dutyTok ER (barC (nb c d)) 0 (fin16 d) ∗ barPay (F := F) (nb c d) d))
    ∗ cred (tallyAt (barC c) () 3) ∗ atPos ER (barC c) 0 ∅ 0)
/-- Before exit signal `e`: the signals still to send, and the wait's due. -/
def ESt (c : Dev nD) (e : ℕ) : sProp 𝕄 :=
  iprop((bigSep (Finset.Ico e 3) fun d => iprop(dutyTok ER (exC (nb c d)) 0 (fin16 d)))
    ∗ cred (tallyAt (exC c) () 3) ∗ atPos ER (exC c) 0 ∅ 0)

section
variable (c : Dev nD) {b i j e : ℕ} {α : Type}

theorem bar_signal {Q : α → sProp 𝕄} {R W C : sProp 𝕄} (hb : b < 3 := by omega) {td : Dev nD → ℕ} {ht} (et : ∀ c, td c = (nb c b).val := by decide +kernel)
    {n : ℤ} (hn : n = ((1 : ℕ) : ℤ) := by rfl) {s : Sem sig} (hs : s = barS := by decide +kernel) {k : PUnit → Prog (TpuEff nD τ sig (Elt F) Λ₀ .tc) α}
    (hk : iprop(Own m K c (b + 1) i j e ∗ W ∗ C ∗ BSt c (b + 1) ∗ R) ⊢ WP c (k ⟨⟩) Q) :
    iprop(Own m K c b i j e ∗ W ∗ C ∗ BSt c b ∗ R)
      ⊢ WP c (.op (.semSignal (Dev.tc (⟨td c, ht⟩ : Dev nD) : Thread nD τ) s n) k) Q := by
  subst hn hs
  have et : (⟨td c, ht⟩ : Dev nD) = nb c b := Fin.ext (et c)
  generalize (⟨td c, ht⟩ : Dev nD) = t at et
  subst et
  unfold BSt at *
  rw [bigSep_Ico_succ_bot hb]
  unfold Own at *
  iintro ⟨⟨#HC, %V, HO⟩, HW, HCs, ⟨⟨⟨Ht, Hp⟩, HB⟩, Hrest⟩, HR⟩
  ihave #HI := (Ctx_bar m K (nb c b)) $$ HC
  icases HI with ⟨#HI, #Hr⟩
  iapply (Rounds.wp_signal 𝒱₀ ER (Rd m) (c : Thread nD τ) none (dst := (nb c b : Thread nD τ)) (κ := kd K (nb c b) 263) (r := 0)
      (d := fin16 b) (by rw [duties_r]; exact fin16_mem b hb) rfl () (Ow c (b + 1) i j e) (Ow_b c b i j e hb)) $$ [HO Ht Hp]
  · isplitr; · iexact HI
    isplitl [HO]; · iexact HO
    isplitl [Ht]; · iexact Ht
    isplitl [Hp]
    · iapply (Entails.of_eq (show barPay (F := F) (nb c b) b = (Rd m).payload (barC (nb c b)) 0 (fin16 b) by
        show _ = barPay (F := F) (nb c b) (fin16 b).val
        rw [fin16_val b hb]))
      iexact Hp
    iexact Hr
  iintro HO
  iapply hk
  isplitl [HO]
  · isplitr; · iexact HC
    iexists V; iexact HO
  isplitl [HW]; · iexact HW
  isplitl [HCs]; · iexact HCs
  isplitr [HR]
  · isplitl [HB]; · iexact HB
    iexact Hrest
  iexact HR

theorem bar_wait {Q : α → sProp 𝕄} {R W C : sProp 𝕄}
    {n : ℤ} (hn : n = ((3 : ℕ) : ℤ) := by rfl) {s : Sem sig} (hs : s = barS := by decide +kernel) {k : PUnit → Prog (TpuEff nD τ sig (Elt F) Λ₀ .tc) α}
    (hk : iprop(Own m K c 3 0 0 e ∗ W ∗ C ∗ (barPay (F := F) c 0 ∗ barPay (F := F) c 1 ∗ barPay (F := F) c 2 ∗ atPos ER (barC c) 1 ∅ 0) ∗ R)
      ⊢ WP c (k ⟨⟩) Q) :
    iprop(Own m K c 3 0 0 e ∗ W ∗ C ∗ BSt c 3 ∗ R) ⊢ WP c (.op (.semWait s n) k) Q := by
  subst hn hs
  unfold BSt at *
  unfold Own at *
  iintro ⟨⟨#HC, %V, HO⟩, HW, HCs, ⟨-, Hc, Ha⟩, HR⟩
  ihave #HI := (Ctx_bar m K c) $$ HC
  icases HI with ⟨#HI, #Hr⟩
  iapply (Rounds.wp_wait_rest_token 𝒱₀ ER (Rd m) (c : Thread nD τ) none (κ := kd K c 263)
      (wpE_semWait_eq 𝒱₀ (c : Thread nD τ) none Set.univ) (Set.mem_univ _) () (O := Ow c 3 0 0 e) (W := V) (R := 0) (m := 0) (T := ∅)
      (by rw [expect_r])) $$ [Hc HO Ha]
  · isplitr; · iexact HI
    isplitl [Hc]; · iexact Hc
    isplitl [HO]; · iexact HO
    isplitr
    · ihave Hl := (Ctx_lev m K) $$ HC
      iapply (mayWait_Ow c (.reg barS) 1 3 0 0 e (le_refl _) (fun h => absurd h (by decide))
        (fun k h h' => by have := lv_g1 c k h'; omega) (fun k h h' => by have := lv_g2 c k h'; omega) (fun _ => by decide)); iexact Hl
    iexact Ha
  iintro ⟨HO, Ha, -, Hp⟩
  ihave Hp := (Entails.of_eq (show bigSep ((Rd m).duties (barC c) 0 \ ∅) (fun d => (Rd m).payload (barC c) 0 d)
      = bigSep ({0, 1, 2} : Finset (Fin 16)) (fun d => barPay (F := F) c d.val) by rw [Finset.sdiff_empty, duties_r]; rfl)) $$ Hp
  ihave Hp := (Entails.of_eq (erase' (Φ := fun d : Fin 16 => barPay (F := F) c d.val) (s := ({0, 1, 2} : Finset (Fin 16))) (i := 0) (by decide))) $$ Hp
  icases Hp with ⟨Hp0, Hp⟩
  ihave Hp := (Entails.of_eq (erase' (Φ := fun d : Fin 16 => barPay (F := F) c d.val) (s := ({0, 1, 2} : Finset (Fin 16)).erase 0) (i := 1) (by decide))) $$ Hp
  icases Hp with ⟨Hp1, Hp⟩
  ihave Hp2 := (elim' (Φ := fun d : Fin 16 => barPay (F := F) c d.val) (s := (({0, 1, 2} : Finset (Fin 16)).erase 0).erase 1) (i := 2) (by decide)) $$ Hp
  iapply hk
  isplitl [HO]
  · isplitr; · iexact HC
    iexists _; iexact HO
  isplitl [HW]; · iexact HW
  isplitl [HCs]; · iexact HCs
  isplitr [HR]
  · isplitl [Hp0]; · iexact Hp0
    isplitl [Hp1]; · iexact Hp1
    isplitl [Hp2]; · iexact Hp2
    iexact Ha
  iexact HR

theorem ex_signal {Q : α → sProp 𝕄} {R W C N : sProp 𝕄} (he : e < 3 := by omega) {td : Dev nD → ℕ} {ht} (et : ∀ c, td c = (nb c e).val := by decide +kernel)
    {n : ℤ} (hn : n = ((1 : ℕ) : ℤ) := by rfl) {s : Sem sig} (hs : s = exS := by decide +kernel) {k : PUnit → Prog (TpuEff nD τ sig (Elt F) Λ₀ .tc) α}
    (hk : iprop(Own m K c b i j (e + 1) ∗ W ∗ C ∗ N ∗ ESt c (e + 1) ∗ R) ⊢ WP c (k ⟨⟩) Q) :
    iprop(Own m K c b i j e ∗ W ∗ C ∗ N ∗ ESt c e ∗ R)
      ⊢ WP c (.op (.semSignal (Dev.tc (⟨td c, ht⟩ : Dev nD) : Thread nD τ) s n) k) Q := by
  subst hn hs
  have et : (⟨td c, ht⟩ : Dev nD) = nb c e := Fin.ext (et c)
  generalize (⟨td c, ht⟩ : Dev nD) = t at et
  subst et
  unfold ESt at *
  rw [bigSep_Ico_succ_bot he]
  unfold Own at *
  iintro ⟨⟨#HC, %V, HO⟩, HW, HCs, HN, ⟨⟨Ht, HB⟩, Hrest⟩, HR⟩
  ihave #HI := (Ctx_ex m K (nb c e)) $$ HC
  icases HI with ⟨#HI, #Hr⟩
  iapply (Rounds.wp_signal 𝒱₀ ER (Rd m) (c : Thread nD τ) none (dst := (nb c e : Thread nD τ)) (κ := kd K (nb c e) 264) (r := 0)
      (d := fin16 e) (by rw [duties_r]; exact fin16_mem e he) rfl () (Ow c b i j (e + 1)) (Ow_e c b i j e he)) $$ [HO Ht]
  · isplitr; · iexact HI
    isplitl [HO]; · iexact HO
    isplitl [Ht]; · iexact Ht
    isplitr
    · iapply (Entails.of_eq (show iprop(emp) = (Rd m).payload (exC (nb c e)) 0 (fin16 e) from rfl))
      iempintro
    iexact Hr
  iintro HO
  iapply hk
  isplitl [HO]
  · isplitr; · iexact HC
    iexists V; iexact HO
  isplitl [HW]; · iexact HW
  isplitl [HCs]; · iexact HCs
  isplitl [HN]; · iexact HN
  isplitr [HR]
  · isplitl [HB]; · iexact HB
    iexact Hrest
  iexact HR

theorem ex_wait {Q : α → sProp 𝕄} {R W C N : sProp 𝕄}
    {n : ℤ} (hn : n = ((3 : ℕ) : ℤ) := by rfl) {s : Sem sig} (hs : s = exS := by decide +kernel) {k : PUnit → Prog (TpuEff nD τ sig (Elt F) Λ₀ .tc) α}
    (hk : iprop(Own m K c 3 32 32 3 ∗ W ∗ C ∗ N ∗ atPos ER (exC c) 1 ∅ 0 ∗ R) ⊢ WP c (k ⟨⟩) Q) :
    iprop(Own m K c 3 32 32 3 ∗ W ∗ C ∗ N ∗ ESt c 3 ∗ R) ⊢ WP c (.op (.semWait s n) k) Q := by
  subst hn hs
  unfold ESt at *
  unfold Own at *
  iintro ⟨⟨#HC, %V, HO⟩, HW, HCs, HN, ⟨-, Hc, Ha⟩, HR⟩
  ihave #HI := (Ctx_ex m K c) $$ HC
  icases HI with ⟨#HI, #Hr⟩
  iapply (Rounds.wp_wait_rest_token 𝒱₀ ER (Rd m) (c : Thread nD τ) none (κ := kd K c 264)
      (wpE_semWait_eq 𝒱₀ (c : Thread nD τ) none Set.univ) (Set.mem_univ _) () (O := Ow c 3 32 32 3) (W := V) (R := 0) (m := 0) (T := ∅)
      (by rw [expect_r])) $$ [Hc HO Ha]
  · isplitr; · iexact HI
    isplitl [Hc]; · iexact Hc
    isplitl [HO]; · iexact HO
    isplitr
    · ihave Hl := (Ctx_lev m K) $$ HC
      iapply (mayWait_Ow c (.reg exS) 1000 3 32 32 3 (le_refl _) (fun h => absurd h (by decide))
        (fun k h h' => absurd h (by omega)) (fun k h h' => absurd h (by omega)) (fun h => absurd h (by decide))); iexact Hl
    iexact Ha
  iintro ⟨HO, Ha, -, -⟩
  iapply hk
  isplitl [HO]
  · isplitr; · iexact HC
    iexists _; iexact HO
  isplitl [HW]; · iexact HW
  isplitl [HCs]; · iexact HCs
  isplitl [HN]; · iexact HN
  isplitl [Ha]; · iexact Ha
  iexact HR

end

/-! ## Sequencing and conditionals -/

section
variable (c : Dev nD) {α β : Type} {r : Bool}

theorem ret_step {X : sProp 𝕄} {Q : α → sProp 𝕄} {a : α} (hk : X ⊢ Q a) : X ⊢ WP c (.ret a) Q :=
  BI.Entails.trans hk (by show Q a ⊢ wp frame _ Set.univ (.ret a) Q; rw [wp_ret]; exact fupd_intro)

/-- A conditional whose condition holds on every device of this role. -/
theorem if_yes {X : sProp 𝕄} (hc : holder c = r) {Q : α → sProp 𝕄} {P : Dev nD → BitVec 1} (h : ∀ c, holder c = r → P c = 1#1 := by decide +kernel)
    {A : P c = 1#1 → Prog (TpuEff nD τ sig (Elt F) Λ₀ .tc) α} {B : ¬ P c = 1#1 → Prog (TpuEff nD τ sig (Elt F) Λ₀ .tc) α}
    (hk : ∀ hh, X ⊢ WP c (A hh) Q) : X ⊢ WP c (if hh : P c = 1#1 then A hh else B hh) Q := by
  rw [dif_pos (h c hc)]; exact hk _

/-- A conditional whose condition fails on every device of this role. -/
theorem if_no {X : sProp 𝕄} (hc : holder c = r) {Q : α → sProp 𝕄} {P : Dev nD → BitVec 1} (h : ∀ c, holder c = r → ¬ P c = 1#1 := by decide +kernel)
    {A : P c = 1#1 → Prog (TpuEff nD τ sig (Elt F) Λ₀ .tc) α} {B : ¬ P c = 1#1 → Prog (TpuEff nD τ sig (Elt F) Λ₀ .tc) α}
    (hk : ∀ hh, X ⊢ WP c (B hh) Q) : X ⊢ WP c (if hh : P c = 1#1 then A hh else B hh) Q := by
  rw [dif_neg (h c hc)]; exact hk _

/-- A program run in two parts. -/
theorem bind_step {X : sProp 𝕄} {Q : β → sProp 𝕄} {p : Prog (TpuEff nD τ sig (Elt F) Λ₀ .tc) α} {k : α → Prog (TpuEff nD τ sig (Elt F) Λ₀ .tc) β}
    (h : X ⊢ WP c p (fun a => WP c (k a) Q)) : X ⊢ WP c (p >>= k) Q := by
  show X ⊢ wp frame _ Set.univ (p >>= k) Q
  rw [wp_bind]; exact h
end

end Cert.KernelIdeal.Proj
-- ==== Proof.Windows.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

/-! # Families over ranges, and the buffers cut into their windows -/

theorem rng_add (a b : ℕ) (Φ : ℕ → sProp 𝕄) :
    bigSep (Finset.range (a + b)) Φ = iprop(bigSep (Finset.range a) Φ ∗ bigSep (Finset.range b) fun i => Φ (a + i)) := by
  have h : Finset.range (a + b) = Finset.range a ∪ (Finset.range b).map ⟨fun i => a + i, fun x y h => Nat.add_left_cancel h⟩ := by
    ext x
    simp only [Finset.mem_union, Finset.mem_map, Finset.mem_range, Function.Embedding.coeFn_mk]
    constructor
    · intro hx
      by_cases h : x < a
      · exact Or.inl h
      · exact Or.inr ⟨x - a, by omega, show a + (x - a) = x by omega⟩
    · rintro (hx | ⟨y, hy, h⟩)
      · omega
      · have h : a + y = x := h
        omega
  rw [h, union' (by
    rw [Finset.disjoint_left]; intro x hx hx'
    obtain ⟨y, -, rfl⟩ := Finset.mem_map.mp hx'
    have : a + y < a := Finset.mem_range.mp hx
    omega), bigSep_map]
  rfl
theorem rng_mul (a b : ℕ) (Φ : ℕ → sProp 𝕄) :
    bigSep (Finset.range (a * b)) Φ = bigSep (Finset.range b) fun j => bigSep (Finset.range a) fun i => Φ (a * j + i) := by
  induction b with
  | zero => rw [Nat.mul_zero, Finset.range_zero, bigSep_empty, bigSep_empty]
  | succ b ih => rw [Nat.mul_succ, rng_add, ih, range_succ']
theorem rng_fin (n : ℕ) (Φ : ℕ → sProp 𝕄) : bigSep (Finset.univ : Finset (Fin n)) (fun k => Φ k.val) = bigSep (Finset.range n) Φ := by
  have h : Finset.range n = (Finset.univ : Finset (Fin n)).map Fin.valEmbedding := by
    ext x
    simp only [Finset.mem_map, Finset.mem_range, Finset.mem_univ, true_and, Fin.valEmbedding_apply]
    exact ⟨fun h => ⟨⟨x, h⟩, rfl⟩, fun ⟨y, h⟩ => h ▸ y.isLt⟩
  rw [h, bigSep_map]; rfl
theorem rng_Ico (n : ℕ) (Φ : ℕ → sProp 𝕄) : bigSep (Finset.Ico 0 n) Φ = bigSep (Finset.range n) Φ := by rw [Nat.Ico_zero_eq_range]
theorem Ico_none {n : ℕ} {Φ : ℕ → sProp 𝕄} : bigSep (Finset.Ico n n) Φ = iprop(emp) := by rw [Finset.Ico_self, bigSep_empty]; rfl
theorem Ico_two (n : ℕ) (Φ : ℕ → sProp 𝕄) : bigSep (Finset.Ico n (n + 2)) Φ = iprop(Φ n ∗ Φ (n + 1)) := by
  rw [bigSep_Ico_succ_bot (by omega), bigSep_Ico_succ_bot (by omega), Ico_none]
  exact congrArg (fun X : sProp 𝕄 => iprop(Φ n ∗ X)) (equiv_iff.mp (BI.sep_emp (P := Φ (n + 1))))
theorem bs_sep {ι : Type} [DecidableEq ι] (s : Finset ι) (Φ Ψ : ι → sProp 𝕄) :
    bigSep s (fun i => iprop(Φ i ∗ Ψ i)) = iprop(bigSep s Φ ∗ bigSep s Ψ) := bigSep_sep _ _ _

theorem box_univ {s : Shape} {off : Fin s.rank → ℕ} (h : ∀ a, off a = 0) : (Finset.univ : Finset s.Idx) = boxSet s off s.size := by
  ext i; rw [mem_boxSet]
  exact ⟨fun _ a => by rw [h a]; exact ⟨Nat.zero_le _, by rw [Nat.zero_add]; exact (i a).isLt⟩, fun _ => Finset.mem_univ _⟩

theorem pts_union {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  have hu : (ℓ ↦[I ∪ J]{q} f : sProp 𝕄) ⊣⊢ iprop((ℓ ↦[I]{q} f) ∗ ℓ ↦[J]{q} f) := pointsTo_union h
  BI.equiv_iff.mp ⟨hu.1, hu.2⟩
/-- Two disjoint windows held at some contents are their union held at some contents. -/
theorem two_join {ℓ : Loc nD τ sig} {I J : Finset (Idx ℓ)} {q : PosShare TreeShare} (h : Disjoint I J) :
    iprop((∃ f, (ℓ ↦[I]{q} f : sProp 𝕄)) ∗ ∃ f, ℓ ↦[J]{q} f) ⊢ iprop(∃ f, ℓ ↦[I ∪ J]{q} f) := by
  iintro ⟨⟨%f, H1⟩, ⟨%g, H2⟩⟩
  iexists _
  iapply (pointsTo_join h)
  isplitl [H1] <;> iassumption

theorem join2 {ι : Type} [DecidableEq ι] (K : ℕ → Finset ι) : (Finset.range 2).biUnion K = K 0 ∪ K 1 := by
  rw [show Finset.range 2 = {0, 1} from rfl, Finset.biUnion_insert, Finset.singleton_biUnion]

/-! The right operand's buffer, the landing buffer and the outgoing buffer are two slots each. -/

theorem wo_univ : (Finset.univ : Finset S2x2048x512.Idx) = (Finset.range 2).biUnion fun p => boxSet S2x2048x512 ![p, 0, 0] S1x2048x512.size := by
  rw [box_univ (s := S2x2048x512) (off := ![0, 0, 0]) (fun a => by fin_cases a <;> rfl)]
  exact box_split (s := S2x2048x512) (off := ![0, 0, 0]) (size := S2x2048x512.size) (size' := S1x2048x512.size) (off' := fun p => ![p, 0, 0]) 0 1 2 (by decide) rfl rfl (fun t => by show t = 0 + 1 * t; omega)
      (fun x hx => by fin_cases x <;> first | exact absurd rfl hx | exact ⟨rfl, fun t => rfl⟩)
theorem a3_univ : (Finset.univ : Finset S2x256x16x128.Idx) = (Finset.range 2).biUnion fun p => boxSet S2x256x16x128 ![p, 0, 0, 0] S1x256x16x128.size := by
  rw [box_univ (s := S2x256x16x128) (off := ![0, 0, 0, 0]) (fun a => by fin_cases a <;> rfl)]
  exact box_split (s := S2x256x16x128) (off := ![0, 0, 0, 0]) (size := S2x256x16x128.size) (size' := S1x256x16x128.size) (off' := fun p => ![p, 0, 0, 0]) 0 1 2 (by decide) rfl rfl (fun t => by show t = 0 + 1 * t; omega)
      (fun x hx => by fin_cases x <;> first | exact absurd rfl hx | exact ⟨rfl, fun t => rfl⟩)
theorem s_univ : (Finset.univ : Finset S2x256x512.Idx) = (Finset.range 2).biUnion fun p => boxSet S2x256x512 ![p, 0, 0] S1x256x512.size := by
  rw [box_univ (s := S2x256x512) (off := ![0, 0, 0]) (fun a => by fin_cases a <;> rfl)]
  exact box_split (s := S2x256x512) (off := ![0, 0, 0]) (size := S2x256x512.size) (size' := S1x256x512.size) (off' := fun p => ![p, 0, 0]) 0 1 2 (by decide) rfl rfl (fun t => by show t = 0 + 1 * t; omega)
      (fun x hx => by fin_cases x <;> first | exact absurd rfl hx | exact ⟨rfl, fun t => rfl⟩)
theorem a_univ : (Finset.univ : Finset S4x256x2048.Idx) = (Finset.range 4).biUnion fun b => boxSet S4x256x2048 ![b, 0, 0] S1x256x2048.size := by
  rw [box_univ (s := S4x256x2048) (off := ![0, 0, 0]) (fun a => by fin_cases a <;> rfl)]
  exact box_split (s := S4x256x2048) (off := ![0, 0, 0]) (size := S4x256x2048.size) (size' := S1x256x2048.size) (off' := fun p => ![p, 0, 0]) 0 1 4 (by decide) rfl rfl (fun t => by show t = 0 + 1 * t; omega)
      (fun x hx => by fin_cases x <;> first | exact absurd rfl hx | exact ⟨rfl, fun t => rfl⟩)
theorem w_univ : (Finset.univ : Finset S2048x4096.Idx) = (Finset.range 8).biUnion fun ch => boxSet S2048x4096 ![0, 512 * ch] S2048x512.size := by
  rw [box_univ (s := S2048x4096) (off := ![0, 0]) (fun a => by fin_cases a <;> rfl)]
  exact box_split (s := S2048x4096) (off := ![0, 0]) (size := S2048x4096.size) (size' := S2048x512.size) (off' := fun p => ![0, 512 * p]) 1 512 8 (by decide) rfl rfl (fun t => by show 512 * t = 0 + 512 * t; omega)
      (fun x hx => by fin_cases x <;> first | exact absurd rfl hx | exact ⟨rfl, fun t => rfl⟩)

theorem wo_slots (c : Dev nD) (f) : (((c : Thread nD τ).loc cc0_scratch0 ↦{fullShare} f : sProp 𝕄)) = iprop(woS c 0 f ∗ woS c 1 f) := by
  show ((c : Thread nD τ).loc cc0_scratch0 ↦[(Finset.univ : Finset S2x2048x512.Idx)]{fullShare} f : sProp 𝕄) = _
  rw [wo_univ, join2]; refine pts_union (boxSet_disjoint 0 (Or.inl ?_)); exact le_refl 1
theorem a3_slots (c : Dev nD) (f) : (((c : Thread nD τ).loc cc0_scratch1 ↦{fullShare} f : sProp 𝕄)) = iprop(a3S c 0 f ∗ a3S c 1 f) := by
  show ((c : Thread nD τ).loc cc0_scratch1 ↦[(Finset.univ : Finset S2x256x16x128.Idx)]{fullShare} f : sProp 𝕄) = _
  rw [a3_univ, join2]; refine pts_union (boxSet_disjoint 0 (Or.inl ?_)); exact le_refl 1
theorem s_slots (c : Dev nD) (f) : (((c : Thread nD τ).loc cc0_scratch3 ↦{fullShare} f : sProp 𝕄)) = iprop(sS c 0 f ∗ sS c 1 f) := by
  show ((c : Thread nD τ).loc cc0_scratch3 ↦[(Finset.univ : Finset S2x256x512.Idx)]{fullShare} f : sProp 𝕄) = _
  rw [s_univ, join2]; refine pts_union (boxSet_disjoint 0 (Or.inl ?_)); exact le_refl 1
theorem a_rows (c : Dev nD) (f) : (((c : Thread nD τ).loc cc0_scratch2 ↦{fullShare} f : sProp 𝕄)) = bigSep (Finset.range 4) fun b => aR c b f := by
  show ((c : Thread nD τ).loc cc0_scratch2 ↦[(Finset.univ : Finset S4x256x2048.Idx)]{fullShare} f : sProp 𝕄) = _
  rw [a_univ]
  exact pointsTo_biUnion _ _ fun t _ t' _ h => box_split_disjoint (s := S4x256x2048) (size' := S1x256x2048.size) (off' := fun t => ![t, 0, 0]) (o := 0) 0 1 rfl (fun t => by show t = 0 + 1 * t; omega) h
theorem a_pieces (c : Dev nD) (f) : (((c : Thread nD τ).loc cc0_scratch2 ↦{fullShare} f : sProp 𝕄)) = bigSep (Finset.range 64) fun t => aP c (t / 16) (t % 16) f := by
  rw [a_rows, show (64 : ℕ) = 16 * 4 from rfl, rng_mul]
  refine bigSep_congr fun b _ => ?_
  rw [a_split]
  refine bigSep_congr fun t ht => ?_
  have ht := Finset.mem_range.mp ht
  rw [show (16 * b + t) / 16 = b by omega, show (16 * b + t) % 16 = t by omega]

variable (m : (ℓ : Loc nD τ sig) → Buf (Elt F) ℓ)

theorem w_chunks (c : Dev nD) : (((c : Thread nD τ).loc main_arg1 ↦{fullShare} m ((c : Thread nD τ).loc main_arg1) : sProp 𝕄)) = bigSep (Finset.range 8) (wW m c) := by
  show ((c : Thread nD τ).loc main_arg1 ↦[(Finset.univ : Finset S2048x4096.Idx)]{fullShare} wA m c : sProp 𝕄) = _
  rw [w_univ]
  exact pointsTo_biUnion _ _ fun t _ t' _ h => box_split_disjoint (s := S2048x4096) (size' := S2048x512.size) (off' := fun t => ![0, 512 * t]) (o := 0) 1 512 rfl (fun t => by show 512 * t = 0 + 512 * t; omega) h

/-- The rows of the left operand that the kernel doesn't read. -/
def xRest (c : Dev nD) : sProp 𝕄 :=
  ((c : Thread nD τ).loc main_arg0) ↦[(Finset.univ : Finset S4x1024x16x128.Idx) \ (Finset.range 4).biUnion fun b => boxSet S4x1024x16x128 ![b, base c, 0, 0] S1x256x16x128.size]{fullShare} xA m c
theorem x_rows (c : Dev nD) : (((c : Thread nD τ).loc main_arg0 ↦{fullShare} m ((c : Thread nD τ).loc main_arg0) : sProp 𝕄)) = iprop(bigSep (Finset.range 4) (xW m c) ∗ xRest m c) := by
  show ((c : Thread nD τ).loc main_arg0 ↦[(Finset.univ : Finset S4x1024x16x128.Idx)]{fullShare} xA m c : sProp 𝕄) = _
  rw [show (Finset.univ : Finset S4x1024x16x128.Idx) = ((Finset.range 4).biUnion fun b => boxSet S4x1024x16x128 ![b, base c, 0, 0] S1x256x16x128.size)
      ∪ (Finset.univ \ (Finset.range 4).biUnion fun b => boxSet S4x1024x16x128 ![b, base c, 0, 0] S1x256x16x128.size) from (Finset.union_sdiff_of_subset (Finset.subset_univ _)).symm]
  refine (pts_union Finset.disjoint_sdiff).trans ?_
  rw [pointsTo_biUnion _ _ fun t _ t' _ h => box_split_disjoint (s := S4x1024x16x128) (size' := S1x256x16x128.size) (off' := fun t => ![t, base c, 0, 0]) (o := 0) 0 1 rfl (fun t => by show t = 0 + 1 * t; omega) h]
  rfl

/-! The result is two halves of thirty-two blocks. -/

def oHalf (c : Dev nD) (z : ℕ) (f : S4x2x256x4096.Idx → F .f32) : sProp 𝕄 := bigSep (Finset.range 32) fun k => oW c z k fullShare f

theorem half_blocks (c : Dev nD) (z : ℕ) (f) :
    (((c : Thread nD τ).loc cc0_stg0_0) ↦[boxSet S4x2x256x4096 ![0, z, 0, 0] ![4, 1, 256, 4096]]{fullShare} f : sProp 𝕄) = oHalf c z f := by
  unfold oHalf
  rw [box_split (s := S4x2x256x4096) (off := ![0, z, 0, 0]) (size := ![4, 1, 256, 4096]) (size' := ![4, 1, 256, 512]) (off' := fun t => ![0, z, 0, 512 * t])
    3 512 8 (by decide) rfl rfl (fun t => by show 512 * t = 0 + 512 * t; omega)
    (fun x hx => by fin_cases x <;> first | exact absurd rfl hx | exact ⟨rfl, fun t => rfl⟩)]
  rw [pointsTo_biUnion _ _ fun t _ t' _ h => box_split_disjoint (s := S4x2x256x4096) (size' := ![4, 1, 256, 512]) (off' := fun t => ![0, z, 0, 512 * t]) (o := 0) 3 512 rfl (fun t => by show 512 * t = 0 + 512 * t; omega) h]
  rw [show (32 : ℕ) = 4 * 8 from rfl, rng_mul]
  refine bigSep_congr fun ch _ => ?_
  rw [box_split (s := S4x2x256x4096) (off := ![0, z, 0, 512 * ch]) (size := ![4, 1, 256, 512]) (size' := S1x1x256x512.size) (off' := fun t => ![t, z, 0, 512 * ch])
    0 1 4 (by decide) rfl rfl (fun t => by show t = 0 + 1 * t; omega)
    (fun x hx => by fin_cases x <;> first | exact absurd rfl hx | exact ⟨rfl, fun t => rfl⟩)]
  rw [pointsTo_biUnion _ _ fun t _ t' _ h => box_split_disjoint (s := S4x2x256x4096) (size' := S1x1x256x512.size) (off' := fun t => ![t, z, 0, 512 * ch]) (o := 0) 0 1 rfl (fun t => by show t = 0 + 1 * t; omega) h]
  refine bigSep_congr fun b hb => ?_
  have hb := Finset.mem_range.mp hb
  unfold oW
  rw [show (4 * ch + b) % 4 = b by omega, show (4 * ch + b) / 4 = ch by omega]

theorem o_halves (c : Dev nD) (f) : (((c : Thread nD τ).loc cc0_stg0_0 ↦{fullShare} f : sProp 𝕄)) = iprop(oHalf c 0 f ∗ oHalf c 1 f) := by
  show ((c : Thread nD τ).loc cc0_stg0_0 ↦[(Finset.univ : Finset S4x2x256x4096.Idx)]{fullShare} f : sProp 𝕄) = _
  rw [(box_univ (off := ![0, 0, 0, 0]) (fun a => by fin_cases a <;> rfl)).trans
    (box_split (s := S4x2x256x4096) (off' := fun p => ![0, p, 0, 0]) (size' := ![4, 1, 256, 4096]) 1 1 2 (by decide) rfl rfl (fun t => by show t = 0 + 1 * t; omega)
      (fun x hx => by fin_cases x <;> first | exact absurd rfl hx | exact ⟨rfl, fun t => rfl⟩)), join2, ← half_blocks, ← half_blocks]
  refine pts_union (boxSet_disjoint 1 (Or.inl ?_)); exact le_refl 1
theorem o_own_far (c : Dev nD) (f) : (((c : Thread nD τ).loc cc0_stg0_0 ↦{fullShare} f : sProp 𝕄)) = iprop(oHalf c (zc c).val f ∗ oHalf c (zo c).val f) := by
  rw [o_halves]
  rcases (show ((zc c).val = 0 ∧ (zo c).val = 1) ∨ ((zc c).val = 1 ∧ (zo c).val = 0) by clear f; revert c; decide) with ⟨h1, h2⟩ | ⟨h1, h2⟩
  · rw [h1, h2]
  · rw [h1, h2]; exact BI.sep_comm.antisymm BI.sep_comm

end Cert.KernelIdeal.Proj
-- ==== Proof.Start.lean ====
module

public import proofs.«01_k».proof.Proof.Windows
public import proofs.«01_k».proof.Proof.RolesH

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

/-! # What a device starts with, and what it ends with -/

variable (m : (ℓ : Loc nD τ sig) → Buf (Elt F) ℓ) (K : Dev nD × Fin 265 → ℕ)

theorem rng_none {Φ : ℕ → sProp 𝕄} : bigSep (Finset.range 0) Φ = iprop(emp) := by rw [Finset.range_zero, bigSep_empty]; rfl
theorem rng3 (Φ : ℕ → sProp 𝕄) : bigSep (Finset.range 3) Φ = iprop(Φ 0 ∗ Φ 1 ∗ Φ 2) := by
  rw [← rng_Ico, bigSep_Ico_succ_bot (by omega), Ico_two]
theorem rng6 (Φ : ℕ → sProp 𝕄) : bigSep (Finset.range 6) Φ = iprop(Φ 0 ∗ Φ 1 ∗ Φ 2 ∗ Φ 3 ∗ Φ 4 ∗ Φ 5) := by
  rw [← rng_Ico, bigSep_Ico_succ_bot (by omega), bigSep_Ico_succ_bot (by omega), bigSep_Ico_succ_bot (by omega), bigSep_Ico_succ_bot (by omega), Ico_two]
theorem rng8 (Φ : ℕ → sProp 𝕄) : bigSep (Finset.range 8) Φ = iprop(Φ 0 ∗ Φ 1 ∗ Φ 2 ∗ Φ 3 ∗ Φ 4 ∗ Φ 5 ∗ Φ 6 ∗ Φ 7) := by
  rw [← rng_Ico, bigSep_Ico_succ_bot (by omega), bigSep_Ico_succ_bot (by omega), bigSep_Ico_succ_bot (by omega), bigSep_Ico_succ_bot (by omega),
    bigSep_Ico_succ_bot (by omega), bigSep_Ico_succ_bot (by omega), Ico_two]

/-! ## Tokens, positions, credits -/

def tW (c : Dev nD) : sProp 𝕄 := bigSep (Finset.range 8) fun ch => dutyTok ER (dC c (1 + ch % 2)) (ch / 2) 0
def tC (c : Dev nD) : sProp 𝕄 := bigSep (Finset.range 4) fun b => dutyTok ER (dC c (3 + b % 2)) (b / 2) 0
def tP (c : Dev nD) : sProp 𝕄 := bigSep (Finset.range 64) fun t => dutyTok ER (dC c (5 + t / 16 % 2)) (t / 16 / 2) (fin16 t)
def tX (c : Dev nD) (d : ℕ) : sProp 𝕄 := bigSep (Finset.range 32) fun k => dutyTok ER (xC c d k) 0 0
def aX (c : Dev nD) (d r : ℕ) : sProp 𝕄 := bigSep (Finset.range 32) fun k => atPos ER (xC c d k) r ∅ 0
def cX (c : Dev nD) (d : ℕ) : sProp 𝕄 := bigSep (Finset.range 32) fun k => cred (tallyAt (xC c d k) () oN)
abbrev a0 (c : Dev nD) (n : ℕ) : sProp 𝕄 := atPos ER (dC c n) 0 ∅ 0

theorem send_init (c : Dev nD) (d : ℕ) (t : Dev nD) :
    iprop(tX (F := F) c d ∗ tX t (d + 1) ∗ aX c d 0 ∗ lend t (zc c).val) ⊢ SendCh (F := F) c d t 0 0 := by
  unfold SendCh tX aX lend
  rw [rng_none, Ico_none, rng_Ico]
  iintro ⟨H1, H2, H3, H4⟩
  isplitr []
  · iapply (Entails.of_eq (show iprop((bigSep (Finset.range 32) fun k => dutyTok ER (xC c d k) 0 0) ∗ (bigSep (Finset.range 32) fun k => dutyTok ER (xC t (d + 1) k) 0 0)
        ∗ (bigSep (Finset.range 32) fun k => atPos ER (xC c d k) 0 ∅ 0) ∗ bigSep (Finset.range 32) fun k => iprop(∃ f, oW (F := F) t (zc c).val k fullShare f))
        = bigSep (Finset.range 32) (sTok (F := F) c d t) from by
      rw [← bs_sep, ← bs_sep, ← bs_sep]; rfl))
    isplitl [H1]; · iexact H1
    isplitl [H2]; · iexact H2
    isplitl [H3]; · iexact H3
    iexact H4
  isplitr <;> iempintro
theorem recv_init (c : Dev nD) (d : ℕ) : iprop(cX (F := F) c d ∗ aX c d 0) ⊢ RecvCh (F := F) c d 0 := by
  unfold RecvCh cX aX
  rw [rng_none, rng_Ico]
  iintro ⟨H1, H2⟩
  isplitr []
  · iapply (Entails.of_eq (show iprop((bigSep (Finset.range 32) fun k => cred (tallyAt (xC c d k) () oN)) ∗ bigSep (Finset.range 32) fun k => atPos ER (xC c d k) 0 ∅ 0)
        = bigSep (Finset.range 32) (xFly (F := F) c d) from by rw [← bs_sep]; rfl))
    isplitl [H1] <;> iassumption
  iempintro
theorem send_fini (c : Dev nD) (d : ℕ) (t : Dev nD) : SendCh (F := F) c d t 32 32 ⊢ aX (F := F) c d 1 := by
  unfold SendCh aX; iintro ⟨-, -, H⟩; iapply (Entails.of_eq (show bigSep (Finset.range 32) (xDone (F := F) c d) = bigSep (Finset.range 32) fun k => atPos ER (xC c d k) 1 ∅ 0 from rfl)); iexact H
theorem recv_fini (c : Dev nD) (d : ℕ) : RecvCh (F := F) c d 32 ⊢ aX (F := F) c d 1 := by
  unfold RecvCh aX; iintro ⟨-, H⟩; iapply (Entails.of_eq (show bigSep (Finset.range 32) (xDone (F := F) c d) = bigSep (Finset.range 32) fun k => atPos ER (xC c d k) 1 ∅ 0 from rfl)); iexact H

/-! ## The entry barrier's signals -/

theorem pay_of (c : Dev nD) (d : ℕ) (h : d = 2 ∨ (d = 1 ∧ holder c = true) ∨ (d = 0 ∧ holder c = false)) :
    barPay (F := F) c d = lend (nb c d) (zc c).val := if_pos h
theorem pay_emp (c : Dev nD) (d : ℕ) (h : ¬ (d = 2 ∨ (d = 1 ∧ holder c = true) ∨ (d = 0 ∧ holder c = false))) :
    barPay (F := F) c d = iprop(emp) := if_neg h

theorem bst_init_n (c : Dev nD) (hc : holder c = false) :
    iprop((bigSep (Finset.range 3) fun d => dutyTok ER (barC (nb c d)) 0 (fin16 d)) ∗ lend (F := F) c (zc c).val ∗ lend (F := F) c (zo c).val
      ∗ cred (tallyAt (barC c) () 3) ∗ atPos ER (barC c) 0 ∅ 0) ⊢ BSt (F := F) c 0 := by
  have h0 : barPay (F := F) (nb c 0) 0 = iprop(emp) := pay_emp _ _ (by show ¬ (_ ∨ (_ ∧ holder (nbr0 c) = true) ∨ (_ ∧ holder (nbr0 c) = false)); rw [holder_nbr0, hc]; decide)
  have h1 : barPay (F := F) (nb c 1) 1 = lend c (zc c).val := (pay_of _ _ (Or.inr (Or.inl ⟨rfl, by show holder (nbr1 c) = true; rw [holder_nbr1, hc]; rfl⟩))).trans
    (by rw [nb_nb]; show lend c (zc (nbr1 c)).val = _; rw [zc_nbr1])
  have h2 : barPay (F := F) (nb c 2) 2 = lend c (zo c).val := (pay_of _ _ (Or.inl rfl)).trans (by rw [nb_nb]; show lend c (zc (nbr2 c)).val = _; rw [zc_nbr2])
  unfold BSt
  rw [rng_Ico, rng3, rng3, h0, h1, h2]
  iintro ⟨⟨T0, T1, T2⟩, L1, L2, Hc, Ha⟩
  isplitr [Hc Ha]
  · isplitl [T0]
    · isplitl [T0]; · iexact T0
      iempintro
    isplitl [T1 L1]
    · isplitl [T1]; · iexact T1
      iexact L1
    isplitl [T2]; · iexact T2
    iexact L2
  isplitl [Hc]; · iexact Hc
  iexact Ha
theorem bst_init_h (c : Dev nD) (hc : holder c = true) :
    iprop((bigSep (Finset.range 3) fun d => dutyTok ER (barC (nb c d)) 0 (fin16 d)) ∗ lend (F := F) c (zc c).val ∗ lend (F := F) c (zo c).val
      ∗ cred (tallyAt (barC c) () 3) ∗ atPos ER (barC c) 0 ∅ 0) ⊢ BSt (F := F) c 0 := by
  have h1 : barPay (F := F) (nb c 1) 1 = iprop(emp) := pay_emp _ _ (by show ¬ (_ ∨ (_ ∧ holder (nbr1 c) = true) ∨ (_ ∧ holder (nbr1 c) = false)); rw [holder_nbr1, hc]; decide)
  have h0 : barPay (F := F) (nb c 0) 0 = lend c (zc c).val := (pay_of _ _ (Or.inr (Or.inr ⟨rfl, by show holder (nbr0 c) = false; rw [holder_nbr0, hc]; rfl⟩))).trans
    (by rw [nb_nb]; show lend c (zc (nbr0 c)).val = _; rw [zc_nbr0])
  have h2 : barPay (F := F) (nb c 2) 2 = lend c (zo c).val := (pay_of _ _ (Or.inl rfl)).trans (by rw [nb_nb]; show lend c (zc (nbr2 c)).val = _; rw [zc_nbr2])
  unfold BSt
  rw [rng_Ico, rng3, rng3, h0, h1, h2]
  iintro ⟨⟨T0, T1, T2⟩, L1, L2, Hc, Ha⟩
  isplitr [Hc Ha]
  · isplitl [T0 L1]
    · isplitl [T0]; · iexact T0
      iexact L1
    isplitl [T1]
    · isplitl [T1]; · iexact T1
      iempintro
    isplitl [T2]; · iexact T2
    iexact L2
  isplitl [Hc]; · iexact Hc
  iexact Ha

/-! ## The operands' pipelines -/

theorem w_init (c : Dev nD) :
    iprop(Ctx m K ∗ tW (F := F) c ∗ a0 c 1 ∗ a0 c 2 ∗ (∃ f, (c : Thread nD τ).loc cc0_scratch0 ↦{fullShare} f) ∗ bigSep (Finset.range 8) (wW m c)) ⊢ WSt m c 0 0 := by
  unfold WSt tW
  rw [rng_none, Ico_none, rng_Ico, rng_Ico, show (0 + 2 : ℕ) = 2 from rfl, ← rng_Ico 2, Ico_two]
  iintro ⟨#HC, HT, A1, A2, ⟨%f, Hf⟩, HW⟩
  ihave #H1 := (Ctx_d m K c 1 (by omega)) $$ HC
  icases H1 with ⟨-, #R1⟩
  ihave #H2 := (Ctx_d m K c 2 (by omega)) $$ HC
  icases H2 with ⟨-, #R2⟩
  ihave Hf := (Entails.of_eq (wo_slots c f)) $$ Hf
  icases Hf with ⟨F1, F2⟩
  isplitl [HT HW]
  · iapply (Entails.of_eq (show _ = bigSep (Finset.range 8) (wTok m c) from by unfold wTok; rw [bs_sep]))
    isplitl [HT] <;> iassumption
  isplitr; · iempintro
  isplitl
  · isplitl [A1 F1]
    · unfold wCell wSlot
      rw [if_pos (by omega)]
      isplitl [A1]; · iexact A1
      isplitr; · iexact R1
      iexists f; iexact F1
    · unfold wCell wSlot
      rw [if_pos (by omega)]
      isplitl [A2]; · iexact A2
      isplitr; · iexact R2
      iexists f; iexact F2
  iempintro

theorem w_fini (c : Dev nD) : WSt m c 8 8 ⊢ iprop(atPos ER (dC c 1) 4 ∅ 0 ∗ atPos ER (dC c 2) 4 ∅ 0
    ∗ (∃ f, (c : Thread nD τ).loc cc0_scratch0 ↦{fullShare} f) ∗ bigSep (Finset.range 8) (wW m c)) := by
  unfold WSt
  rw [Ico_two]
  iintro ⟨-, -, ⟨H1, H2⟩, HW⟩
  unfold wCell
  icases H1 with ⟨A1, -, S1⟩
  icases H2 with ⟨A2, -, S2⟩
  ihave S1 := (wSlot_some m c 8) $$ S1
  ihave S2 := (wSlot_some m c 9) $$ S2
  isplitl [A1]; · iexact A1
  isplitl [A2]; · iexact A2
  isplitr [HW]
  · iapply (show iprop((∃ f, woS (F := F) c 0 f) ∗ ∃ f, woS c 1 f) ⊢ iprop(∃ f, (c : Thread nD τ).loc cc0_scratch0 ↦{fullShare} f) from by
      refine (two_join (ℓ := (c : Thread nD τ).loc cc0_scratch0) (boxSet_disjoint (s := S2x2048x512) (0 : Fin 3) (Or.inl ?_))).trans (Entails.of_eq ?_)
      · exact le_refl 1
      · rw [← join2 (fun p => boxSet S2x2048x512 ![p, 0, 0] S1x2048x512.size), ← wo_univ])
    isplitl [S1]; · iexact S1
    iexact S2
  iexact HW

theorem c_init (c : Dev nD) :
    iprop(Ctx m K ∗ tC (F := F) c ∗ tP c ∗ a0 c 3 ∗ a0 c 4 ∗ a0 c 5 ∗ a0 c 6 ∗ (∃ f, (c : Thread nD τ).loc cc0_scratch1 ↦{fullShare} f)
      ∗ (∃ f, (c : Thread nD τ).loc cc0_scratch2 ↦{fullShare} f) ∗ bigSep (Finset.range 4) (xW m c)) ⊢ CSt m c 0 0 0 0 0 := by
  unfold CSt tC tP
  iintro ⟨#HC, HT, HP, A3, A4, A5, A6, ⟨%f, Hf⟩, ⟨%g, Hg⟩, HX⟩
  ihave #H3 := (Ctx_d m K c 3 (by omega)) $$ HC
  icases H3 with ⟨-, #R3⟩
  ihave #H4 := (Ctx_d m K c 4 (by omega)) $$ HC
  icases H4 with ⟨-, #R4⟩
  ihave #H5 := (Ctx_d m K c 5 (by omega)) $$ HC
  icases H5 with ⟨-, #R5⟩
  ihave #H6 := (Ctx_d m K c 6 (by omega)) $$ HC
  icases H6 with ⟨-, #R6⟩
  ihave Hf := (Entails.of_eq (a3_slots c f)) $$ Hf
  icases Hf with ⟨F1, F2⟩
  ihave Hg := (Entails.of_eq (a_pieces c g)) $$ Hg
  isplitl [HT HX]
  · rw [rng_Ico]
    iapply (Entails.of_eq (show _ = bigSep (Finset.range 4) (cTok m c) from by unfold cTok; rw [bs_sep]))
    isplitl [HT] <;> iassumption
  isplitr; · rw [Ico_none]; iempintro
  isplitl [A3 A4]
  · rw [Ico_two]
    isplitl [A3]
    · unfold cCell; isplitl [A3]; · iexact A3
      iexact R3
    · unfold cCell; isplitl [A4]; · iexact A4
      iexact R4
  isplitl [F1 F2]
  · rw [Ico_two]
    isplitl [F1]
    · unfold cSlot; iexists f; iexact F1
    · unfold cSlot; iexists f; iexact F2
  isplitr; · rw [rng_none]; iempintro
  isplitr; · rw [show 16 * 0 = 0 from rfl, Ico_none]; iempintro
  isplitl [HP Hg]
  · rw [rng_Ico]
    iapply (show iprop((bigSep (Finset.range 64) fun t => dutyTok ER (dC c (5 + t / 16 % 2)) (t / 16 / 2) (fin16 t)) ∗ bigSep (Finset.range 64) fun t => aP (F := F) c (t / 16) (t % 16) g)
        ⊢ bigSep (Finset.range 64) (pTok (F := F) c) from by
      rw [← bs_sep]
      refine bigSep_mono fun t _ => ?_
      unfold pTok fin16
      show iprop(dutyTok ER (dC c (5 + t / 16 % 2)) (t / 16 / 2) ⟨t % 16, _⟩ ∗ aP (F := F) c (t / 16) (t % 16) g) ⊢ iprop(_ ∗ _)
      iintro ⟨H1, H2⟩
      isplitl [H1]; · iexact H1
      iexists g; iexact H2)
    isplitl [HP] <;> iassumption
  isplitr; · rw [show 16 * 0 + 0 = 0 from rfl, Ico_none]; iempintro
  isplitl [A5]
  · unfold pCur
    iexists ∅
    isplitr; · ipureintro; intro _; rfl
    rw [Nat.zero_mul, bigSep_empty]
    isplitl [A5]; · iexact A5
    iempintro
  isplitl [A6]; · iexact A6
  isplitr
  · rw [← rng_Ico, Ico_two]
    isplitr
    · iexact R5
    · iexact R6
  rw [rng_none]; iempintro

theorem c_fini (c : Dev nD) : CSt m c 4 4 4 0 64 ⊢ iprop(atPos ER (dC c 3) 2 ∅ 0 ∗ atPos ER (dC c 4) 2 ∅ 0 ∗ atPos ER (dC c 5) 2 ∅ 0 ∗ atPos ER (dC c 6) 2 ∅ 0
    ∗ (∃ f, (c : Thread nD τ).loc cc0_scratch1 ↦{fullShare} f) ∗ (∃ f, (c : Thread nD τ).loc cc0_scratch2 ↦{fullShare} f) ∗ bigSep (Finset.range 4) (xW m c)) := by
  unfold CSt
  rw [Ico_two, Ico_two]
  iintro ⟨-, -, ⟨H1, H2⟩, ⟨S1, S2⟩, HX, -, -, -, HP, A6, -, HA⟩
  unfold cCell pCur
  icases H1 with ⟨A3, -⟩
  icases H2 with ⟨A4, -⟩
  icases HP with ⟨%S, %hS, A5, -⟩
  have hS := hS rfl
  subst hS
  isplitl [A3]; · iexact A3
  isplitl [A4]; · iexact A4
  isplitl [A5]; · rw [Nat.zero_mul]; iexact A5
  isplitl [A6]; · iexact A6
  isplitl [S1 S2]
  · iapply (show iprop((∃ f, a3S (F := F) c 0 f) ∗ ∃ f, a3S c 1 f) ⊢ iprop(∃ f, (c : Thread nD τ).loc cc0_scratch1 ↦{fullShare} f) from by
      refine (two_join (ℓ := (c : Thread nD τ).loc cc0_scratch1) (boxSet_disjoint (s := S2x256x16x128) (0 : Fin 4) (Or.inl ?_))).trans (Entails.of_eq ?_)
      · exact le_refl 1
      · rw [← join2 (fun p => boxSet S2x256x16x128 ![p, 0, 0, 0] S1x256x16x128.size), ← a3_univ])
    unfold cSlot
    isplitl [S1]; · iexact S1
    iexact S2
  isplitl [HA]
  · iexists _
    iapply (Entails.of_eq (a_rows c (aBuf m c)).symm); iexact HA
  iexact HX

end Cert.KernelIdeal.Proj
-- ==== Proof.Close.lean ====
module

public import proofs.«01_k».proof.Proof.Start

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

/-! # Each role's way in and way out, and the closing of the semaphores -/

variable (m : (ℓ : Loc nD τ sig) → Buf (Elt F) ℓ) (K : Dev nD × Fin 265 → ℕ)

/-- The duty tokens of the transfers between devices that device `c` pays. -/
def tXs (c : Dev nD) : sProp 𝕄 :=
  iprop(tX c 0 ∗ tX (nbr0 c) 1 ∗ tX c 2 ∗ tX (nbr1 c) 3 ∗ tX c 4 ∗ tX (nbr2 c) 5 ∗ tX c 6 ∗ tX (nbr2 c) 7)
def aXs (c : Dev nD) : sProp 𝕄 :=
  iprop(aX c 0 0 ∗ aX c 1 0 ∗ aX c 2 0 ∗ aX c 3 0 ∗ aX c 4 0 ∗ aX c 5 0 ∗ aX c 6 0 ∗ aX c 7 0)
def tB (c : Dev nD) : sProp 𝕄 := bigSep (Finset.range 3) fun d => dutyTok ER (barC (nb c d)) 0 (fin16 d)
def tE (c : Dev nD) : sProp 𝕄 := bigSep (Finset.range 3) fun d => dutyTok ER (exC (nb c d)) 0 (fin16 d)
def scr3 (c : Dev nD) : sProp 𝕄 := iprop(∃ f, (c : Thread nD τ).loc cc0_scratch3 ↦{fullShare} f)

theorem est_init (c : Dev nD) : iprop(tE (F := F) c ∗ cred (tallyAt (exC c) () 3) ∗ atPos ER (exC c) 0 ∅ 0) ⊢ ESt (F := F) c 0 := by
  unfold tE ESt; rw [rng_Ico]

theorem n_hs (c : Dev nD) (hc : holder c = false) (Z : sProp 𝕄) :
    iprop((barPay (F := F) c 0 ∗ barPay (F := F) c 1 ∗ barPay (F := F) c 2 ∗ atPos ER (barC c) 1 ∅ 0)
        ∗ (tXs c ∗ aXs c ∗ (cX c 3 ∗ cX c 7) ∗ scr3 c ∗ (tE c ∗ cred (tallyAt (exC c) () 3) ∗ atPos ER (exC c) 0 ∅ 0) ∗ Z))
      ⊢ iprop(NSt m c 0 0 0 0 0 0 0 ∗ ESt c 0 ∗ (atPos ER (barC c) 1 ∅ 0 ∗ aX c 1 0 ∗ aX c 2 0 ∗ aX c 4 0 ∗ aX c 5 0) ∗ Z) := by
  rw [pay_of c 0 (Or.inr (Or.inr ⟨rfl, hc⟩)), pay_of c 2 (Or.inl rfl), show nb c 0 = nbr0 c from rfl, show nb c 2 = nbr2 c from rfl]
  unfold tXs aXs scr3
  iintro ⟨⟨L0, -, L2, HB⟩, ⟨T0, T1, -, -, -, -, T6, T7⟩, ⟨A0, A1, A2, A3, A4, A5, A6, A7⟩, ⟨C3, C7⟩, ⟨%f, HS⟩, HE, HZ⟩
  ihave HS := (Entails.of_eq (s_slots c f)) $$ HS
  icases HS with ⟨S0, S1⟩
  ihave HE := (est_init (F := F) c) $$ HE
  isplitl [L0 L2 T0 T1 T6 T7 A0 A3 A6 A7 C3 C7 S0 S1]
  · unfold NSt
    isplitl [L0 T0 T1 A0]
    · iapply (send_init c 0 (nbr0 c))
      isplitl [T0]; · iexact T0
      isplitl [T1]; · iexact T1
      isplitl [A0]; · iexact A0
      iexact L0
    isplitr; · rw [Ico_none]; iempintro
    isplitl [S0 S1]
    · rw [Ico_two]
      isplitl [S0]
      · unfold sAny; iexists f; iexact S0
      · unfold sAny; iexists f; iexact S1
    isplitl [C3 A3]
    · iapply (recv_init c 3); isplitl [C3] <;> iassumption
    isplitr; · rw [Ico_none]; iempintro
    isplitl [L2 T6 T7 A6]
    · iapply (send_init c 6 (nbr2 c))
      isplitl [T6]; · iexact T6
      isplitl [T7]; · iexact T7
      isplitl [A6]; · iexact A6
      iexact L2
    isplitr; · rw [rng_none]; iempintro
    isplitl [C7 A7]
    · iapply (recv_init c 7); isplitl [C7] <;> iassumption
    rw [rng_none]; iempintro
  isplitl [HE]; · iexact HE
  isplitr [HZ]
  · isplitl [HB]; · iexact HB
    isplitl [A1]; · iexact A1
    isplitl [A2]; · iexact A2
    isplitl [A4]; · iexact A4
    iexact A5
  iexact HZ

theorem h_hs (c : Dev nD) (hc : holder c = true) (Z : sProp 𝕄) :
    iprop((barPay (F := F) c 0 ∗ barPay (F := F) c 1 ∗ barPay (F := F) c 2 ∗ atPos ER (barC c) 1 ∅ 0)
        ∗ (tXs c ∗ aXs c ∗ (cX c 1 ∗ cX c 5) ∗ scr3 c ∗ (tE c ∗ cred (tallyAt (exC c) () 3) ∗ atPos ER (exC c) 0 ∅ 0) ∗ Z))
      ⊢ iprop(HSt m c 0 0 0 0 0 0 0 ∗ ESt c 0 ∗ (atPos ER (barC c) 1 ∅ 0 ∗ aX c 0 0 ∗ aX c 3 0 ∗ aX c 6 0 ∗ aX c 7 0 ∗ scr3 c) ∗ Z) := by
  rw [pay_of c 1 (Or.inr (Or.inl ⟨rfl, hc⟩)), pay_of c 2 (Or.inl rfl), show nb c 1 = nbr1 c from rfl, show nb c 2 = nbr2 c from rfl]
  unfold tXs aXs
  iintro ⟨⟨-, L1, L2, HB⟩, ⟨-, -, T2, T3, T4, T5, -, -⟩, ⟨A0, A1, A2, A3, A4, A5, A6, A7⟩, ⟨C1, C5⟩, HS, HE, HZ⟩
  ihave HE := (est_init (F := F) c) $$ HE
  isplitl [L1 L2 T2 T3 T4 T5 A1 A2 A4 A5 C1 C5]
  · unfold HSt
    isplitl [C1 A1]
    · iapply (recv_init c 1); isplitl [C1] <;> iassumption
    isplitr; · rw [Ico_none]; iempintro
    isplitr; · rw [Ico_none]; iempintro
    isplitr; · rw [Ico_none]; iempintro
    isplitl [L1 T2 T3 A2]
    · iapply (send_init c 2 (nbr1 c))
      isplitl [T2]; · iexact T2
      isplitl [T3]; · iexact T3
      isplitl [A2]; · iexact A2
      iexact L1
    isplitr; · rw [rng_none]; iempintro
    isplitl [L2 T4 T5 A4]
    · iapply (send_init c 4 (nbr2 c))
      isplitl [T4]; · iexact T4
      isplitl [T5]; · iexact T5
      isplitl [A4]; · iexact A4
      iexact L2
    isplitr; · rw [rng_none]; iempintro
    isplitl [C5 A5]
    · iapply (recv_init c 5); isplitl [C5] <;> iassumption
    rw [rng_none]; iempintro
  isplitl [HE]; · iexact HE
  isplitr [HZ]
  · isplitl [HB]; · iexact HB
    isplitl [A0]; · iexact A0
    isplitl [A3]; · iexact A3
    isplitl [A6]; · iexact A6
    isplitl [A7]; · iexact A7
    iexact HS
  iexact HZ

theorem n_fini (c : Dev nD) : NSt m c 32 32 32 32 32 32 32
    ⊢ iprop((aX c 0 1 ∗ aX c 3 1 ∗ aX c 6 1 ∗ aX c 7 1) ∗ scr3 c ∗ ((c : Thread nD τ).loc cc0_stg0_0 ↦{fullShare} outBuf m c)) := by
  unfold NSt
  rw [Ico_two]
  iintro ⟨H0, -, HS, H3, -, H6, HO, H7, HP⟩
  ihave H0 := (send_fini c 0 (nbr0 c)) $$ H0
  ihave H3 := (recv_fini c 3) $$ H3
  ihave H6 := (send_fini c 6 (nbr2 c)) $$ H6
  ihave H7 := (recv_fini c 7) $$ H7
  isplitl [H0 H3 H6 H7]
  · isplitl [H0]; · iexact H0
    isplitl [H3]; · iexact H3
    isplitl [H6]; · iexact H6
    iexact H7
  isplitl [HS]
  · unfold scr3
    iapply (show iprop((∃ f, sS (F := F) c 0 f) ∗ ∃ f, sS c 1 f) ⊢ iprop(∃ f, (c : Thread nD τ).loc cc0_scratch3 ↦{fullShare} f) from by
      refine (two_join (ℓ := (c : Thread nD τ).loc cc0_scratch3) (boxSet_disjoint (s := S2x256x512) (0 : Fin 3) (Or.inl ?_))).trans (Entails.of_eq ?_)
      · exact le_refl 1
      · rw [← join2 (fun p => boxSet S2x256x512 ![p, 0, 0] S1x256x512.size), ← s_univ])
    icases HS with ⟨S1, S2⟩
    unfold sAny
    isplitl [S1]; · iexact S1
    iexact S2
  iapply (Entails.of_eq (o_own_far c (outBuf m c)).symm)
  unfold oHalf
  isplitl [HO]
  · iapply (Entails.of_eq (show bigSep (Finset.range 32) (oOwn m c) = bigSep (Finset.range 32) fun k => oW c (zc c).val k fullShare (outBuf m c) from rfl)); iexact HO
  · iapply (Entails.of_eq (show bigSep (Finset.range 32) (oFar m c) = bigSep (Finset.range 32) fun k => oW c (zo c).val k fullShare (outBuf m c) from rfl)); iexact HP

theorem h_fini (c : Dev nD) : HSt m c 32 32 32 32 32 32 32
    ⊢ iprop((aX c 1 1 ∗ aX c 2 1 ∗ aX c 4 1 ∗ aX c 5 1) ∗ ((c : Thread nD τ).loc cc0_stg0_0 ↦{fullShare} outBuf m c)) := by
  unfold HSt
  iintro ⟨H1, -, -, -, H2, HL, H4, HR, H5, HP⟩
  ihave H1 := (recv_fini c 1) $$ H1
  ihave H2 := (send_fini c 2 (nbr1 c)) $$ H2
  ihave H4 := (send_fini c 4 (nbr2 c)) $$ H4
  ihave H5 := (recv_fini c 5) $$ H5
  isplitl [H1 H2 H4 H5]
  · isplitl [H1]; · iexact H1
    isplitl [H2]; · iexact H2
    isplitl [H4]; · iexact H4
    iexact H5
  iapply (Entails.of_eq (o_own_far c (outBuf m c)).symm)
  unfold oHalf
  isplitl [HL HR]
  · iapply (show iprop(bigSep (Finset.range 32) (oL m c) ∗ bigSep (Finset.range 32) (oR m c)) ⊢ bigSep (Finset.range 32) fun k => oW c (zc c).val k fullShare (outBuf m c) from by
      rw [← bs_sep]
      exact bigSep_mono fun k _ => (pointsTo_share (PosShare.mem_left_op_right fullShare)).2)
    isplitl [HL] <;> iassumption
  · iapply (Entails.of_eq (show bigSep (Finset.range 32) (oFar m c) = bigSep (Finset.range 32) fun k => oW c (zo c).val k fullShare (outBuf m c) from rfl)); iexact HP

/-! ## Closing the semaphores -/

theorem dDut_xe {c : Dev nD} {d k r : ℕ} (hk : k < 32) (h : r ≠ 0 ∨ used c d = false) : dDut c (7 + 32 * d + k) r = ∅ := by
  unfold dDut
  rw [if_neg (by omega), if_neg (by omega), if_neg (by omega), if_neg (by omega), if_neg]
  rw [show (7 + 32 * d + k - 7) / 32 = d by omega]
  rintro ⟨h1, h2⟩
  rcases h with h | h
  · exact h h1
  · rw [h] at h2; cases h2

theorem close_d (c : Dev nD) (n R : ℕ) (h : 0 < n ∧ n < 263) (hR : ∀ r, R ≤ r → dDut c n r = ∅) :
    iprop(Ctx m K ∗ atPos ER (dC c n) R ∅ 0) ⊢ iprop(|={Set.univ}=> semVal (dC c n) 0) := by
  iintro ⟨#HC, HA⟩
  ihave #H := (Ctx_d m K c n h) $$ HC
  icases H with ⟨#HI, -⟩
  iapply (Rounds.cell_close ER (Rd m) (κ := kd K c n) (Es := Set.univ) (Set.mem_univ _) (fun h => h) (fun r hr => (duties_d m c n r h.2).trans (hR r hr)))
  isplitr; · iexact HI
  iexact HA

theorem close_x (c : Dev nD) (d R : ℕ) (hd : d < 8) (hR : R = 1 ∨ used c d = false) :
    iprop(Ctx m K ∗ aX (F := F) c d R) ⊢ iprop(|={Set.univ}=> bigSep (Finset.range 32) fun k => semVal (xC c d k) 0) := by
  unfold aX
  refine (sep_mono_left (BI.bigSep_of_persistent (Finset.range 32) (Ctx m K))).trans ?_
  rw [← bs_sep]
  refine (bigSep_mono fun k hk => close_d m K c (7 + 32 * d + k) R ⟨by omega, by have := Finset.mem_range.mp hk; omega⟩ fun r hr =>
    dDut_xe (Finset.mem_range.mp hk) (hR.imp (fun h => by omega) id)).trans (bigSep_fupd _ _)

theorem close_bar (c : Dev nD) : iprop(Ctx m K ∗ atPos ER (barC c) 1 ∅ 0) ⊢ iprop(|={Set.univ}=> semVal (barC c) 0) := by
  iintro ⟨#HC, HA⟩
  ihave #H := (Ctx_bar m K c) $$ HC
  icases H with ⟨#HI, -⟩
  iapply (Rounds.cell_close ER (Rd m) (Set.mem_univ _) (fun h => h) (fun r hr => duties_r' m c _ r hr))
  isplitr; · iexact HI
  iexact HA
theorem close_ex (c : Dev nD) : iprop(Ctx m K ∗ atPos ER (exC c) 1 ∅ 0) ⊢ iprop(|={Set.univ}=> semVal (exC c) 0) := by
  iintro ⟨#HC, HA⟩
  ihave #H := (Ctx_ex m K c) $$ HC
  icases H with ⟨#HI, -⟩
  iapply (Rounds.cell_close ER (Rd m) (Set.mem_univ _) (fun h => h) (fun r hr => duties_r' m c _ r hr))
  isplitr; · iexact HI
  iexact HA

/-- A proposition at each of device `c`'s cells. -/
def cellsAll (c : Dev nD) (Φ : GSem nD τ sig → sProp 𝕄) : sProp 𝕄 :=
  iprop((Φ (dC c 1) ∗ Φ (dC c 2) ∗ Φ (dC c 3) ∗ Φ (dC c 4) ∗ Φ (dC c 5) ∗ Φ (dC c 6))
    ∗ (bigSep (Finset.range 8) fun d => bigSep (Finset.range 32) fun k => Φ (xC c d k)) ∗ Φ (barC c) ∗ Φ (exC c))

/-- Where device `c` stands at the end, role by role: each cell is past its last round. -/
def endPos (c : Dev nD) (b : Bool) : sProp 𝕄 :=
  iprop((atPos ER (dC c 1) 4 ∅ 0 ∗ atPos ER (dC c 2) 4 ∅ 0 ∗ atPos ER (dC c 3) 2 ∅ 0 ∗ atPos ER (dC c 4) 2 ∅ 0 ∗ atPos ER (dC c 5) 2 ∅ 0 ∗ atPos ER (dC c 6) 2 ∅ 0)
    ∗ (aX c 0 (if b then 0 else 1) ∗ aX c 1 (if b then 1 else 0) ∗ aX c 2 (if b then 1 else 0) ∗ aX c 3 (if b then 0 else 1)
      ∗ aX c 4 (if b then 1 else 0) ∗ aX c 5 (if b then 1 else 0) ∗ aX c 6 (if b then 0 else 1) ∗ aX c 7 (if b then 0 else 1))
    ∗ atPos ER (barC c) 1 ∅ 0 ∗ atPos ER (exC c) 1 ∅ 0)

theorem close_all (c : Dev nD) (b : Bool) (hb : holder c = b) :
    iprop(Ctx m K ∗ endPos (F := F) c b) ⊢ iprop(|={Set.univ}=> cellsAll c fun g => semVal g 0) := by
  unfold endPos cellsAll
  rw [rng8]
  have hu : ∀ d, (d = 0 ∨ d = 3 ∨ d = 6 ∨ d = 7) → (if b then 0 else 1) = 1 ∨ used c d = false := by
    intro d hd
    cases b
    · exact Or.inl rfl
    · refine Or.inr ?_; unfold used; rw [hb, if_neg (by omega)]; rfl
  have hv : ∀ d, (d = 1 ∨ d = 2 ∨ d = 4 ∨ d = 5) → (if b then 1 else 0) = 1 ∨ used c d = false := by
    intro d hd
    cases b
    · refine Or.inr ?_; unfold used; rw [if_pos (by omega)]; exact hb
    · exact Or.inl rfl
  have hw : ∀ n, (n = 1 ∨ n = 2) → ∀ r, 4 ≤ r → dDut c n r = ∅ := fun n hn r hr => by
    unfold dDut; rw [if_neg (by omega), if_pos (by omega), if_neg (by omega)]
  have hq : ∀ n, (n = 3 ∨ n = 4) → ∀ r, 2 ≤ r → dDut c n r = ∅ := fun n hn r hr => by
    unfold dDut; rw [if_neg (by omega), if_neg (by omega), if_pos (by omega), if_neg (by omega)]
  have hp : ∀ n, (n = 5 ∨ n = 6) → ∀ r, 2 ≤ r → dDut c n r = ∅ := fun n hn r hr => by
    unfold dDut; rw [if_neg (by omega), if_neg (by omega), if_neg (by omega), if_pos (by omega), if_neg (by omega)]
  iintro ⟨#HC, ⟨A1, A2, A3, A4, A5, A6⟩, ⟨X0, X1, X2, X3, X4, X5, X6, X7⟩, AB, AE⟩
  imod (close_d m K c 1 4 (by omega) (hw 1 (by omega))) $$ [A1] with A1
  · isplitr; · iexact HC
    iexact A1
  imod (close_d m K c 2 4 (by omega) (hw 2 (by omega))) $$ [A2] with A2
  · isplitr; · iexact HC
    iexact A2
  imod (close_d m K c 3 2 (by omega) (hq 3 (by omega))) $$ [A3] with A3
  · isplitr; · iexact HC
    iexact A3
  imod (close_d m K c 4 2 (by omega) (hq 4 (by omega))) $$ [A4] with A4
  · isplitr; · iexact HC
    iexact A4
  imod (close_d m K c 5 2 (by omega) (hp 5 (by omega))) $$ [A5] with A5
  · isplitr; · iexact HC
    iexact A5
  imod (close_d m K c 6 2 (by omega) (hp 6 (by omega))) $$ [A6] with A6
  · isplitr; · iexact HC
    iexact A6
  imod (close_x m K c 0 _ (by omega) (hu 0 (by omega))) $$ [X0] with X0
  · isplitr; · iexact HC
    iexact X0
  imod (close_x m K c 1 _ (by omega) (hv 1 (by omega))) $$ [X1] with X1
  · isplitr; · iexact HC
    iexact X1
  imod (close_x m K c 2 _ (by omega) (hv 2 (by omega))) $$ [X2] with X2
  · isplitr; · iexact HC
    iexact X2
  imod (close_x m K c 3 _ (by omega) (hu 3 (by omega))) $$ [X3] with X3
  · isplitr; · iexact HC
    iexact X3
  imod (close_x m K c 4 _ (by omega) (hv 4 (by omega))) $$ [X4] with X4
  · isplitr; · iexact HC
    iexact X4
  imod (close_x m K c 5 _ (by omega) (hv 5 (by omega))) $$ [X5] with X5
  · isplitr; · iexact HC
    iexact X5
  imod (close_x m K c 6 _ (by omega) (hu 6 (by omega))) $$ [X6] with X6
  · isplitr; · iexact HC
    iexact X6
  imod (close_x m K c 7 _ (by omega) (hu 7 (by omega))) $$ [X7] with X7
  · isplitr; · iexact HC
    iexact X7
  imod (close_bar m K c) $$ [AB] with AB
  · isplitr; · iexact HC
    iexact AB
  imod (close_ex m K c) $$ [AE] with AE
  · isplitr; · iexact HC
    iexact AE
  imodintro
  isplitl [A1 A2 A3 A4 A5 A6]
  · isplitl [A1]; · iexact A1
    isplitl [A2]; · iexact A2
    isplitl [A3]; · iexact A3
    isplitl [A4]; · iexact A4
    isplitl [A5]; · iexact A5
    iexact A6
  isplitr [AB AE]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [AB]; · iexact AB
  iexact AE

end Cert.KernelIdeal.Proj
-- ==== Proof.Deal.lean ====
module

public import proofs.«01_k».proof.Proof.Close
public import proofs.«01_k».proof.Proof.Gen.KernelIdeal.Launch
public import Idealize.ShloMosaic.Lib.Pipeline.Launch

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

/-! # Cells and tokens at launch, and how they are dealt out -/

variable (m : (ℓ : Loc nD τ sig) → Buf (Elt F) ℓ)

theorem sep_eq {A B C D : sProp 𝕄} (h1 : A = B) (h2 : C = D) : iprop(A ∗ C) = iprop(B ∗ D) := by rw [h1, h2]
theorem assoc4 {A B C D : sProp 𝕄} : iprop((A ∗ B) ∗ C ∗ D) = iprop(A ∗ B ∗ C ∗ D) := BI.sep_assoc.antisymm BI.sep_assoc'

/-! ## The cells -/

/-- The semaphores the kernel itself uses: the 262 transfer semaphores after the result's own, and the exit barrier. -/
def osemN (n : ℕ) : SemLoc sig := if n < 262 then .dma (sD (n + 1)) else .reg exS
abbrev osem : Fin 263 → SemLoc sig := fun k => osemN k.val

def kc (c : Dev nD) (n : ℕ) : GSem nD τ sig := if n < 262 then dC c (n + 1) else if n = 262 then barC c else exC c
theorem kcell_succ (c : Dev nD) (j : Fin 264) : kcell (c, j.succ) = kc c j.val := by
  unfold kcell kc
  dsimp only
  rw [Fin.val_succ]
  by_cases h : j.val < 262
  · rw [if_pos h, if_pos (by omega)]
  · rw [if_neg h, if_neg (by omega)]
    by_cases h' : j.val = 262
    · rw [if_pos h', if_pos (by omega)]
    · rw [if_neg h', if_neg (by omega)]

theorem kc_range (c : Dev nD) (Φ : GSem nD τ sig → sProp 𝕄) :
    bigSep (Finset.range 262) (fun n => Φ (dC c (n + 1)))
      = iprop((Φ (dC c 1) ∗ Φ (dC c 2) ∗ Φ (dC c 3) ∗ Φ (dC c 4) ∗ Φ (dC c 5) ∗ Φ (dC c 6))
          ∗ bigSep (Finset.range 8) fun d => bigSep (Finset.range 32) fun k => Φ (xC c d k)) := by
  rw [show 262 = 6 + 32 * 8 from rfl, rng_add, rng6, rng_mul]
  refine sep_eq rfl ?_
  exact bigSep_congr fun d _ => bigSep_congr fun k _ => by rw [show 6 + (32 * d + k) + 1 = 7 + 32 * d + k by omega]

theorem cells_split (c : Dev nD) (Φ : GSem nD τ sig → sProp 𝕄) :
    (bigSep Finset.univ fun j : Fin 264 => Φ (kcell (c, j.succ))) = cellsAll c Φ := by
  rw [bigSep_congr (fun j _ => by rw [kcell_succ c j]), rng_fin 264 (fun n => Φ (kc c n)), show 264 = 262 + 2 from rfl, rng_add, ← rng_Ico 2, Ico_two,
    bigSep_congr (s := Finset.range 262) (Ψ := fun n => Φ (dC c (n + 1))) (fun n hn => by unfold kc; rw [if_pos (Finset.mem_range.mp hn)]), kc_range]
  unfold cellsAll
  exact assoc4

theorem unscoped_eq (c : Dev nD) : (unscopedSems0 c : sProp 𝕄) = semVal (barC c) 0 := by
  unfold unscopedSems0; rw [bigSep_eq_bigSepL_of_eq [SemLoc.reg barS] (by decide) (by decide)]; rfl

theorem own_eq (c : Dev nD) : (Pipeline.ownSems0 (Ix := Unit) (Name := ℕ) (U := UU) (Lvl := ℕ) (Val := Elt F) (τ := τ) osem c : sProp 𝕄)
    = iprop((bigSep (Finset.range 262) fun n => semVal (dC c (n + 1)) 0) ∗ semVal (exC c) 0) := by
  unfold Pipeline.ownSems0
  rw [rng_fin 263 (fun n => (semVal ((c : Thread nD τ), osemN n) 0 : sProp 𝕄)), show 263 = 262 + 1 from rfl, rng_add,
    show Finset.range 1 = {0} from rfl, bigSep_singleton]
  refine sep_eq ?_ rfl
  exact bigSep_congr fun n hn => by unfold osemN; rw [if_pos (Finset.mem_range.mp hn)]

/-- The counters a device is given, cell by cell. -/
theorem sems_all (c : Dev nD) : iprop(Pipeline.ownSems0 (Ix := Unit) (Name := ℕ) (U := UU) (Lvl := ℕ) (Val := Elt F) (τ := τ) osem c ∗ unscopedSems0 c)
    ⊢ (cellsAll c (fun g => semVal g 0) : sProp 𝕄) := by
  rw [own_eq, unscoped_eq, kc_range c (fun g => (semVal g 0 : sProp 𝕄))]
  unfold cellsAll
  iintro ⟨⟨⟨H1, H2⟩, H3⟩, H4⟩
  isplitl [H1]; · iexact H1
  isplitl [H2]; · iexact H2
  isplitl [H4]; · iexact H4
  iexact H3
theorem all_sems (c : Dev nD) : (cellsAll c (fun g => semVal g 0) : sProp 𝕄)
    ⊢ iprop(Pipeline.ownSems0 (Ix := Unit) (Name := ℕ) (U := UU) (Lvl := ℕ) (Val := Elt F) (τ := τ) osem c ∗ unscopedSems0 c) := by
  rw [own_eq, unscoped_eq, kc_range c (fun g => (semVal g 0 : sProp 𝕄))]
  unfold cellsAll
  iintro ⟨H1, H2, H4, H3⟩
  isplitr [H4]
  · isplitr [H3]
    · isplitl [H1] <;> iassumption
    iexact H3
  iexact H4

theorem ownSemFacts : Pipeline.OwnSemFacts cfg0.spec osem := by decide +kernel

/-- The semaphore's number among a device's cells. -/
def cnum (g : GSem nD τ sig) : ℕ := match g.2 with
  | .dma q => q.val
  | .reg s => 263 + s.val
theorem cnum_d (c : Dev nD) (n : ℕ) (h : n < 263) : cnum (dC c n) = n := sD_val n h
theorem cnum_kc (c : Dev nD) (n : ℕ) (h : n < 264) : cnum (kc c n) = n + 1 := by
  unfold kc
  by_cases h1 : n < 262
  · rw [if_pos h1]; exact cnum_d c _ (by omega)
  · rw [if_neg h1]
    by_cases h2 : n = 262
    · rw [if_pos h2, h2]; rfl
    · rw [if_neg h2, show n = 263 by omega]; rfl
theorem kc_dev (c : Dev nD) (n : ℕ) : (kc c n).1.1 = c := by
  unfold kc; repeat' split
  all_goals rfl
theorem cell_injective : Function.Injective (fun p : Dev nD × Fin 264 => kcell (p.1, p.2.succ)) := by
  rintro ⟨c, j⟩ ⟨c', j'⟩ h
  dsimp only at h
  rw [kcell_succ, kcell_succ] at h
  have h1 := congrArg (fun g : GSem nD τ sig => g.1.1) h
  have h2 := congrArg cnum h
  have h1 : (kc c j.val).1.1 = (kc c' j'.val).1.1 := h1
  rw [kc_dev, kc_dev] at h1
  rw [cnum_kc _ _ j.isLt, cnum_kc _ _ j'.isLt] at h2
  exact Prod.ext h1 (Fin.ext (by show j.val = j'.val; omega))
def ourCells : Finset (GSem nD τ sig) := Finset.univ.map ⟨fun p : Dev nD × Fin 264 => kcell (p.1, p.2.succ), cell_injective⟩

/-! ## The duty tokens -/

/-- Token `n` of device `c`: its cell, its round and its duty. -/
def tokC (c : Dev nD) (n : ℕ) : GSem nD τ sig :=
  if n < 8 then dC c (1 + n % 2) else if n < 12 then dC c (3 + (n - 8) % 2) else if n < 76 then dC c (5 + (n - 12) / 16 % 2)
  else if n < 332 then dC c (7 + (n - 76)) else if n < 335 then barC c else exC c
def tokR (n : ℕ) : ℕ := if n < 8 then n / 2 else if n < 12 then (n - 8) / 2 else if n < 76 then (n - 12) / 16 / 2 else 0
def tokD (n : ℕ) : ℕ := if n < 12 then 0 else if n < 76 then (n - 12) % 16 else if n < 332 then 0 else if n < 335 then n - 332 else n - 335
def tokOf (p : Dev nD × Fin 338) : GSem nD τ sig × ℕ × Fin 16 := (tokC p.1 p.2.val, tokR p.2.val, fin16 (tokD p.2.val))
/-- The token's number, read back. -/
def tokN (k r d : ℕ) : ℕ :=
  if k < 3 then 2 * r + (k - 1) else if k < 5 then 8 + 2 * r + (k - 3) else if k < 7 then 12 + 16 * (2 * r + (k - 5)) + d
  else if k < 263 then 76 + (k - 7) else if k = 263 then 332 + d else 335 + d

theorem tokC_dev (c : Dev nD) (n : ℕ) : (tokC c n).1.1 = c := by
  unfold tokC; repeat' split
  all_goals rfl
theorem tok_back (c : Dev nD) (n : ℕ) (h : n < 338) : tokN (cnum (tokC c n)) (tokR n) (fin16 (tokD n)).val = n := by
  unfold tokC tokR tokD fin16
  dsimp only
  by_cases h1 : n < 8
  · rw [if_pos h1, if_pos h1, if_pos (by omega), cnum_d c _ (by omega)]; unfold tokN; rw [if_pos (by omega)]; omega
  rw [if_neg h1, if_neg h1]
  by_cases h2 : n < 12
  · rw [if_pos h2, if_pos h2, if_pos h2, cnum_d c _ (by omega)]; unfold tokN; rw [if_neg (by omega), if_pos (by omega)]; omega
  rw [if_neg h2, if_neg h2, if_neg h2]
  by_cases h3 : n < 76
  · rw [if_pos h3, if_pos h3, if_pos h3, cnum_d c _ (by omega)]; unfold tokN; rw [if_neg (by omega), if_neg (by omega), if_pos (by omega)]; omega
  rw [if_neg h3, if_neg h3, if_neg h3]
  by_cases h4 : n < 332
  · rw [if_pos h4, if_pos h4, cnum_d c _ (by omega)]; unfold tokN; rw [if_neg (by omega), if_neg (by omega), if_neg (by omega), if_pos (by omega)]; omega
  rw [if_neg h4, if_neg h4]
  by_cases h5 : n < 335
  · rw [if_pos h5, if_pos h5, show cnum (barC c) = 263 from rfl]; unfold tokN
    rw [if_neg (by omega), if_neg (by omega), if_neg (by omega), if_neg (by omega), if_pos rfl]; omega
  rw [if_neg h5, if_neg h5, show cnum (exC c) = 264 from rfl]; unfold tokN
  rw [if_neg (by omega), if_neg (by omega), if_neg (by omega), if_neg (by omega), if_neg (by omega)]; omega
theorem tok_injective : Function.Injective tokOf := by
  rintro ⟨c, n⟩ ⟨c', n'⟩ h
  have h1 : (tokC c n.val).1.1 = (tokC c' n'.val).1.1 := congrArg (fun x : GSem nD τ sig × ℕ × Fin 16 => x.1.1.1) h
  have h2 : tokN (cnum (tokC c n.val)) (tokR n.val) (fin16 (tokD n.val)).val = tokN (cnum (tokC c' n'.val)) (tokR n'.val) (fin16 (tokD n'.val)).val :=
    congrArg (fun x : GSem nD τ sig × ℕ × Fin 16 => tokN (cnum x.1) x.2.1 x.2.2.val) h
  rw [tokC_dev, tokC_dev] at h1
  rw [tok_back _ _ n.isLt, tok_back _ _ n'.isLt] at h2
  exact Prod.ext h1 (Fin.ext h2)
def ourToks : Finset (GSem nD τ sig × ℕ × Fin 16) := Finset.univ.map ⟨tokOf, tok_injective⟩

/-- The duty tokens of device `c`'s own cells. -/
def toks (c : Dev nD) : sProp 𝕄 := bigSep Finset.univ fun n : Fin 338 => dutyTok ER (tokC c n.val) (tokR n.val) (fin16 (tokD n.val))

def tR (g : GSem nD τ sig) (d : ℕ) : sProp 𝕄 := dutyTok ER g 0 (fin16 d)

theorem toks_split (c : Dev nD) : toks (F := F) c = iprop(tW c ∗ tC c ∗ tP c ∗ (bigSep (Finset.range 8) (tX c))
    ∗ (bigSep (Finset.range 3) (tR (barC c))) ∗ bigSep (Finset.range 3) (tR (exC c))) := by
  unfold toks
  rw [rng_fin 338 (fun n => (dutyTok ER (tokC c n) (tokR n) (fin16 (tokD n)) : sProp 𝕄)), show 338 = 8 + (4 + (64 + (32 * 8 + (3 + 3)))) from rfl,
    rng_add, rng_add, rng_add, rng_add, rng_add, rng_mul]
  refine sep_eq ?_ ?_
  · unfold tW
    exact bigSep_congr fun n hn => by
      have hn := Finset.mem_range.mp hn
      unfold tokC tokR tokD; rw [if_pos hn, if_pos hn, if_pos (by omega)]; rfl
  refine sep_eq ?_ ?_
  · unfold tC
    exact bigSep_congr fun n hn => by
      have hn := Finset.mem_range.mp hn
      unfold tokC tokR tokD; rw [if_neg (by omega), if_pos (by omega), if_neg (by omega), if_pos (by omega), if_pos (by omega), show 8 + n - 8 = n by omega]; rfl
  refine sep_eq ?_ ?_
  · unfold tP
    exact bigSep_congr fun n hn => by
      have hn := Finset.mem_range.mp hn
      unfold tokC tokR tokD
      rw [if_neg (by omega), if_neg (by omega), if_pos (by omega), if_neg (by omega), if_neg (by omega), if_pos (by omega), if_neg (by omega), if_pos (by omega),
        show 8 + (4 + n) - 12 = n by omega]
      rw [show fin16 (n % 16) = fin16 n from Fin.ext (by show n % 16 % 16 = n % 16; omega)]
  refine sep_eq ?_ ?_
  · unfold tX
    exact bigSep_congr fun d hd => bigSep_congr fun k hk => by
      have hd := Finset.mem_range.mp hd
      have hk := Finset.mem_range.mp hk
      unfold tokC tokR tokD
      rw [if_neg (by omega), if_neg (by omega), if_neg (by omega), if_pos (by omega), if_neg (by omega), if_neg (by omega), if_neg (by omega), if_neg (by omega), if_neg (by omega), if_pos (by omega),
        show 7 + (8 + (4 + (64 + (32 * d + k))) - 76) = 7 + 32 * d + k by omega]; rfl
  refine sep_eq ?_ ?_
  · exact bigSep_congr fun n hn => by
      have hn := Finset.mem_range.mp hn
      unfold tokC tokR tokD tR
      rw [if_neg (by omega), if_neg (by omega), if_neg (by omega), if_neg (by omega), if_pos (by omega), if_neg (by omega), if_neg (by omega), if_neg (by omega),
        if_neg (by omega), if_neg (by omega), if_neg (by omega), if_pos (by omega), show 8 + (4 + (64 + (32 * 8 + n))) - 332 = n by omega]
  · exact bigSep_congr fun n hn => by
      have hn := Finset.mem_range.mp hn
      unfold tokC tokR tokD tR
      rw [if_neg (by omega), if_neg (by omega), if_neg (by omega), if_neg (by omega), if_neg (by omega), if_neg (by omega), if_neg (by omega), if_neg (by omega),
        if_neg (by omega), if_neg (by omega), if_neg (by omega), if_neg (by omega), show 8 + (4 + (64 + (32 * 8 + (3 + n)))) - 335 = n by omega]

/-- The duty tokens that device `c` pays. -/
def payToks (c : Dev nD) : sProp 𝕄 := iprop(tW c ∗ tC c ∗ tP c ∗ tXs c ∗ tB c ∗ tE c)

def e0 : Dev nD ≃ Dev nD := ⟨nbr0, nbr0, by decide, by decide⟩
def e1 : Dev nD ≃ Dev nD := ⟨nbr1, nbr1, by decide, by decide⟩
def e2 : Dev nD ≃ Dev nD := ⟨nbr2, nbr2, by decide, by decide⟩

theorem toks_dealt : (bigSep Finset.univ fun c : Dev nD => (toks c : sProp 𝕄)) ⊢ bigSep Finset.univ fun c : Dev nD => payToks c := by
  rw [bigSep_congr (fun c _ => toks_split c)]
  unfold payToks tXs tB tE
  simp only [rng8, rng3, bs_sep]
  rw [bigSep_univ_equiv e0 (fun c : Dev nD => (tX c 1 : sProp 𝕄)), bigSep_univ_equiv e1 (fun c : Dev nD => (tX c 3 : sProp 𝕄)),
    bigSep_univ_equiv e2 (fun c : Dev nD => (tX c 5 : sProp 𝕄)), bigSep_univ_equiv e2 (fun c : Dev nD => (tX c 7 : sProp 𝕄)),
    bigSep_univ_equiv e0 (fun c : Dev nD => (tR (barC c) 0 : sProp 𝕄)), bigSep_univ_equiv e1 (fun c : Dev nD => (tR (barC c) 1 : sProp 𝕄)),
    bigSep_univ_equiv e2 (fun c : Dev nD => (tR (barC c) 2 : sProp 𝕄)),
    bigSep_univ_equiv e0 (fun c : Dev nD => (tR (exC c) 0 : sProp 𝕄)), bigSep_univ_equiv e1 (fun c : Dev nD => (tR (exC c) 1 : sProp 𝕄)),
    bigSep_univ_equiv e2 (fun c : Dev nD => (tR (exC c) 2 : sProp 𝕄))]
  exact Entails.of_eq rfl

/-! ## The deal -/

/-- What the launch element gives device `c`. -/
def G (c : Dev nD) : sProp 𝕄 :=
  iprop((bigSep Finset.univ fun j : Fin 264 => roundState ER (Rd m) (kcell (c, j.succ)) 0)
    ∗ (bigSep Finset.univ fun j : Fin 264 => iprop(atPos ER (kcell (c, j.succ)) 0 ∅ 0 ∗ reached ER (kcell (c, j.succ)) 0)) ∗ toks c)

/-- The invariants of all the cells under the names `κ`, each at round 0 or later. -/
def known (κ : Dev nD × Fin 264 → ℕ) : sProp 𝕄 :=
  iprop((bigSep Finset.univ fun p : Dev nD × Fin 264 => cellInv ER (Rd m) (κ p) (kcell (p.1, p.2.succ)))
    ∗ bigSep Finset.univ fun p : Dev nD × Fin 264 => reached ER (kcell (p.1, p.2.succ)) 0)
instance known_persistent (κ : Dev nD × Fin 264 → ℕ) : BI.Persistent (known m κ) := by unfold known; infer_instance

/-- What stays with device `c`: the tokens it pays and its positions. -/
def lin (c : Dev nD) : sProp 𝕄 := iprop(payToks c ∗ cellsAll c fun g => atPos ER g 0 ∅ 0)
def G' (c : Dev nD) : sProp 𝕄 := iprop(∃ κ, known m κ ∗ lin c)

theorem gprime_intro (κ : Dev nD × Fin 264 → ℕ) (c : Dev nD) : iprop(known m κ ∗ lin c) ⊢ G' m c := by
  unfold G'
  iintro H
  iexists κ; iexact H
theorem lin_eq (c : Dev nD) : iprop(payToks c ∗ bigSep Finset.univ fun j : Fin 264 => (atPos ER (kcell (c, j.succ)) 0 ∅ 0 : sProp 𝕄)) = lin (F := F) c := by
  unfold lin; rw [cells_split c (fun g => (atPos ER g 0 ∅ 0 : sProp 𝕄))]

theorem fund_cells : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun j : Fin 264 => Φ (kcell (c, j.succ)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]; rfl
  iintro HX
  imod (Rounds.fund ER (Rd m) ourCells ourToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 264 => iprop(∃ κ : ℕ, cellInv ER (Rd m) κ (kcell (c, j.succ))))
          ∗ (bigSep Finset.univ fun j : Fin 264 => iprop(atPos ER (kcell (c, j.succ)) 0 ∅ 0 ∗ reached ER (kcell (c, j.succ)) 0)) ∗ toks c) := by
  unfold G
  iintro ⟨Hos, Hus, Hst, Hat, Htok⟩
  ihave Hv := ((sems_all (F := F) c).trans (Entails.of_eq (cells_split c (fun g => (semVal g 0 : sProp 𝕄))).symm)) $$ [Hos Hus]
  · isplitl [Hos] <;> iassumption
  imod (show iprop((bigSep Finset.univ fun j : Fin 264 => semVal (kcell (c, j.succ)) 0) ∗ bigSep Finset.univ fun j : Fin 264 => roundState ER (Rd m) (kcell (c, j.succ)) 0)
      ⊢ (|={Set.univ}=> bigSep Finset.univ fun j : Fin 264 => iprop(∃ κ : ℕ, cellInv ER (Rd m) κ (kcell (c, j.succ))) : sProp 𝕄) from by
        rw [← bigSep_sep']
        exact (bigSep_mono fun j _ => (Rounds.body_intro ER (Rd m) (kcell (c, j.succ))).trans inv_alloc).trans (bigSep_fupd _ _)) $$ [Hv Hst] with Hinv
  · isplitl [Hv] <;> iassumption
  imodintro
  isplitl [Hinv]; · iexact Hinv
  isplitl [Hat]; · iexact Hat
  iexact Htok

theorem deal :
    (bigSep Finset.univ fun c : Dev nD => iprop((bigSep Finset.univ fun j : Fin 264 => iprop(∃ κ : ℕ, cellInv ER (Rd m) κ (kcell (c, j.succ))))
          ∗ (bigSep Finset.univ fun j : Fin 264 => iprop(atPos ER (kcell (c, j.succ)) 0 ∅ 0 ∗ reached ER (kcell (c, j.succ)) 0)) ∗ toks c) : sProp 𝕄)
      ⊢ bigSep Finset.univ (G' m) := by
  rw [bigSep_sep', bigSep_sep', ← bigSep_univ_prod (fun p : Dev nD × Fin 264 => iprop(∃ κ : ℕ, cellInv ER (Rd m) κ (kcell (p.1, p.2.succ)))),
    bigSep_congr (s := Finset.univ) (fun (c : Dev nD) _ => bigSep_sep' Finset.univ (fun j : Fin 264 => (atPos ER (kcell (c, j.succ)) 0 ∅ 0 : sProp 𝕄)) (fun j => reached ER (kcell (c, j.succ)) 0)),
    bigSep_sep', ← bigSep_univ_prod (fun p : Dev nD × Fin 264 => (reached ER (kcell (p.1, p.2.succ)) 0 : sProp 𝕄))]
  iintro ⟨HI, ⟨Hat, #HR⟩, Htok⟩
  ihave HK := (BI.bigSep_exists_pi Finset.univ (fun (p : Dev nD × Fin 264) (κ : ℕ) => (cellInv ER (Rd m) κ (kcell (p.1, p.2.succ)) : sProp 𝕄))) $$ HI
  icases HK with ⟨%κ, #HI⟩
  ihave Htk := (toks_dealt (F := F)) $$ Htok
  iapply (show iprop(known m κ ∗ bigSep Finset.univ fun c : Dev nD => lin (F := F) c) ⊢ bigSep Finset.univ (G' m) from
    (sep_mono_left (BI.bigSep_of_persistent Finset.univ (known m κ))).trans (by
      rw [← bigSep_sep']
      exact bigSep_mono fun c _ => gprime_intro m κ c))
  isplitr
  · unfold known; isplitl; · iexact HI
    iexact HR
  · iapply (show iprop((bigSep Finset.univ fun c : Dev nD => payToks c) ∗ bigSep Finset.univ fun c : Dev nD => bigSep Finset.univ fun j : Fin 264 => (atPos ER (kcell (c, j.succ)) 0 ∅ 0 : sProp 𝕄))
        ⊢ bigSep Finset.univ fun c : Dev nD => lin (F := F) c from by
      rw [← bigSep_sep']
      exact bigSep_mono fun c _ => Entails.of_eq (lin_eq c))
    isplitl [Htk] <;> iassumption

/-- The deal, of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (deal m))

/-- A device's knowledge, from the names and the levels. -/
theorem known_ctx (κ : Dev nD × Fin 264 → ℕ) :
    iprop(known m κ ∗ levAts L lv) ⊢ Ctx m (fun p => Fin.cases 0 (fun j => κ (p.1, j)) p.2) := by
  unfold known Ctx
  iintro ⟨⟨H1, H2⟩, HL⟩
  isplitr [HL]
  · iapply (Entails.of_eq (bigSep_sep' Finset.univ (fun p : Dev nD × Fin 264 => (cellInv ER (Rd m) (κ p) (kcell (p.1, p.2.succ)) : sProp 𝕄)) (fun p => reached ER (kcell (p.1, p.2.succ)) 0)).symm)
    isplitl [H1] <;> iassumption
  iexact HL

end Cert.KernelIdeal.Proj
-- ==== Proof.Credit.lean ====
module

public import proofs.«01_k».proof.Proof.Start

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {F : FTy → Type} [FloatOps F]

local notation "𝕄" => MT nD τ sig Unit (Elt F) ℕ UU ℕ

/-! # What the devices owe one another is what each is credited with -/

/-- The transfers device `c` receives, in order: as a holder the partial products and its pair's blocks, else the results
    across `x` and across `z`. -/
def r1 (c : Dev nD) : ℕ := if holder c = true then 1 else 3
def r2 (c : Dev nD) : ℕ := if holder c = true then 5 else 7
def q1 (c : Dev nD) (k : ℕ) : GSem nD τ sig := dC c (7 + 32 * r1 c + k)
def q2 (c : Dev nD) (k : ℕ) : GSem nD τ sig := dC c (7 + 32 * r2 c + k)

/-- Where a device's first transfers go. -/
def to1 (c : Dev nD) : Dev nD := if holder c = true then nbr1 c else nbr0 c
def to1' (c : Dev nD) : Dev nD := if holder c = true then nbr0 c else nbr1 c
def eq1 : Dev nD ≃ Dev nD := ⟨to1, to1', by decide, by decide⟩
def eq2 : Dev nD ≃ Dev nD := ⟨nbr2, nbr2, by decide, by decide⟩
def ey : Dev nD ≃ Dev nD := ⟨nbr0, nbr0, by decide, by decide⟩
def ex : Dev nD ≃ Dev nD := ⟨nbr1, nbr1, by decide, by decide⟩

theorem g1_q (c : Dev nD) (k : ℕ) : Proj.g1 c k = q1 (to1 c) k := by
  unfold Proj.g1 q1 to1
  by_cases h : holder c = true
  · rw [if_pos h, if_pos h, show r1 (nbr1 c) = 3 from if_neg (by rw [holder_nbr1, h]; decide)]
  · have h' : holder c = false := by simpa using h
    rw [if_neg h, if_neg h, show r1 (nbr0 c) = 1 from if_pos (by rw [holder_nbr0, h']; rfl)]
theorem g2_q (c : Dev nD) (k : ℕ) : Proj.g2 c k = q2 (nbr2 c) k := by
  unfold Proj.g2 q2
  by_cases h : holder c = true
  · rw [if_pos h, show r2 (nbr2 c) = 5 from if_pos (by rw [holder_nbr2, h])]
  · rw [if_neg h, show r2 (nbr2 c) = 7 from if_neg (by rw [holder_nbr2]; exact h)]

/-- What device `c`'s own waits are credited with. -/
def T (c : Dev nD) : CellTallies nD τ sig Unit :=
  tallyAt (barC c) () 3 + oweF (q1 c) oN 0 32 + oweF (q2 c) oN 0 32 + tallyAt (exC c) () 3

theorem three (c : Dev nD) (A : Dev nD → GSem nD τ sig) : oweF (fun d => A (nb c d)) 1 0 3 = tallyAt (A (nbr0 c)) () 1 + tallyAt (A (nbr1 c)) () 1 + tallyAt (A (nbr2 c)) () 1 := by
  unfold oweF
  rw [show Finset.Ico 0 3 = Finset.range 3 by rw [Finset.range_eq_Ico], Finset.sum_range_succ, Finset.sum_range_succ, Finset.sum_range_succ, Finset.sum_range_zero, zero_add]
  rfl
theorem three_sum (A : Dev nD → GSem nD τ sig) : (∑ c, oweF (fun d => A (nb c d)) 1 0 3) = ∑ c, (tallyAt (A c) () 3 : CellTallies nD τ sig Unit) := by
  simp only [three, Finset.sum_add_distrib]
  rw [Equiv.sum_comp ey (fun c => (tallyAt (A c) () 1 : CellTallies nD τ sig Unit)) |> (show (∑ c, (tallyAt (A (nbr0 c)) () 1 : CellTallies nD τ sig Unit)) = _ from ·),
    Equiv.sum_comp ex (fun c => (tallyAt (A c) () 1 : CellTallies nD τ sig Unit)) |> (show (∑ c, (tallyAt (A (nbr1 c)) () 1 : CellTallies nD τ sig Unit)) = _ from ·),
    Equiv.sum_comp eq2 (fun c => (tallyAt (A c) () 1 : CellTallies nD τ sig Unit)) |> (show (∑ c, (tallyAt (A (nbr2 c)) () 1 : CellTallies nD τ sig Unit)) = _ from ·),
    ← Finset.sum_add_distrib, ← Finset.sum_add_distrib]
  exact Finset.sum_congr rfl fun c _ => by rw [tallyAt_add, tallyAt_add]

theorem owed_sum : (∑ c, Ow c 0 0 0 0) = ∑ c, T c := by
  unfold Ow T
  simp only [Finset.sum_add_distrib]
  rw [three_sum barC, three_sum exC,
    show (∑ c, oweF (Proj.g1 c) oN 0 32) = ∑ c, oweF (q1 c) oN 0 32 from
      (Finset.sum_congr rfl fun c _ => by rw [show Proj.g1 c = q1 (to1 c) from funext (g1_q c)]; rfl).trans (Equiv.sum_comp eq1 (fun c => oweF (q1 c) oN 0 32)),
    show (∑ c, oweF (Proj.g2 c) oN 0 32) = ∑ c, oweF (q2 c) oN 0 32 from
      (Finset.sum_congr rfl fun c _ => by rw [show Proj.g2 c = q2 (nbr2 c) from funext (g2_q c)]; rfl).trans (Equiv.sum_comp eq2 (fun c => oweF (q2 c) oN 0 32))]

theorem tally_on (c : Dev nD) (sm : SemLoc sig) (n : ℕ) (g : GSem nD τ sig) (h : g.1 ≠ (c : Thread nD τ)) :
    (tallyAt ((c : Thread nD τ), sm) () n : CellTallies nD τ sig Unit) g = 0 := tallyAt_ne_cell (fun hh => h (congrArg Prod.fst hh)) _ _
theorem T_on (c : Dev nD) (g : GSem nD τ sig) (h : T c g ≠ 0) : g.1 = (c.tc : Thread nD τ) := by
  by_contra hg
  refine h ?_
  unfold T oweF
  rw [Pi.add_apply, Pi.add_apply, Pi.add_apply, Finset.sum_apply, Finset.sum_apply, tally_on c _ _ g hg, tally_on c _ _ g hg,
    show (∑ k ∈ Finset.Ico 0 32, tallyAt (q1 c k) () oN g) = 0 from Finset.sum_eq_zero fun k _ => tally_on c _ _ g hg,
    show (∑ k ∈ Finset.Ico 0 32, tallyAt (q2 c k) () oN g) = 0 from Finset.sum_eq_zero fun k _ => tally_on c _ _ g hg]
  simp only [add_zero]

theorem cred_q (c : Dev nD) (r : ℕ) : (cred (oweF (fun k => dC c (7 + 32 * r + k)) oN 0 32) : sProp 𝕄) = cX c r := by
  unfold oweF cX
  rw [Pipeline.cred_finsetSum, rng_Ico]

/-- A device's credit at launch. -/
theorem credits (c : Dev nD) : (Pipeline.launchCred (fun c => Ow c 0 0 0 0) c : sProp 𝕄)
    ⊢ iprop(cred (tallyAt (barC c) () 3) ∗ cred (tallyAt (exC c) () 3) ∗ cX c (r1 c) ∗ cX c (r2 c)) := by
  rw [Pipeline.launchCred_of_sum _ T owed_sum T_on c]
  unfold T
  iintro H
  ihave H := (cred_add _ _).1 $$ H
  icases H with ⟨H, H4⟩
  ihave H := (cred_add _ _).1 $$ H
  icases H with ⟨H, H3⟩
  ihave H := (cred_add _ _).1 $$ H
  icases H with ⟨H1, H2⟩
  ihave H2 := (Entails.of_eq (show (cred (oweF (q1 c) oN 0 32) : sProp 𝕄) = _ from cred_q c (r1 c))) $$ H2
  ihave H3 := (Entails.of_eq (show (cred (oweF (q2 c) oN 0 32) : sProp 𝕄) = _ from cred_q c (r2 c))) $$ H3
  isplitl [H1]; · iexact H1
  isplitl [H4]; · iexact H4
  isplitl [H2]; · iexact H2
  iexact H3

end Cert.KernelIdeal.Proj
-- ==== Proof.WalkLocal.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk through the parts in which a device only fills its own scratch -/

variable (m : (ℓ : Loc nD τ sig) → Buf (Elt F) ℓ) (K : Dev nD × Fin 265 → ℕ)

set_option maxHeartbeats 4000000 in
/-- The first blocks of the activations and their turned copies are brought in: each is awaited, the next one sent for. -/
theorem walk_fill1 (c : Dev nD) {hx hw ho hb ha3 ha hs} {b i j e : ℕ} {R : sProp 𝕄} {α : Type} {Q : α → sProp 𝕄}
    {rest : Prog (TpuEff nD τ sig (Elt F) Λ₀ .tc) α}
    (hk : iprop(Own m K c b i j e ∗ WSt m c 2 1 ∗ CSt m c 2 1 0 14 16 ∗ R) ⊢ WP c rest Q) :
    iprop(Own m K c b i j e ∗ WSt m c 2 1 ∗ CSt m c 1 0 0 0 0 ∗ R) ⊢ WP c (do
      k0_part91 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c
      k0_part92 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part93 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part94 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part95 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part96 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part97 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part98 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      rest) Q := by
  refine bind_step c ?_
  rw [k0_part91_eq_skeleton]
  simp (zeta := false) only [k0_part91_skel, semSignalWord, semWaitWord, Prog.lift, Prog.bind_op, Prog.bind_ret, Prog.pure_eq_ret]
  refine c_start m K c (hk := ?_)
  refine c_wait m K c (hk := ?_)
  refine a_start m K c (hk := ?_)
  refine a_start m K c (hk := ?_)
  refine ret_step c ?_
  refine bind_step c ?_
  rw [k0_part92_eq_skeleton]
  simp (zeta := false) only [k0_part92_skel, semSignalWord, semWaitWord, Prog.lift, Prog.bind_op, Prog.bind_ret, Prog.pure_eq_ret]
  iterate 4 refine a_start m K c (hk := ?_)
  refine ret_step c ?_
  refine bind_step c ?_
  rw [k0_part93_eq_skeleton]
  simp (zeta := false) only [k0_part93_skel, semSignalWord, semWaitWord, Prog.lift, Prog.bind_op, Prog.bind_ret, Prog.pure_eq_ret]
  iterate 4 refine a_start m K c (hk := ?_)
  refine ret_step c ?_
  refine bind_step c ?_
  rw [k0_part94_eq_skeleton]
  simp (zeta := false) only [k0_part94_skel, semSignalWord, semWaitWord, Prog.lift, Prog.bind_op, Prog.bind_ret, Prog.pure_eq_ret]
  iterate 4 refine a_start m K c (hk := ?_)
  refine ret_step c ?_
  refine bind_step c ?_
  rw [k0_part95_eq_skeleton]
  simp (zeta := false) only [k0_part95_skel, semSignalWord, semWaitWord, Prog.lift, Prog.bind_op, Prog.bind_ret, Prog.pure_eq_ret]
  refine a_start m K c (hk := ?_)
  refine a_start m K c (hk := ?_)
  refine a_wait m K c (hk := ?_)
  refine a_wait m K c (hk := ?_)
  refine ret_step c ?_
  refine bind_step c ?_
  rw [k0_part96_eq_skeleton]
  simp (zeta := false) only [k0_part96_skel, semSignalWord, semWaitWord, Prog.lift, Prog.bind_op, Prog.bind_ret, Prog.pure_eq_ret]
  iterate 4 refine a_wait m K c (hk := ?_)
  refine ret_step c ?_
  refine bind_step c ?_
  rw [k0_part97_eq_skeleton]
  simp (zeta := false) only [k0_part97_skel, semSignalWord, semWaitWord, Prog.lift, Prog.bind_op, Prog.bind_ret, Prog.pure_eq_ret]
  iterate 4 refine a_wait m K c (hk := ?_)
  refine ret_step c ?_
  refine bind_step c ?_
  rw [k0_part98_eq_skeleton]
  simp (zeta := false) only [k0_part98_skel, semSignalWord, semWaitWord, Prog.lift, Prog.bind_op, Prog.bind_ret, Prog.pure_eq_ret]
  iterate 4 refine a_wait m K c (hk := ?_)
  refine ret_step c ?_
  exact hk

set_option maxHeartbeats 4000000 in
/-- The second blocks of the activations and their turned copies are brought in: each is awaited, the next one sent for. -/
theorem walk_fill2 (c : Dev nD) {hx hw ho hb ha3 ha hs} {b i j e : ℕ} {R : sProp 𝕄} {α : Type} {Q : α → sProp 𝕄}
    {rest : Prog (TpuEff nD τ sig (Elt F) Λ₀ .tc) α}
    (hk : iprop(Own m K c b i j e ∗ WSt m c 2 1 ∗ CSt m c 3 2 1 14 32 ∗ R) ⊢ WP c rest Q) :
    iprop(Own m K c b i j e ∗ WSt m c 2 1 ∗ CSt m c 2 1 1 0 16 ∗ R) ⊢ WP c (do
      k0_part100 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c
      k0_part101 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part102 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part103 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part104 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part105 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part106 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part107 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      rest) Q := by
  refine bind_step c ?_
  rw [k0_part100_eq_skeleton]
  simp (zeta := false) only [k0_part100_skel, semSignalWord, semWaitWord, Prog.lift, Prog.bind_op, Prog.bind_ret, Prog.pure_eq_ret]
  refine c_start m K c (hk := ?_)
  refine c_wait m K c (hk := ?_)
  refine a_start m K c (hk := ?_)
  refine a_start m K c (hk := ?_)
  refine ret_step c ?_
  refine bind_step c ?_
  rw [k0_part101_eq_skeleton]
  simp (zeta := false) only [k0_part101_skel, semSignalWord, semWaitWord, Prog.lift, Prog.bind_op, Prog.bind_ret, Prog.pure_eq_ret]
  iterate 4 refine a_start m K c (hk := ?_)
  refine ret_step c ?_
  refine bind_step c ?_
  rw [k0_part102_eq_skeleton]
  simp (zeta := false) only [k0_part102_skel, semSignalWord, semWaitWord, Prog.lift, Prog.bind_op, Prog.bind_ret, Prog.pure_eq_ret]
  iterate 4 refine a_start m K c (hk := ?_)
  refine ret_step c ?_
  refine bind_step c ?_
  rw [k0_part103_eq_skeleton]
  simp (zeta := false) only [k0_part103_skel, semSignalWord, semWaitWord, Prog.lift, Prog.bind_op, Prog.bind_ret, Prog.pure_eq_ret]
  iterate 4 refine a_start m K c (hk := ?_)
  refine ret_step c ?_
  refine bind_step c ?_
  rw [k0_part104_eq_skeleton]
  simp (zeta := false) only [k0_part104_skel, semSignalWord, semWaitWord, Prog.lift, Prog.bind_op, Prog.bind_ret, Prog.pure_eq_ret]
  refine a_start m K c (hk := ?_)
  refine a_start m K c (hk := ?_)
  refine a_wait m K c (hk := ?_)
  refine a_wait m K c (hk := ?_)
  refine ret_step c ?_
  refine bind_step c ?_
  rw [k0_part105_eq_skeleton]
  simp (zeta := false) only [k0_part105_skel, semSignalWord, semWaitWord, Prog.lift, Prog.bind_op, Prog.bind_ret, Prog.pure_eq_ret]
  iterate 4 refine a_wait m K c (hk := ?_)
  refine ret_step c ?_
  refine bind_step c ?_
  rw [k0_part106_eq_skeleton]
  simp (zeta := false) only [k0_part106_skel, semSignalWord, semWaitWord, Prog.lift, Prog.bind_op, Prog.bind_ret, Prog.pure_eq_ret]
  iterate 4 refine a_wait m K c (hk := ?_)
  refine ret_step c ?_
  refine bind_step c ?_
  rw [k0_part107_eq_skeleton]
  simp (zeta := false) only [k0_part107_skel, semSignalWord, semWaitWord, Prog.lift, Prog.bind_op, Prog.bind_ret, Prog.pure_eq_ret]
  iterate 4 refine a_wait m K c (hk := ?_)
  refine ret_step c ?_
  exact hk

set_option maxHeartbeats 4000000 in
/-- The third blocks of the activations and their turned copies are brought in: each is awaited, the next one sent for. -/
theorem walk_fill3 (c : Dev nD) {hx hw ho hb ha3 ha hs} {b i j e : ℕ} {R : sProp 𝕄} {α : Type} {Q : α → sProp 𝕄}
    {rest : Prog (TpuEff nD τ sig (Elt F) Λ₀ .tc) α}
    (hk : iprop(Own m K c b i j e ∗ WSt m c 2 1 ∗ CSt m c 4 3 2 14 48 ∗ R) ⊢ WP c rest Q) :
    iprop(Own m K c b i j e ∗ WSt m c 2 1 ∗ CSt m c 4 2 2 0 32 ∗ R) ⊢ WP c (do
      k0_part109 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part110 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part111 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part112 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part113 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part114 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part115 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part116 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      rest) Q := by
  refine bind_step c ?_
  rw [k0_part109_eq_skeleton]
  simp (zeta := false) only [k0_part109_skel, semSignalWord, semWaitWord, Prog.lift, Prog.bind_op, Prog.bind_ret, Prog.pure_eq_ret]
  refine c_wait m K c (hk := ?_)
  refine a_start m K c (hk := ?_)
  refine a_start m K c (hk := ?_)
  refine ret_step c ?_
  refine bind_step c ?_
  rw [k0_part110_eq_skeleton]
  simp (zeta := false) only [k0_part110_skel, semSignalWord, semWaitWord, Prog.lift, Prog.bind_op, Prog.bind_ret, Prog.pure_eq_ret]
  iterate 4 refine a_start m K c (hk := ?_)
  refine ret_step c ?_
  refine bind_step c ?_
  rw [k0_part111_eq_skeleton]
  simp (zeta := false) only [k0_part111_skel, semSignalWord, semWaitWord, Prog.lift, Prog.bind_op, Prog.bind_ret, Prog.pure_eq_ret]
  iterate 4 refine a_start m K c (hk := ?_)
  refine ret_step c ?_
  refine bind_step c ?_
  rw [k0_part112_eq_skeleton]
  simp (zeta := false) only [k0_part112_skel, semSignalWord, semWaitWord, Prog.lift, Prog.bind_op, Prog.bind_ret, Prog.pure_eq_ret]
  iterate 4 refine a_start m K c (hk := ?_)
  refine ret_step c ?_
  refine bind_step c ?_
  rw [k0_part113_eq_skeleton]
  simp (zeta := false) only [k0_part113_skel, semSignalWord, semWaitWord, Prog.lift, Prog.bind_op, Prog.bind_ret, Prog.pure_eq_ret]
  refine a_start m K c (hk := ?_)
  refine a_start m K c (hk := ?_)
  refine a_wait m K c (hk := ?_)
  refine a_wait m K c (hk := ?_)
  refine ret_step c ?_
  refine bind_step c ?_
  rw [k0_part114_eq_skeleton]
  simp (zeta := false) only [k0_part114_skel, semSignalWord, semWaitWord, Prog.lift, Prog.bind_op, Prog.bind_ret, Prog.pure_eq_ret]
  iterate 4 refine a_wait m K c (hk := ?_)
  refine ret_step c ?_
  refine bind_step c ?_
  rw [k0_part115_eq_skeleton]
  simp (zeta := false) only [k0_part115_skel, semSignalWord, semWaitWord, Prog.lift, Prog.bind_op, Prog.bind_ret, Prog.pure_eq_ret]
  iterate 4 refine a_wait m K c (hk := ?_)
  refine ret_step c ?_
  refine bind_step c ?_
  rw [k0_part116_eq_skeleton]
  simp (zeta := false) only [k0_part116_skel, semSignalWord, semWaitWord, Prog.lift, Prog.bind_op, Prog.bind_ret, Prog.pure_eq_ret]
  iterate 4 refine a_wait m K c (hk := ?_)
  refine ret_step c ?_
  exact hk

set_option maxHeartbeats 4000000 in
/-- The fourth blocks of the activations and their turned copies are brought in: each is awaited, the next one sent for. -/
theorem walk_fill4 (c : Dev nD) {hx hw ho hb ha3 ha hs} {b i j e : ℕ} {R : sProp 𝕄} {α : Type} {Q : α → sProp 𝕄}
    {rest : Prog (TpuEff nD τ sig (Elt F) Λ₀ .tc) α}
    (hk : iprop(Own m K c b i j e ∗ WSt m c 2 1 ∗ CSt m c 4 4 3 12 64 ∗ R) ⊢ WP c rest Q) :
    iprop(Own m K c b i j e ∗ WSt m c 2 1 ∗ CSt m c 4 4 3 0 48 ∗ R) ⊢ WP c (do
      k0_part118 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part119 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part120 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part121 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part122 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part123 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      k0_part124 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      rest) Q := by
  refine bind_step c ?_
  rw [k0_part118_eq_skeleton]
  simp (zeta := false) only [k0_part118_skel, semSignalWord, semWaitWord, Prog.lift, Prog.bind_op, Prog.bind_ret, Prog.pure_eq_ret]
  iterate 4 refine a_start m K c (hk := ?_)
  refine ret_step c ?_
  refine bind_step c ?_
  rw [k0_part119_eq_skeleton]
  simp (zeta := false) only [k0_part119_skel, semSignalWord, semWaitWord, Prog.lift, Prog.bind_op, Prog.bind_ret, Prog.pure_eq_ret]
  iterate 4 refine a_start m K c (hk := ?_)
  refine ret_step c ?_
  refine bind_step c ?_
  rw [k0_part120_eq_skeleton]
  simp (zeta := false) only [k0_part120_skel, semSignalWord, semWaitWord, Prog.lift, Prog.bind_op, Prog.bind_ret, Prog.pure_eq_ret]
  iterate 4 refine a_start m K c (hk := ?_)
  refine ret_step c ?_
  refine bind_step c ?_
  rw [k0_part121_eq_skeleton]
  simp (zeta := false) only [k0_part121_skel, semSignalWord, semWaitWord, Prog.lift, Prog.bind_op, Prog.bind_ret, Prog.pure_eq_ret]
  iterate 4 refine a_start m K c (hk := ?_)
  refine ret_step c ?_
  refine bind_step c ?_
  rw [k0_part122_eq_skeleton]
  simp (zeta := false) only [k0_part122_skel, semSignalWord, semWaitWord, Prog.lift, Prog.bind_op, Prog.bind_ret, Prog.pure_eq_ret]
  iterate 4 refine a_wait m K c (hk := ?_)
  refine ret_step c ?_
  refine bind_step c ?_
  rw [k0_part123_eq_skeleton]
  simp (zeta := false) only [k0_part123_skel, semSignalWord, semWaitWord, Prog.lift, Prog.bind_op, Prog.bind_ret, Prog.pure_eq_ret]
  iterate 4 refine a_wait m K c (hk := ?_)
  refine ret_step c ?_
  refine bind_step c ?_
  rw [k0_part124_eq_skeleton]
  simp (zeta := false) only [k0_part124_skel, semSignalWord, semWaitWord, Prog.lift, Prog.bind_op, Prog.bind_ret, Prog.pure_eq_ret]
  iterate 4 refine a_wait m K c (hk := ?_)
  refine ret_step c ?_
  exact hk

end Cert.KernelIdeal.Proj
-- ==== Proof.WalkN1.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that sends its partial products -/

variable (m : (ℓ : Loc nD τ sig) → Buf (Elt F) ℓ) (K : Dev nD × Fin 265 → ℕ)

set_option maxHeartbeats 4000000 in
/-- Part 99, at a device that sends its partial products. -/
theorem n_walk_99 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 1 0 0 ∗ WSt m c 2 1 ∗ CSt m c 2 1 1 0 16 ∗ NSt m c 1 0 1 0 0 0 0 ∗ R) ⊢ WP c rest Q) :
    iprop(Own m K c 3 0 0 0 ∗ WSt m c 2 1 ∗ CSt m c 2 1 0 14 16 ∗ NSt m c 0 0 0 0 0 0 0 ∗ R) ⊢ WP c (do
      k0_part99 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part99_eq_skeleton]
  simp (zeta := false) only [k0_part99_skel, semSignalWord, semWaitWord, Prog.lift, Prog.bind_op, Prog.bind_ret, Prog.pure_eq_ret]
  refine a_wait m K c (hk := ?_)
  refine a_wait_last m K c (hk := ?_)
  refine a_load m c 0 (hk := ?_)
  refine wo_load m c 0 (hk := ?_)
  refine if_yes (F := F) c hc ?_ (fun hh => ?_)
  · decide +kernel
  refine n_load m K c hc (hk := fun v => ?_)
  refine n_store m K c hc (hk := ?_)
  refine n_send m K c hc (hk := ?_)
  refine if_no (F := F) c hc ?_ (fun hh => ?_)
  · decide +kernel
  refine ret_step c ?_
  exact hk

set_option maxHeartbeats 4000000 in
/-- Part 108, at a device that sends its partial products. -/
theorem n_walk_108 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 2 0 0 ∗ WSt m c 2 1 ∗ CSt m c 4 2 2 0 32 ∗ NSt m c 2 0 2 0 0 0 0 ∗ R) ⊢ WP c rest Q) :
    iprop(Own m K c 3 1 0 0 ∗ WSt m c 2 1 ∗ CSt m c 3 2 1 14 32 ∗ NSt m c 1 0 1 0 0 0 0 ∗ R) ⊢ WP c (do
      k0_part108 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part108_eq_skeleton]
  simp (zeta := false) only [k0_part108_skel, semSignalWord, semWaitWord, Prog.lift, Prog.bind_op, Prog.bind_ret, Prog.pure_eq_ret]
  refine a_wait m K c (hk := ?_)
  refine a_wait_last m K c (hk := ?_)
  refine a_load m c 1 (hk := ?_)
  refine wo_load m c 0 (hk := ?_)
  refine if_yes (F := F) c hc ?_ (fun hh => ?_)
  · decide +kernel
  refine n_load m K c hc (hk := fun v => ?_)
  refine n_store m K c hc (hk := ?_)
  refine n_send m K c hc (hk := ?_)
  refine if_no (F := F) c hc ?_ (fun hh => ?_)
  · decide +kernel
  refine c_start m K c (hk := ?_)
  refine ret_step c ?_
  exact hk

set_option maxHeartbeats 4000000 in
/-- Part 117, at a device that sends its partial products. -/
theorem n_walk_117 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 3 1 0 ∗ WSt m c 2 1 ∗ CSt m c 4 4 3 0 48 ∗ NSt m c 3 1 3 1 1 0 0 ∗ R) ⊢ WP c rest Q) :
    iprop(Own m K c 3 2 0 0 ∗ WSt m c 2 1 ∗ CSt m c 4 3 2 14 48 ∗ NSt m c 2 0 2 0 0 0 0 ∗ R) ⊢ WP c (do
      k0_part117 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part117_eq_skeleton]
  simp (zeta := false) only [k0_part117_skel, semSignalWord, semWaitWord, Prog.lift, Prog.bind_op, Prog.bind_ret, Prog.pure_eq_ret]
  refine a_wait m K c (hk := ?_)
  refine a_wait_last m K c (hk := ?_)
  refine a_load m c 2 (hk := ?_)
  refine wo_load m c 0 (hk := ?_)
  refine if_yes (F := F) c hc ?_ (fun hh => ?_)
  · decide +kernel
  refine bind_step c ?_
  rw [k0_part3_eq_skeleton]
  simp (zeta := false) only [k0_part3_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine c_wait m K c (hk := ?_)
  refine ret_step c ?_
  exact hk

set_option maxHeartbeats 4000000 in
/-- Parts 125 to 129, at a device that sends its partial products. -/
theorem n_walk_125 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 12 10 0 ∗ WSt m c 4 3 ∗ CSt m c 4 4 4 0 64 ∗ NSt m c 12 10 12 10 10 0 0 ∗ R) ⊢ WP c rest Q) :
    iprop(Own m K c 3 3 1 0 ∗ WSt m c 2 1 ∗ CSt m c 4 4 3 12 64 ∗ NSt m c 3 1 3 1 1 0 0 ∗ R) ⊢ WP c (do
      let v897 : FVec F S256x2048 .f32 ← k0_part125 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      let ⟨v920, v924, c0_i32_1162⟩ : Σ' (v920 : FVec F S256x512 .f32) (v924 : BitVec 32), BitVec 32 ← k0_part126 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v897
      let ⟨v950, v951⟩ : Σ' (v950 : FVec F S256x512 .f32), BitVec 1 ← k0_part127 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v920 v924 c0_i32_1162
      let v977 : FVec F S256x2048 .f32 ← k0_part128 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v950 v951
      k0_part129 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v977
      rest) Q := by
  refine bind_step c ?_
  rw [k0_part125_eq_skeleton]
  simp (zeta := false) only [k0_part125_skel, semSignalWord, semWaitWord, Prog.lift, Prog.bind_op, Prog.bind_ret, Prog.pure_eq_ret]
  iterate 3 refine a_wait m K c (hk := ?_)
  refine a_wait_last m K c (hk := ?_)
  refine a_load m c 3 (hk := ?_)
  refine ret_step c ?_
  refine bind_step c ?_
  rw [k0_part126_eq_skeleton]
  simp (zeta := false) only [k0_part126_skel, semSignalWord, semWaitWord, Prog.lift, Prog.bind_op, Prog.bind_ret, Prog.pure_eq_ret]
  refine wo_load m c 0 (hk := ?_)
  refine if_yes (F := F) c hc ?_ (fun hh => ?_)
  · decide +kernel
  refine bind_step c ?_
  rw [k0_part5_eq_skeleton]
  simp (zeta := false) only [k0_part5_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine wo_wait m K c (hk := ?_)
  refine wo_start m K c (hk := ?_)
  refine a_load m c 0 (hk := ?_)
  refine wo_load m c 1 (hk := ?_)
  refine if_yes (F := F) c hc ?_ (fun hh => ?_)
  · decide +kernel
  refine bind_step c ?_
  rw [k0_part7_eq_skeleton]
  simp (zeta := false) only [k0_part7_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine ret_step c ?_
  refine bind_step c ?_
  rw [k0_part127_eq_skeleton]
  simp (zeta := false) only [k0_part127_skel, semSignalWord, semWaitWord, Prog.lift, Prog.bind_op, Prog.bind_ret, Prog.pure_eq_ret]
  refine if_no (F := F) c hc ?_ (fun hh => ?_)
  · decide +kernel
  refine a_load m c 1 (hk := ?_)
  refine wo_load m c 1 (hk := ?_)
  refine if_yes (F := F) c hc ?_ (fun hh => ?_)
  · decide +kernel
  refine bind_step c ?_
  rw [k0_part9_eq_skeleton]
  simp (zeta := false) only [k0_part9_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine wo_load m c 1 (hk := ?_)
  refine if_yes (F := F) c hc ?_ (fun hh => ?_)
  · decide +kernel
  refine bind_step c ?_
  rw [k0_part11_eq_skeleton]
  simp (zeta := false) only [k0_part11_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 1 (hk := ?_)
  refine ret_step c ?_
  refine bind_step c ?_
  rw [k0_part128_eq_skeleton]
  simp (zeta := false) only [k0_part128_skel, semSignalWord, semWaitWord, Prog.lift, Prog.bind_op, Prog.bind_ret, Prog.pure_eq_ret]
  refine if_yes (F := F) c hc ?_ (fun hh => ?_)
  · decide +kernel
  refine bind_step c ?_
  rw [k0_part13_eq_skeleton]
  simp (zeta := false) only [k0_part13_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine wo_wait m K c (hk := ?_)
  refine wo_start m K c (hk := ?_)
  refine a_load m c 0 (hk := ?_)
  refine wo_load m c 2 (hk := ?_)
  refine if_yes (F := F) c hc ?_ (fun hh => ?_)
  · decide +kernel
  refine bind_step c ?_
  rw [k0_part15_eq_skeleton]
  simp (zeta := false) only [k0_part15_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 1 (hk := ?_)
  refine ret_step c ?_
  refine bind_step c ?_
  rw [k0_part129_eq_skeleton]
  simp (zeta := false) only [k0_part129_skel, semSignalWord, semWaitWord, Prog.lift, Prog.bind_op, Prog.bind_ret, Prog.pure_eq_ret]
  refine wo_load m c 2 (hk := ?_)
  refine if_yes (F := F) c hc ?_ (fun hh => ?_)
  · decide +kernel
  refine bind_step c ?_
  rw [k0_part17_eq_skeleton]
  simp (zeta := false) only [k0_part17_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine wo_load m c 2 (hk := ?_)
  refine if_yes (F := F) c hc ?_ (fun hh => ?_)
  · decide +kernel
  refine bind_step c ?_
  rw [k0_part19_eq_skeleton]
  simp (zeta := false) only [k0_part19_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 2 (hk := ?_)
  refine if_yes (F := F) c hc ?_ (fun hh => ?_)
  · decide +kernel
  refine bind_step c ?_
  rw [k0_part21_eq_skeleton]
  simp (zeta := false) only [k0_part21_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine ret_step c ?_
  exact hk

set_option maxHeartbeats 4000000 in
/-- Parts 130 to 131, at a device that sends its partial products. -/
theorem n_walk_130 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 16 14 0 ∗ WSt m c 5 4 ∗ CSt m c 4 4 4 0 64 ∗ NSt m c 16 14 16 14 14 0 0 ∗ R) ⊢ WP c rest Q) :
    iprop(Own m K c 3 12 10 0 ∗ WSt m c 4 3 ∗ CSt m c 4 4 4 0 64 ∗ NSt m c 12 10 12 10 10 0 0 ∗ R) ⊢ WP c (do
      let ⟨v1030, v1031⟩ : Σ' (v1030 : FVec F S256x512 .f32), BitVec 1 ← k0_part130 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      k0_part131 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1030 v1031
      rest) Q := by
  refine bind_step c ?_
  rw [k0_part130_eq_skeleton]
  simp (zeta := false) only [k0_part130_skel, semSignalWord, semWaitWord, Prog.lift, Prog.bind_op, Prog.bind_ret, Prog.pure_eq_ret]
  refine wo_wait m K c (hk := ?_)
  refine wo_start m K c (hk := ?_)
  refine a_load m c 0 (hk := ?_)
  refine wo_load m c 3 (hk := ?_)
  refine if_yes (F := F) c hc ?_ (fun hh => ?_)
  · decide +kernel
  refine bind_step c ?_
  rw [k0_part23_eq_skeleton]
  simp (zeta := false) only [k0_part23_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 1 (hk := ?_)
  refine wo_load m c 3 (hk := ?_)
  refine ret_step c ?_
  refine bind_step c ?_
  rw [k0_part131_eq_skeleton]
  simp (zeta := false) only [k0_part131_skel, semSignalWord, semWaitWord, Prog.lift, Prog.bind_op, Prog.bind_ret, Prog.pure_eq_ret]
  refine if_yes (F := F) c hc ?_ (fun hh => ?_)
  · decide +kernel
  refine bind_step c ?_
  rw [k0_part25_eq_skeleton]
  simp (zeta := false) only [k0_part25_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine wo_load m c 3 (hk := ?_)
  refine if_yes (F := F) c hc ?_ (fun hh => ?_)
  · decide +kernel
  refine bind_step c ?_
  rw [k0_part27_eq_skeleton]
  simp (zeta := false) only [k0_part27_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 3 (hk := ?_)
  refine if_yes (F := F) c hc ?_ (fun hh => ?_)
  · decide +kernel
  refine bind_step c ?_
  rw [k0_part29_eq_skeleton]
  simp (zeta := false) only [k0_part29_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine ret_step c ?_
  exact hk

end Cert.KernelIdeal.Proj
-- ==== Proof.WalkN2.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that sends its partial products -/

variable (m : (ℓ : Loc nD τ sig) → Buf (Elt F) ℓ) (K : Dev nD × Fin 265 → ℕ)

set_option maxHeartbeats 4000000 in
/-- Part 132, at a device that sends its partial products. -/
theorem n_walk_132 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 18 16 0 ∗ WSt m c 6 5 ∗ CSt m c 4 4 4 0 64 ∗ NSt m c 18 16 18 16 16 0 0 ∗ R) ⊢ WP c rest Q) :
    iprop(Own m K c 3 16 14 0 ∗ WSt m c 5 4 ∗ CSt m c 4 4 4 0 64 ∗ NSt m c 16 14 16 14 14 0 0 ∗ R) ⊢ WP c (do
      k0_part132 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part132_eq_skeleton]
  simp (zeta := false) only [k0_part132_skel, semSignalWord, semWaitWord, Prog.lift, Prog.bind_op, Prog.bind_ret, Prog.pure_eq_ret]
  refine wo_wait m K c (hk := ?_)
  refine wo_start m K c (hk := ?_)
  refine a_load m c 0 (hk := ?_)
  refine wo_load m c 4 (hk := ?_)
  refine if_yes (F := F) c hc ?_ (fun hh => ?_)
  · decide +kernel
  refine bind_step c ?_
  rw [k0_part31_eq_skeleton]
  simp (zeta := false) only [k0_part31_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 1 (hk := ?_)
  refine wo_load m c 4 (hk := ?_)
  refine if_yes (F := F) c hc ?_ (fun hh => ?_)
  · decide +kernel
  refine bind_step c ?_
  rw [k0_part33_eq_skeleton]
  simp (zeta := false) only [k0_part33_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine ret_step c ?_
  exact hk

set_option maxHeartbeats 4000000 in
/-- Part 133, at a device that sends its partial products. -/
theorem n_walk_133 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 20 18 0 ∗ WSt m c 6 6 ∗ CSt m c 4 4 4 0 64 ∗ NSt m c 20 18 20 18 18 0 0 ∗ R) ⊢ WP c rest Q) :
    iprop(Own m K c 3 18 16 0 ∗ WSt m c 6 5 ∗ CSt m c 4 4 4 0 64 ∗ NSt m c 18 16 18 16 16 0 0 ∗ R) ⊢ WP c (do
      k0_part133 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part133_eq_skeleton]
  simp (zeta := false) only [k0_part133_skel, semSignalWord, semWaitWord, Prog.lift, Prog.bind_op, Prog.bind_ret, Prog.pure_eq_ret]
  refine a_load m c 2 (hk := ?_)
  refine wo_load m c 4 (hk := ?_)
  refine if_yes (F := F) c hc ?_ (fun hh => ?_)
  · decide +kernel
  refine bind_step c ?_
  rw [k0_part35_eq_skeleton]
  simp (zeta := false) only [k0_part35_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 4 (hk := ?_)
  refine if_yes (F := F) c hc ?_ (fun hh => ?_)
  · decide +kernel
  refine bind_step c ?_
  rw [k0_part37_eq_skeleton]
  simp (zeta := false) only [k0_part37_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine wo_wait m K c (hk := ?_)
  refine ret_step c ?_
  exact hk

set_option maxHeartbeats 4000000 in
/-- Parts 134 to 135, at a device that sends its partial products. -/
theorem n_walk_134 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 24 22 0 ∗ WSt m c 8 7 ∗ CSt m c 4 4 4 0 64 ∗ NSt m c 24 22 24 22 22 0 0 ∗ R) ⊢ WP c rest Q) :
    iprop(Own m K c 3 20 18 0 ∗ WSt m c 6 6 ∗ CSt m c 4 4 4 0 64 ∗ NSt m c 20 18 20 18 18 0 0 ∗ R) ⊢ WP c (do
      let v1137 : FVec F S256x2048 .f32 ← k0_part134 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      k0_part135 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1137
      rest) Q := by
  refine bind_step c ?_
  rw [k0_part134_eq_skeleton]
  simp (zeta := false) only [k0_part134_skel, semSignalWord, semWaitWord, Prog.lift, Prog.bind_op, Prog.bind_ret, Prog.pure_eq_ret]
  refine wo_start m K c (hk := ?_)
  refine a_load m c 0 (hk := ?_)
  refine wo_load m c 5 (hk := ?_)
  refine if_yes (F := F) c hc ?_ (fun hh => ?_)
  · decide +kernel
  refine bind_step c ?_
  rw [k0_part39_eq_skeleton]
  simp (zeta := false) only [k0_part39_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 1 (hk := ?_)
  refine wo_load m c 5 (hk := ?_)
  refine if_yes (F := F) c hc ?_ (fun hh => ?_)
  · decide +kernel
  refine bind_step c ?_
  rw [k0_part41_eq_skeleton]
  simp (zeta := false) only [k0_part41_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine ret_step c ?_
  refine bind_step c ?_
  rw [k0_part135_eq_skeleton]
  simp (zeta := false) only [k0_part135_skel, semSignalWord, semWaitWord, Prog.lift, Prog.bind_op, Prog.bind_ret, Prog.pure_eq_ret]
  refine wo_load m c 5 (hk := ?_)
  refine if_yes (F := F) c hc ?_ (fun hh => ?_)
  · decide +kernel
  refine bind_step c ?_
  rw [k0_part43_eq_skeleton]
  simp (zeta := false) only [k0_part43_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 5 (hk := ?_)
  refine if_yes (F := F) c hc ?_ (fun hh => ?_)
  · decide +kernel
  refine bind_step c ?_
  rw [k0_part45_eq_skeleton]
  simp (zeta := false) only [k0_part45_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine wo_wait m K c (hk := ?_)
  refine wo_start m K c (hk := ?_)
  refine ret_step c ?_
  exact hk

set_option maxHeartbeats 4000000 in
/-- Parts 136 to 139, at a device that sends its partial products. -/
theorem n_walk_136 (c : Dev nD) (hc : holder c = false) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ NSt m c 32 30 32 32 32 0 4 ∗ R) ⊢ WP c rest Q) :
    iprop(Own m K c 3 24 22 0 ∗ WSt m c 8 7 ∗ CSt m c 4 4 4 0 64 ∗ NSt m c 24 22 24 22 22 0 0 ∗ R) ⊢ WP c (do
      let ⟨v1190, v1192, c0_i32_1437⟩ : Σ' (v1190 : FVec F S256x512 .f32) (v1192 : BitVec 32), BitVec 32 ← k0_part136 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      let ⟨v1215, v1219, c0_i32_1464⟩ : Σ' (v1215 : FVec F S256x512 .f32) (v1219 : BitVec 32), BitVec 32 ← k0_part137 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1190 v1192 c0_i32_1437
      let ⟨v1245, v1246⟩ : Σ' (v1245 : FVec F S256x512 .f32), BitVec 1 ← k0_part138 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1215 v1219 c0_i32_1464
      k0_part139 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1245 v1246
      rest) Q := by
  refine bind_step c ?_
  rw [k0_part136_eq_skeleton]
  simp (zeta := false) only [k0_part136_skel, semSignalWord, semWaitWord, Prog.lift, Prog.bind_op, Prog.bind_ret, Prog.pure_eq_ret]
  refine a_load m c 0 (hk := ?_)
  refine wo_load m c 6 (hk := ?_)
  refine if_yes (F := F) c hc ?_ (fun hh => ?_)
  · decide +kernel
  refine bind_step c ?_
  rw [k0_part47_eq_skeleton]
  simp (zeta := false) only [k0_part47_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 1 (hk := ?_)
  refine wo_load m c 6 (hk := ?_)
  refine if_yes (F := F) c hc ?_ (fun hh => ?_)
  · decide +kernel
  refine bind_step c ?_
  rw [k0_part49_eq_skeleton]
  simp (zeta := false) only [k0_part49_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine wo_load m c 6 (hk := ?_)
  refine ret_step c ?_
  refine bind_step c ?_
  rw [k0_part137_eq_skeleton]
  simp (zeta := false) only [k0_part137_skel, semSignalWord, semWaitWord, Prog.lift, Prog.bind_op, Prog.bind_ret, Prog.pure_eq_ret]
  refine if_yes (F := F) c hc ?_ (fun hh => ?_)
  · decide +kernel
  refine bind_step c ?_
  rw [k0_part51_eq_skeleton]
  simp (zeta := false) only [k0_part51_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 6 (hk := ?_)
  refine if_yes (F := F) c hc ?_ (fun hh => ?_)
  · decide +kernel
  refine bind_step c ?_
  rw [k0_part53_eq_skeleton]
  simp (zeta := false) only [k0_part53_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine wo_wait m K c (hk := ?_)
  refine a_load m c 0 (hk := ?_)
  refine wo_load m c 7 (hk := ?_)
  refine if_yes (F := F) c hc ?_ (fun hh => ?_)
  · decide +kernel
  refine bind_step c ?_
  rw [k0_part55_eq_skeleton]
  simp (zeta := false) only [k0_part55_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine ret_step c ?_
  refine bind_step c ?_
  rw [k0_part138_eq_skeleton]
  simp (zeta := false) only [k0_part138_skel, semSignalWord, semWaitWord, Prog.lift, Prog.bind_op, Prog.bind_ret, Prog.pure_eq_ret]
  refine if_no (F := F) c hc ?_ (fun hh => ?_)
  · decide +kernel
  refine a_load m c 1 (hk := ?_)
  refine wo_load m c 7 (hk := ?_)
  refine if_yes (F := F) c hc ?_ (fun hh => ?_)
  · decide +kernel
  refine bind_step c ?_
  rw [k0_part57_eq_skeleton]
  simp (zeta := false) only [k0_part57_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 2 (hk := ?_)
  refine wo_load m c 7 (hk := ?_)
  refine if_yes (F := F) c hc ?_ (fun hh => ?_)
  · decide +kernel
  refine bind_step c ?_
  rw [k0_part59_eq_skeleton]
  simp (zeta := false) only [k0_part59_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine a_load m c 3 (hk := ?_)
  refine wo_load m c 7 (hk := ?_)
  refine ret_step c ?_
  refine bind_step c ?_
  rw [k0_part139_eq_skeleton]
  simp (zeta := false) only [k0_part139_skel, semSignalWord, semWaitWord, Prog.lift, Prog.bind_op, Prog.bind_ret, Prog.pure_eq_ret]
  refine if_yes (F := F) c hc ?_ (fun hh => ?_)
  · decide +kernel
  refine bind_step c ?_
  rw [k0_part61_eq_skeleton]
  simp (zeta := false) only [k0_part61_skel, semSignalWord, semWaitWord, Prog.lift, Prog.bind_op, Prog.bind_ret, Prog.pure_eq_ret]
  refine n_sent m K c hc (hk := ?_)
  refine n_load m K c hc (hk := fun v => ?_)
  refine n_store m K c hc (hk := ?_)
  refine n_send m K c hc (hk := ?_)
  refine ret_step c ?_
  refine n_recv m K c hc (hk := ?_)
  refine n_fwd m K c hc (hk := ?_)
  refine if_no (F := F) c hc ?_ (fun hh => ?_)
  · decide +kernel
  refine if_yes (F := F) c hc ?_ (fun hh => ?_)
  · decide +kernel
  refine n_recv m K c hc (hk := ?_)
  refine n_fwd m K c hc (hk := ?_)
  refine if_yes (F := F) c hc ?_ (fun hh => ?_)
  · decide +kernel
  refine n_recv m K c hc (hk := ?_)
  refine n_fwd m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine ret_step c ?_
  exact hk

end Cert.KernelIdeal.Proj
-- ==== Proof.WalkN3.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that sends its partial products -/

variable (m : (ℓ : Loc nD τ sig) → Buf (Elt F) ℓ) (K : Dev nD × Fin 265 → ℕ)

set_option maxHeartbeats 4000000 in
/-- Part 140, at a device that sends its partial products. -/
theorem n_walk_140 (c : Dev nD) (hc : holder c = false) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ NSt m c 32 30 32 32 32 0 10 ∗ R) ⊢ WP c rest Q) :
    iprop(Own m K c 3 32 32 0 ∗ WSt m c 8 8 ∗ CSt m c 4 4 4 0 64 ∗ NSt m c 32 30 32 32 32 0 4 ∗ R) ⊢ WP c (do
      k0_part140 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part140_eq_skeleton]
  simp (zeta := false) only [k0_part140_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine ret_step c ?_
  exact hk

set_option maxHeartbeats 4000000 in
/-- Part 141, at a device that sends its partial products. -/
theorem n_walk_141 (c : Dev nD) (hc : holder c = false) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ NSt m c 32 30 32 32 32 0 16 ∗ R) ⊢ WP c rest Q) :
    iprop(Own m K c 3 32 32 0 ∗ WSt m c 8 8 ∗ CSt m c 4 4 4 0 64 ∗ NSt m c 32 30 32 32 32 0 10 ∗ R) ⊢ WP c (do
      k0_part141 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part141_eq_skeleton]
  simp (zeta := false) only [k0_part141_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine ret_step c ?_
  exact hk

set_option maxHeartbeats 4000000 in
/-- Part 142, at a device that sends its partial products. -/
theorem n_walk_142 (c : Dev nD) (hc : holder c = false) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ NSt m c 32 30 32 32 32 0 22 ∗ R) ⊢ WP c rest Q) :
    iprop(Own m K c 3 32 32 0 ∗ WSt m c 8 8 ∗ CSt m c 4 4 4 0 64 ∗ NSt m c 32 30 32 32 32 0 16 ∗ R) ⊢ WP c (do
      k0_part142 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part142_eq_skeleton]
  simp (zeta := false) only [k0_part142_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine ret_step c ?_
  exact hk

set_option maxHeartbeats 4000000 in
/-- Part 143, at a device that sends its partial products. -/
theorem n_walk_143 (c : Dev nD) (hc : holder c = false) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ NSt m c 32 30 32 32 32 0 28 ∗ R) ⊢ WP c rest Q) :
    iprop(Own m K c 3 32 32 0 ∗ WSt m c 8 8 ∗ CSt m c 4 4 4 0 64 ∗ NSt m c 32 30 32 32 32 0 22 ∗ R) ⊢ WP c (do
      k0_part143 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part143_eq_skeleton]
  simp (zeta := false) only [k0_part143_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine ret_step c ?_
  exact hk

end Cert.KernelIdeal.Proj
-- ==== Proof.WalkBase.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # Two further steps -/

variable (m : (ℓ : Loc nD τ sig) → Buf (Elt F) ℓ) (K : Dev nD × Fin 265 → ℕ)

/-- A device reads its own number. -/
theorem dev_step (c : Dev nD) {α : Type} {X : sProp 𝕄} {Q : α → sProp 𝕄} {k : Dev nD → Prog (TpuEff nD τ sig (Elt F) Λ₀ .tc) α} (hk : X ⊢ WP c (k c) Q) :
    X ⊢ WP c (.op .deviceId k) Q := by
  show X ⊢ wp frame _ Set.univ (.op .deviceId k) Q
  rw [wp_deviceId]; exact hk

/-- The state's last two parts exchanged for others. -/
theorem start_step {A B C X R Y Z P : sProp 𝕄} (h : iprop(X ∗ R) ⊢ iprop(Y ∗ Z)) (hk : iprop(A ∗ B ∗ C ∗ Y ∗ Z) ⊢ P) : iprop(A ∗ B ∗ C ∗ X ∗ R) ⊢ P := by
  iintro ⟨HA, HB, HC, HX, HR⟩
  ihave H := h $$ [HX HR]
  · isplitl [HX] <;> iassumption
  icases H with ⟨HY, HZ⟩
  iapply hk
  isplitl [HA]; · iexact HA
  isplitl [HB]; · iexact HB
  isplitl [HC]; · iexact HC
  isplitl [HY] <;> iassumption

end Cert.KernelIdeal.Proj
-- ==== Proof.BodyN.lean ====
module

public import proofs.«01_k».proof.Proof.WalkLocal
public import proofs.«01_k».proof.Proof.WalkN1
public import proofs.«01_k».proof.Proof.WalkN2
public import proofs.«01_k».proof.Proof.WalkN3
public import proofs.«01_k».proof.Proof.WalkBase

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The whole walk -/

variable (m : (ℓ : Loc nD τ sig) → Buf (Elt F) ℓ) (K : Dev nD × Fin 265 → ℕ)

set_option maxHeartbeats 4000000 in
/-- The whole program of a device that sends its partial products. -/
theorem n_body (c : Dev nD) (hc : holder c = false) {hx hw ho hb ha3 ha hs0} {R₀ R : sProp 𝕄} {Q : PUnit → sProp 𝕄}
    (hs : iprop((barPay (F := F) c 0 ∗ barPay (F := F) c 1 ∗ barPay (F := F) c 2 ∗ atPos ER (barC c) 1 ∅ 0) ∗ R₀) ⊢ iprop(NSt m c 0 0 0 0 0 0 0 ∗ ESt c 0 ∗ R))
    (hk : iprop(Own m K c 3 32 32 3 ∗ WSt m c 8 8 ∗ CSt m c 4 4 4 0 64 ∗ NSt m c 32 32 32 32 32 32 32 ∗ atPos ER (exC c) 1 ∅ 0 ∗ R) ⊢ Q ⟨⟩) :
    iprop(Own m K c 0 0 0 0 ∗ WSt m c 0 0 ∗ CSt m c 0 0 0 0 0 ∗ BSt c 0 ∗ R₀)
      ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0) Q := by
  rw [cc0__body_eq_skeleton]
  unfold cc0__body_skel
  refine bind_step c ?_
  rw [k0_part145_eq_skeleton]
  unfold k0_part145_skel
  refine bind_step c ?_
  rw [k0_part89_eq_skeleton]
  simp (zeta := false) only [k0_part89_skel, semSignalWord, semWaitWord, Prog.lift, Prog.bind_op, Prog.bind_ret, Prog.pure_eq_ret]
  refine dev_step c ?_
  refine wo_start m K c (hk := ?_)
  refine c_start m K c (hk := ?_)
  refine ret_step c ?_
  refine bind_step c ?_
  rw [k0_part90_eq_skeleton]
  simp (zeta := false) only [k0_part90_skel, semSignalWord, semWaitWord, Prog.lift, Prog.bind_op, Prog.bind_ret, Prog.pure_eq_ret]
  iterate 3 refine bar_signal m K c (hk := ?_)
  refine bar_wait m K c (hk := ?_)
  refine wo_wait m K c (hk := ?_)
  refine wo_start m K c (hk := ?_)
  refine ret_step c ?_
  refine start_step hs ?_
  refine walk_fill1 m K c (hk := ?_)
  refine n_walk_99 m K c hc (hk := ?_)
  refine walk_fill2 m K c (hk := ?_)
  refine n_walk_108 m K c hc (hk := ?_)
  refine walk_fill3 m K c (hk := ?_)
  refine n_walk_117 m K c hc (hk := ?_)
  refine walk_fill4 m K c (hk := ?_)
  refine n_walk_125 m K c hc (hk := ?_)
  refine n_walk_130 m K c hc (hk := ?_)
  refine n_walk_132 m K c hc (hk := ?_)
  refine n_walk_133 m K c hc (hk := ?_)
  refine n_walk_134 m K c hc (hk := ?_)
  refine n_walk_136 m K c hc (hk := ?_)
  refine n_walk_140 m K c hc (hk := ?_)
  refine n_walk_141 m K c hc (hk := ?_)
  refine n_walk_142 m K c hc (hk := ?_)
  refine n_walk_143 m K c hc (hk := ?_)
  refine bind_step c ?_
  rw [k0_part144_eq_skeleton]
  simp (zeta := false) only [k0_part144_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine n_far m K c hc (hk := ?_)
  refine if_no (F := F) c hc ?_ (fun hh => ?_)
  · decide +kernel
  refine if_yes (F := F) c hc ?_ (fun hh => ?_)
  · decide +kernel
  refine bind_step c ?_
  rw [k0_part80_eq_skeleton]
  simp (zeta := false) only [k0_part80_skel, semSignalWord, semWaitWord, Prog.lift, Prog.bind_op, Prog.bind_ret, Prog.pure_eq_ret]
  refine n_sent m K c hc (hk := ?_)
  refine n_sent m K c hc (hk := ?_)
  refine n_fwded m K c hc (hk := ?_)
  refine ret_step c ?_
  refine bind_step c ?_
  rw [k0_part81_eq_skeleton]
  simp (zeta := false) only [k0_part81_skel, semSignalWord, semWaitWord, Prog.lift, Prog.bind_op, Prog.bind_ret, Prog.pure_eq_ret]
  iterate 4 refine n_fwded m K c hc (hk := ?_)
  refine ret_step c ?_
  refine bind_step c ?_
  rw [k0_part82_eq_skeleton]
  simp (zeta := false) only [k0_part82_skel, semSignalWord, semWaitWord, Prog.lift, Prog.bind_op, Prog.bind_ret, Prog.pure_eq_ret]
  iterate 4 refine n_fwded m K c hc (hk := ?_)
  refine ret_step c ?_
  refine bind_step c ?_
  rw [k0_part83_eq_skeleton]
  simp (zeta := false) only [k0_part83_skel, semSignalWord, semWaitWord, Prog.lift, Prog.bind_op, Prog.bind_ret, Prog.pure_eq_ret]
  iterate 4 refine n_fwded m K c hc (hk := ?_)
  refine ret_step c ?_
  refine bind_step c ?_
  rw [k0_part84_eq_skeleton]
  simp (zeta := false) only [k0_part84_skel, semSignalWord, semWaitWord, Prog.lift, Prog.bind_op, Prog.bind_ret, Prog.pure_eq_ret]
  iterate 3 refine n_fwded m K c hc (hk := ?_)
  refine ret_step c ?_
  refine bind_step c ?_
  rw [k0_part85_eq_skeleton]
  simp (zeta := false) only [k0_part85_skel, semSignalWord, semWaitWord, Prog.lift, Prog.bind_op, Prog.bind_ret, Prog.pure_eq_ret]
  iterate 4 refine n_fwded m K c hc (hk := ?_)
  refine ret_step c ?_
  refine bind_step c ?_
  rw [k0_part86_eq_skeleton]
  simp (zeta := false) only [k0_part86_skel, semSignalWord, semWaitWord, Prog.lift, Prog.bind_op, Prog.bind_ret, Prog.pure_eq_ret]
  iterate 4 refine n_fwded m K c hc (hk := ?_)
  refine ret_step c ?_
  refine bind_step c ?_
  rw [k0_part87_eq_skeleton]
  simp (zeta := false) only [k0_part87_skel, semSignalWord, semWaitWord, Prog.lift, Prog.bind_op, Prog.bind_ret, Prog.pure_eq_ret]
  iterate 4 refine n_fwded m K c hc (hk := ?_)
  refine ret_step c ?_
  refine bind_step c ?_
  rw [k0_part88_eq_skeleton]
  simp (zeta := false) only [k0_part88_skel, semSignalWord, semWaitWord, Prog.lift, Prog.bind_op, Prog.bind_ret, Prog.pure_eq_ret]
  iterate 3 refine n_fwded m K c hc (hk := ?_)
  refine ret_step c ?_
  refine n_fwded m K c hc (hk := ?_)
  refine ret_step c ?_
  refine ex_signal m K c (hk := ?_)
  refine ret_step c ?_
  refine ex_signal m K c (hk := ?_)
  refine ex_signal m K c (hk := ?_)
  refine ex_wait m K c (hk := ?_)
  refine ret_step c ?_
  exact hk

end Cert.KernelIdeal.Proj
-- ==== Proof.WalkH1.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that adds up and passes on the results -/

variable (m : (ℓ : Loc nD τ sig) → Buf (Elt F) ℓ) (K : Dev nD × Fin 265 → ℕ)

set_option maxHeartbeats 4000000 in
/-- Part 99, at a device that adds up and passes on the results. -/
theorem h_walk_99 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 1 1 0 ∗ WSt m c 2 1 ∗ CSt m c 2 1 1 0 16 ∗ HSt m c 1 1 1 0 1 0 0 ∗ R) ⊢ WP c rest Q) :
    iprop(Own m K c 3 0 0 0 ∗ WSt m c 2 1 ∗ CSt m c 2 1 0 14 16 ∗ HSt m c 0 0 0 0 0 0 0 ∗ R) ⊢ WP c (do
      k0_part99 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part99_eq_skeleton]
  simp (zeta := false) only [k0_part99_skel, semSignalWord, semWaitWord, Prog.lift, Prog.bind_op, Prog.bind_ret, Prog.pure_eq_ret]
  refine a_wait m K c (hk := ?_)
  refine a_wait_last m K c (hk := ?_)
  refine a_load m c 0 (hk := ?_)
  refine wo_load m c 0 (hk := ?_)
  refine if_no (F := F) c hc ?_ (fun hh => ?_)
  · decide +kernel
  refine if_yes (F := F) c hc ?_ (fun hh => ?_)
  · decide +kernel
  refine bind_step c ?_
  rw [k0_part1_eq_skeleton]
  simp (zeta := false) only [k0_part1_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine ret_step c ?_
  exact hk

set_option maxHeartbeats 4000000 in
/-- Part 108, at a device that adds up and passes on the results. -/
theorem h_walk_108 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 2 2 0 ∗ WSt m c 2 1 ∗ CSt m c 4 2 2 0 32 ∗ HSt m c 2 2 2 0 2 0 0 ∗ R) ⊢ WP c rest Q) :
    iprop(Own m K c 3 1 1 0 ∗ WSt m c 2 1 ∗ CSt m c 3 2 1 14 32 ∗ HSt m c 1 1 1 0 1 0 0 ∗ R) ⊢ WP c (do
      k0_part108 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part108_eq_skeleton]
  simp (zeta := false) only [k0_part108_skel, semSignalWord, semWaitWord, Prog.lift, Prog.bind_op, Prog.bind_ret, Prog.pure_eq_ret]
  refine a_wait m K c (hk := ?_)
  refine a_wait_last m K c (hk := ?_)
  refine a_load m c 1 (hk := ?_)
  refine wo_load m c 0 (hk := ?_)
  refine if_no (F := F) c hc ?_ (fun hh => ?_)
  · decide +kernel
  refine if_yes (F := F) c hc ?_ (fun hh => ?_)
  · decide +kernel
  refine bind_step c ?_
  rw [k0_part2_eq_skeleton]
  simp (zeta := false) only [k0_part2_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine c_start m K c (hk := ?_)
  refine ret_step c ?_
  exact hk

set_option maxHeartbeats 4000000 in
/-- Part 117, at a device that adds up and passes on the results. -/
theorem h_walk_117 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 3 3 0 ∗ WSt m c 2 1 ∗ CSt m c 4 4 3 0 48 ∗ HSt m c 3 3 3 0 3 0 0 ∗ R) ⊢ WP c rest Q) :
    iprop(Own m K c 3 2 2 0 ∗ WSt m c 2 1 ∗ CSt m c 4 3 2 14 48 ∗ HSt m c 2 2 2 0 2 0 0 ∗ R) ⊢ WP c (do
      k0_part117 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part117_eq_skeleton]
  simp (zeta := false) only [k0_part117_skel, semSignalWord, semWaitWord, Prog.lift, Prog.bind_op, Prog.bind_ret, Prog.pure_eq_ret]
  refine a_wait m K c (hk := ?_)
  refine a_wait_last m K c (hk := ?_)
  refine a_load m c 2 (hk := ?_)
  refine wo_load m c 0 (hk := ?_)
  refine if_no (F := F) c hc ?_ (fun hh => ?_)
  · decide +kernel
  refine if_yes (F := F) c hc ?_ (fun hh => ?_)
  · decide +kernel
  refine bind_step c ?_
  rw [k0_part4_eq_skeleton]
  simp (zeta := false) only [k0_part4_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine c_wait m K c (hk := ?_)
  refine ret_step c ?_
  exact hk

set_option maxHeartbeats 4000000 in
/-- Parts 125 to 129, at a device that adds up and passes on the results. -/
theorem h_walk_125 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 12 12 0 ∗ WSt m c 4 3 ∗ CSt m c 4 4 4 0 64 ∗ HSt m c 12 12 12 0 12 0 0 ∗ R) ⊢ WP c rest Q) :
    iprop(Own m K c 3 3 3 0 ∗ WSt m c 2 1 ∗ CSt m c 4 4 3 12 64 ∗ HSt m c 3 3 3 0 3 0 0 ∗ R) ⊢ WP c (do
      let v897 : FVec F S256x2048 .f32 ← k0_part125 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0
      let ⟨v920, v924, c0_i32_1162⟩ : Σ' (v920 : FVec F S256x512 .f32) (v924 : BitVec 32), BitVec 32 ← k0_part126 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v897
      let ⟨v950, v951⟩ : Σ' (v950 : FVec F S256x512 .f32), BitVec 1 ← k0_part127 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v920 v924 c0_i32_1162
      let v977 : FVec F S256x2048 .f32 ← k0_part128 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v950 v951
      k0_part129 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v977
      rest) Q := by
  refine bind_step c ?_
  rw [k0_part125_eq_skeleton]
  simp (zeta := false) only [k0_part125_skel, semSignalWord, semWaitWord, Prog.lift, Prog.bind_op, Prog.bind_ret, Prog.pure_eq_ret]
  iterate 3 refine a_wait m K c (hk := ?_)
  refine a_wait_last m K c (hk := ?_)
  refine a_load m c 3 (hk := ?_)
  refine ret_step c ?_
  refine bind_step c ?_
  rw [k0_part126_eq_skeleton]
  simp (zeta := false) only [k0_part126_skel, semSignalWord, semWaitWord, Prog.lift, Prog.bind_op, Prog.bind_ret, Prog.pure_eq_ret]
  refine wo_load m c 0 (hk := ?_)
  refine if_no (F := F) c hc ?_ (fun hh => ?_)
  · decide +kernel
  refine if_yes (F := F) c hc ?_ (fun hh => ?_)
  · decide +kernel
  refine bind_step c ?_
  rw [k0_part6_eq_skeleton]
  simp (zeta := false) only [k0_part6_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine wo_wait m K c (hk := ?_)
  refine wo_start m K c (hk := ?_)
  refine a_load m c 0 (hk := ?_)
  refine wo_load m c 1 (hk := ?_)
  refine if_no (F := F) c hc ?_ (fun hh => ?_)
  · decide +kernel
  refine ret_step c ?_
  refine bind_step c ?_
  rw [k0_part127_eq_skeleton]
  simp (zeta := false) only [k0_part127_skel, semSignalWord, semWaitWord, Prog.lift, Prog.bind_op, Prog.bind_ret, Prog.pure_eq_ret]
  refine if_yes (F := F) c hc ?_ (fun hh => ?_)
  · decide +kernel
  refine bind_step c ?_
  rw [k0_part8_eq_skeleton]
  simp (zeta := false) only [k0_part8_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 1 (hk := ?_)
  refine if_no (F := F) c hc ?_ (fun hh => ?_)
  · decide +kernel
  refine if_yes (F := F) c hc ?_ (fun hh => ?_)
  · decide +kernel
  refine bind_step c ?_
  rw [k0_part10_eq_skeleton]
  simp (zeta := false) only [k0_part10_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine wo_load m c 1 (hk := ?_)
  refine if_no (F := F) c hc ?_ (fun hh => ?_)
  · decide +kernel
  refine if_yes (F := F) c hc ?_ (fun hh => ?_)
  · decide +kernel
  refine bind_step c ?_
  rw [k0_part12_eq_skeleton]
  simp (zeta := false) only [k0_part12_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 1 (hk := ?_)
  refine ret_step c ?_
  refine bind_step c ?_
  rw [k0_part128_eq_skeleton]
  simp (zeta := false) only [k0_part128_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine bind_step c ?_
  rw [k0_part14_eq_skeleton]
  simp (zeta := false) only [k0_part14_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine wo_wait m K c (hk := ?_)
  refine wo_start m K c (hk := ?_)
  refine a_load m c 0 (hk := ?_)
  refine wo_load m c 2 (hk := ?_)
  refine if_no (F := F) c hc ?_ (fun hh => ?_)
  · decide +kernel
  refine if_yes (F := F) c hc ?_ (fun hh => ?_)
  · decide +kernel
  refine bind_step c ?_
  rw [k0_part16_eq_skeleton]
  simp (zeta := false) only [k0_part16_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine ret_step c ?_
  refine bind_step c ?_
  rw [k0_part129_eq_skeleton]
  simp (zeta := false) only [k0_part129_skel, semSignalWord, semWaitWord, Prog.lift, Prog.bind_op, Prog.bind_ret, Prog.pure_eq_ret]
  refine wo_load m c 2 (hk := ?_)
  refine if_no (F := F) c hc ?_ (fun hh => ?_)
  · decide +kernel
  refine if_yes (F := F) c hc ?_ (fun hh => ?_)
  · decide +kernel
  refine bind_step c ?_
  rw [k0_part18_eq_skeleton]
  simp (zeta := false) only [k0_part18_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine wo_load m c 2 (hk := ?_)
  refine if_no (F := F) c hc ?_ (fun hh => ?_)
  · decide +kernel
  refine if_yes (F := F) c hc ?_ (fun hh => ?_)
  · decide +kernel
  refine bind_step c ?_
  rw [k0_part20_eq_skeleton]
  simp (zeta := false) only [k0_part20_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 2 (hk := ?_)
  refine if_no (F := F) c hc ?_ (fun hh => ?_)
  · decide +kernel
  refine if_yes (F := F) c hc ?_ (fun hh => ?_)
  · decide +kernel
  refine bind_step c ?_
  rw [k0_part22_eq_skeleton]
  simp (zeta := false) only [k0_part22_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine ret_step c ?_
  exact hk

set_option maxHeartbeats 4000000 in
/-- Parts 130 to 131, at a device that adds up and passes on the results. -/
theorem h_walk_130 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 16 16 0 ∗ WSt m c 5 4 ∗ CSt m c 4 4 4 0 64 ∗ HSt m c 16 16 16 0 16 0 0 ∗ R) ⊢ WP c rest Q) :
    iprop(Own m K c 3 12 12 0 ∗ WSt m c 4 3 ∗ CSt m c 4 4 4 0 64 ∗ HSt m c 12 12 12 0 12 0 0 ∗ R) ⊢ WP c (do
      let ⟨v1030, v1031⟩ : Σ' (v1030 : FVec F S256x512 .f32), BitVec 1 ← k0_part130 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      k0_part131 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1030 v1031
      rest) Q := by
  refine bind_step c ?_
  rw [k0_part130_eq_skeleton]
  simp (zeta := false) only [k0_part130_skel, semSignalWord, semWaitWord, Prog.lift, Prog.bind_op, Prog.bind_ret, Prog.pure_eq_ret]
  refine wo_wait m K c (hk := ?_)
  refine wo_start m K c (hk := ?_)
  refine a_load m c 0 (hk := ?_)
  refine wo_load m c 3 (hk := ?_)
  refine if_no (F := F) c hc ?_ (fun hh => ?_)
  · decide +kernel
  refine if_yes (F := F) c hc ?_ (fun hh => ?_)
  · decide +kernel
  refine bind_step c ?_
  rw [k0_part24_eq_skeleton]
  simp (zeta := false) only [k0_part24_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 3 (hk := ?_)
  refine ret_step c ?_
  refine bind_step c ?_
  rw [k0_part131_eq_skeleton]
  simp (zeta := false) only [k0_part131_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine bind_step c ?_
  rw [k0_part26_eq_skeleton]
  simp (zeta := false) only [k0_part26_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine wo_load m c 3 (hk := ?_)
  refine if_no (F := F) c hc ?_ (fun hh => ?_)
  · decide +kernel
  refine if_yes (F := F) c hc ?_ (fun hh => ?_)
  · decide +kernel
  refine bind_step c ?_
  rw [k0_part28_eq_skeleton]
  simp (zeta := false) only [k0_part28_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 3 (hk := ?_)
  refine if_no (F := F) c hc ?_ (fun hh => ?_)
  · decide +kernel
  refine if_yes (F := F) c hc ?_ (fun hh => ?_)
  · decide +kernel
  refine bind_step c ?_
  rw [k0_part30_eq_skeleton]
  simp (zeta := false) only [k0_part30_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine ret_step c ?_
  exact hk

end Cert.KernelIdeal.Proj
-- ==== Proof.WalkH2.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that adds up and passes on the results -/

variable (m : (ℓ : Loc nD τ sig) → Buf (Elt F) ℓ) (K : Dev nD × Fin 265 → ℕ)

set_option maxHeartbeats 4000000 in
/-- Part 132, at a device that adds up and passes on the results. -/
theorem h_walk_132 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 18 18 0 ∗ WSt m c 6 5 ∗ CSt m c 4 4 4 0 64 ∗ HSt m c 18 18 18 0 18 0 0 ∗ R) ⊢ WP c rest Q) :
    iprop(Own m K c 3 16 16 0 ∗ WSt m c 5 4 ∗ CSt m c 4 4 4 0 64 ∗ HSt m c 16 16 16 0 16 0 0 ∗ R) ⊢ WP c (do
      k0_part132 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part132_eq_skeleton]
  simp (zeta := false) only [k0_part132_skel, semSignalWord, semWaitWord, Prog.lift, Prog.bind_op, Prog.bind_ret, Prog.pure_eq_ret]
  refine wo_wait m K c (hk := ?_)
  refine wo_start m K c (hk := ?_)
  refine a_load m c 0 (hk := ?_)
  refine wo_load m c 4 (hk := ?_)
  refine if_no (F := F) c hc ?_ (fun hh => ?_)
  · decide +kernel
  refine if_yes (F := F) c hc ?_ (fun hh => ?_)
  · decide +kernel
  refine bind_step c ?_
  rw [k0_part32_eq_skeleton]
  simp (zeta := false) only [k0_part32_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 4 (hk := ?_)
  refine if_no (F := F) c hc ?_ (fun hh => ?_)
  · decide +kernel
  refine if_yes (F := F) c hc ?_ (fun hh => ?_)
  · decide +kernel
  refine bind_step c ?_
  rw [k0_part34_eq_skeleton]
  simp (zeta := false) only [k0_part34_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine ret_step c ?_
  exact hk

set_option maxHeartbeats 4000000 in
/-- Part 133, at a device that adds up and passes on the results. -/
theorem h_walk_133 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 20 20 0 ∗ WSt m c 6 6 ∗ CSt m c 4 4 4 0 64 ∗ HSt m c 20 20 20 0 20 0 0 ∗ R) ⊢ WP c rest Q) :
    iprop(Own m K c 3 18 18 0 ∗ WSt m c 6 5 ∗ CSt m c 4 4 4 0 64 ∗ HSt m c 18 18 18 0 18 0 0 ∗ R) ⊢ WP c (do
      k0_part133 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      rest) Q := by
  refine bind_step c ?_
  rw [k0_part133_eq_skeleton]
  simp (zeta := false) only [k0_part133_skel, semSignalWord, semWaitWord, Prog.lift, Prog.bind_op, Prog.bind_ret, Prog.pure_eq_ret]
  refine a_load m c 2 (hk := ?_)
  refine wo_load m c 4 (hk := ?_)
  refine if_no (F := F) c hc ?_ (fun hh => ?_)
  · decide +kernel
  refine if_yes (F := F) c hc ?_ (fun hh => ?_)
  · decide +kernel
  refine bind_step c ?_
  rw [k0_part36_eq_skeleton]
  simp (zeta := false) only [k0_part36_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 4 (hk := ?_)
  refine if_no (F := F) c hc ?_ (fun hh => ?_)
  · decide +kernel
  refine if_yes (F := F) c hc ?_ (fun hh => ?_)
  · decide +kernel
  refine bind_step c ?_
  rw [k0_part38_eq_skeleton]
  simp (zeta := false) only [k0_part38_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine wo_wait m K c (hk := ?_)
  refine ret_step c ?_
  exact hk

set_option maxHeartbeats 4000000 in
/-- Parts 134 to 135, at a device that adds up and passes on the results. -/
theorem h_walk_134 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 24 24 0 ∗ WSt m c 8 7 ∗ CSt m c 4 4 4 0 64 ∗ HSt m c 24 24 24 0 24 0 0 ∗ R) ⊢ WP c rest Q) :
    iprop(Own m K c 3 20 20 0 ∗ WSt m c 6 6 ∗ CSt m c 4 4 4 0 64 ∗ HSt m c 20 20 20 0 20 0 0 ∗ R) ⊢ WP c (do
      let v1137 : FVec F S256x2048 .f32 ← k0_part134 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      k0_part135 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1137
      rest) Q := by
  refine bind_step c ?_
  rw [k0_part134_eq_skeleton]
  simp (zeta := false) only [k0_part134_skel, semSignalWord, semWaitWord, Prog.lift, Prog.bind_op, Prog.bind_ret, Prog.pure_eq_ret]
  refine wo_start m K c (hk := ?_)
  refine a_load m c 0 (hk := ?_)
  refine wo_load m c 5 (hk := ?_)
  refine if_no (F := F) c hc ?_ (fun hh => ?_)
  · decide +kernel
  refine if_yes (F := F) c hc ?_ (fun hh => ?_)
  · decide +kernel
  refine bind_step c ?_
  rw [k0_part40_eq_skeleton]
  simp (zeta := false) only [k0_part40_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 5 (hk := ?_)
  refine if_no (F := F) c hc ?_ (fun hh => ?_)
  · decide +kernel
  refine if_yes (F := F) c hc ?_ (fun hh => ?_)
  · decide +kernel
  refine bind_step c ?_
  rw [k0_part42_eq_skeleton]
  simp (zeta := false) only [k0_part42_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine ret_step c ?_
  refine bind_step c ?_
  rw [k0_part135_eq_skeleton]
  simp (zeta := false) only [k0_part135_skel, semSignalWord, semWaitWord, Prog.lift, Prog.bind_op, Prog.bind_ret, Prog.pure_eq_ret]
  refine wo_load m c 5 (hk := ?_)
  refine if_no (F := F) c hc ?_ (fun hh => ?_)
  · decide +kernel
  refine if_yes (F := F) c hc ?_ (fun hh => ?_)
  · decide +kernel
  refine bind_step c ?_
  rw [k0_part44_eq_skeleton]
  simp (zeta := false) only [k0_part44_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 5 (hk := ?_)
  refine if_no (F := F) c hc ?_ (fun hh => ?_)
  · decide +kernel
  refine if_yes (F := F) c hc ?_ (fun hh => ?_)
  · decide +kernel
  refine bind_step c ?_
  rw [k0_part46_eq_skeleton]
  simp (zeta := false) only [k0_part46_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine wo_wait m K c (hk := ?_)
  refine wo_start m K c (hk := ?_)
  refine ret_step c ?_
  exact hk

set_option maxHeartbeats 4000000 in
/-- Parts 136 to 139, at a device that adds up and passes on the results. -/
theorem h_walk_136 (c : Dev nD) (hc : holder c = true) {hx hw ho hb ha3 ha hs} {v2 v5 v8 v9 v10 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ HSt m c 32 32 32 0 32 0 4 ∗ R) ⊢ WP c rest Q) :
    iprop(Own m K c 3 24 24 0 ∗ WSt m c 8 7 ∗ CSt m c 4 4 4 0 64 ∗ HSt m c 24 24 24 0 24 0 0 ∗ R) ⊢ WP c (do
      let ⟨v1190, v1192, c0_i32_1437⟩ : Σ' (v1190 : FVec F S256x512 .f32) (v1192 : BitVec 32), BitVec 32 ← k0_part136 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12
      let ⟨v1215, v1219, c0_i32_1464⟩ : Σ' (v1215 : FVec F S256x512 .f32) (v1219 : BitVec 32), BitVec 32 ← k0_part137 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1190 v1192 c0_i32_1437
      let ⟨v1245, v1246⟩ : Σ' (v1245 : FVec F S256x512 .f32), BitVec 1 ← k0_part138 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1215 v1219 c0_i32_1464
      k0_part139 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v9 v10 v11 v12 v1245 v1246
      rest) Q := by
  refine bind_step c ?_
  rw [k0_part136_eq_skeleton]
  simp (zeta := false) only [k0_part136_skel, semSignalWord, semWaitWord, Prog.lift, Prog.bind_op, Prog.bind_ret, Prog.pure_eq_ret]
  refine a_load m c 0 (hk := ?_)
  refine wo_load m c 6 (hk := ?_)
  refine if_no (F := F) c hc ?_ (fun hh => ?_)
  · decide +kernel
  refine if_yes (F := F) c hc ?_ (fun hh => ?_)
  · decide +kernel
  refine bind_step c ?_
  rw [k0_part48_eq_skeleton]
  simp (zeta := false) only [k0_part48_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 6 (hk := ?_)
  refine if_no (F := F) c hc ?_ (fun hh => ?_)
  · decide +kernel
  refine if_yes (F := F) c hc ?_ (fun hh => ?_)
  · decide +kernel
  refine bind_step c ?_
  rw [k0_part50_eq_skeleton]
  simp (zeta := false) only [k0_part50_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine wo_load m c 6 (hk := ?_)
  refine ret_step c ?_
  refine bind_step c ?_
  rw [k0_part137_eq_skeleton]
  simp (zeta := false) only [k0_part137_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine bind_step c ?_
  rw [k0_part52_eq_skeleton]
  simp (zeta := false) only [k0_part52_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 6 (hk := ?_)
  refine if_no (F := F) c hc ?_ (fun hh => ?_)
  · decide +kernel
  refine if_yes (F := F) c hc ?_ (fun hh => ?_)
  · decide +kernel
  refine bind_step c ?_
  rw [k0_part54_eq_skeleton]
  simp (zeta := false) only [k0_part54_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine wo_wait m K c (hk := ?_)
  refine a_load m c 0 (hk := ?_)
  refine wo_load m c 7 (hk := ?_)
  refine if_no (F := F) c hc ?_ (fun hh => ?_)
  · decide +kernel
  refine ret_step c ?_
  refine bind_step c ?_
  rw [k0_part138_eq_skeleton]
  simp (zeta := false) only [k0_part138_skel, semSignalWord, semWaitWord, Prog.lift, Prog.bind_op, Prog.bind_ret, Prog.pure_eq_ret]
  refine if_yes (F := F) c hc ?_ (fun hh => ?_)
  · decide +kernel
  refine bind_step c ?_
  rw [k0_part56_eq_skeleton]
  simp (zeta := false) only [k0_part56_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 1 (hk := ?_)
  refine wo_load m c 7 (hk := ?_)
  refine if_no (F := F) c hc ?_ (fun hh => ?_)
  · decide +kernel
  refine if_yes (F := F) c hc ?_ (fun hh => ?_)
  · decide +kernel
  refine bind_step c ?_
  rw [k0_part58_eq_skeleton]
  simp (zeta := false) only [k0_part58_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 2 (hk := ?_)
  refine wo_load m c 7 (hk := ?_)
  refine if_no (F := F) c hc ?_ (fun hh => ?_)
  · decide +kernel
  refine if_yes (F := F) c hc ?_ (fun hh => ?_)
  · decide +kernel
  refine bind_step c ?_
  rw [k0_part60_eq_skeleton]
  simp (zeta := false) only [k0_part60_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine a_load m c 3 (hk := ?_)
  refine wo_load m c 7 (hk := ?_)
  refine ret_step c ?_
  refine bind_step c ?_
  rw [k0_part139_eq_skeleton]
  simp (zeta := false) only [k0_part139_skel, semSignalWord, semWaitWord, Prog.lift, Prog.bind_op, Prog.bind_ret, Prog.pure_eq_ret]
  refine if_no (F := F) c hc ?_ (fun hh => ?_)
  · decide +kernel
  refine if_yes (F := F) c hc ?_ (fun hh => ?_)
  · decide +kernel
  refine bind_step c ?_
  rw [k0_part62_eq_skeleton]
  simp (zeta := false) only [k0_part62_skel, semSignalWord, semWaitWord, Prog.lift, Prog.bind_op, Prog.bind_ret, Prog.pure_eq_ret]
  refine h_recv m K c hc (hk := ?_)
  refine h_load m K c hc (hk := ?_)
  refine h_load m K c hc (hk := ?_)
  refine h_store m K c hc (hk := ?_)
  refine ret_step c ?_
  refine h_xsend m K c hc (hk := ?_)
  refine h_zsend m K c hc (hk := ?_)
  refine if_no (F := F) c hc ?_ (fun hh => ?_)
  · decide +kernel
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine ret_step c ?_
  exact hk

end Cert.KernelIdeal.Proj
-- ==== Proof.WalkH3.lean ====
module

public import proofs.«01_k».proof.Proof.Entry

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The walk of a device that adds up and passes on the results -/

variable (m : (ℓ : Loc nD τ sig) → Buf (Elt F) ℓ) (K : Dev nD × Fin 265 → ℕ)

set_option maxHeartbeats 4000000 in
/-- Part 140, at a device that adds up and passes on the results. -/
theorem h_walk_140 (c : Dev nD) (hc : holder c = true) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ HSt m c 32 32 32 0 32 0 10 ∗ R) ⊢ WP c rest Q) :
    iprop(Own m K c 3 32 32 0 ∗ WSt m c 8 8 ∗ CSt m c 4 4 4 0 64 ∗ HSt m c 32 32 32 0 32 0 4 ∗ R) ⊢ WP c (do
      k0_part140 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part140_eq_skeleton]
  simp (zeta := false) only [k0_part140_skel, semSignalWord, semWaitWord, Prog.lift, Prog.bind_op, Prog.bind_ret, Prog.pure_eq_ret]
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine ret_step c ?_
  exact hk

set_option maxHeartbeats 4000000 in
/-- Part 141, at a device that adds up and passes on the results. -/
theorem h_walk_141 (c : Dev nD) (hc : holder c = true) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ HSt m c 32 32 32 0 32 0 16 ∗ R) ⊢ WP c rest Q) :
    iprop(Own m K c 3 32 32 0 ∗ WSt m c 8 8 ∗ CSt m c 4 4 4 0 64 ∗ HSt m c 32 32 32 0 32 0 10 ∗ R) ⊢ WP c (do
      k0_part141 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part141_eq_skeleton]
  simp (zeta := false) only [k0_part141_skel, semSignalWord, semWaitWord, Prog.lift, Prog.bind_op, Prog.bind_ret, Prog.pure_eq_ret]
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine ret_step c ?_
  exact hk

set_option maxHeartbeats 4000000 in
/-- Part 142, at a device that adds up and passes on the results. -/
theorem h_walk_142 (c : Dev nD) (hc : holder c = true) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ HSt m c 32 32 32 0 32 0 22 ∗ R) ⊢ WP c rest Q) :
    iprop(Own m K c 3 32 32 0 ∗ WSt m c 8 8 ∗ CSt m c 4 4 4 0 64 ∗ HSt m c 32 32 32 0 32 0 16 ∗ R) ⊢ WP c (do
      k0_part142 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part142_eq_skeleton]
  simp (zeta := false) only [k0_part142_skel, semSignalWord, semWaitWord, Prog.lift, Prog.bind_op, Prog.bind_ret, Prog.pure_eq_ret]
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine ret_step c ?_
  exact hk

set_option maxHeartbeats 4000000 in
/-- Part 143, at a device that adds up and passes on the results. -/
theorem h_walk_143 (c : Dev nD) (hc : holder c = true) {hx hw ho hb ha3 ha hs} {v2 v5 v8 v11 : BitVec 32} {v12 : BitVec 1} {R : sProp 𝕄} {α : Type} {Q : α → sProp 𝕄}
    {rest : Prog (TpuEff nD τ sig (Elt F) Λ₀ .tc) α}
    (hk : iprop(Own m K c 3 32 32 0 ∗ WSt m c 8 8 ∗ CSt m c 4 4 4 0 64 ∗ HSt m c 32 32 32 0 32 0 28 ∗ R) ⊢ WP c rest Q) :
    iprop(Own m K c 3 32 32 0 ∗ WSt m c 8 8 ∗ CSt m c 4 4 4 0 64 ∗ HSt m c 32 32 32 0 32 0 22 ∗ R) ⊢ WP c (do
      k0_part143 xM hx wM hw oM ho woM hb a3M ha3 aM ha sM hs cc0_scratch4 cc0_scratch5 cc0_scratch6 cc0_scratch7 cc0_scratch8 cc0_scratch9 cc0_scratch10 cc0_scratch11 cc0_scratch12 cc0_scratch13 cc0_scratch14 cc0_scoped0 c v2 v5 v8 v11 v12
      rest) Q := by
  refine bind_step c ?_
  rw [k0_part143_eq_skeleton]
  simp (zeta := false) only [k0_part143_skel, semSignalWord, semWaitWord, Prog.lift, Prog.bind_op, Prog.bind_ret, Prog.pure_eq_ret]
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine ret_step c ?_
  exact hk

end Cert.KernelIdeal.Proj
-- ==== Proof.BodyH.lean ====
module

public import proofs.«01_k».proof.Proof.WalkLocal
public import proofs.«01_k».proof.Proof.WalkH1
public import proofs.«01_k».proof.Proof.WalkH2
public import proofs.«01_k».proof.Proof.WalkH3
public import proofs.«01_k».proof.Proof.WalkBase

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # The whole walk -/

variable (m : (ℓ : Loc nD τ sig) → Buf (Elt F) ℓ) (K : Dev nD × Fin 265 → ℕ)

set_option maxHeartbeats 4000000 in
/-- The whole program of a device that adds up and passes on the results. -/
theorem h_body (c : Dev nD) (hc : holder c = true) {hx hw ho hb ha3 ha hs0} {R₀ R : sProp 𝕄} {Q : PUnit → sProp 𝕄}
    (hs : iprop((barPay (F := F) c 0 ∗ barPay (F := F) c 1 ∗ barPay (F := F) c 2 ∗ atPos ER (barC c) 1 ∅ 0) ∗ R₀) ⊢ iprop(HSt m c 0 0 0 0 0 0 0 ∗ ESt c 0 ∗ R))
    (hk : iprop(Own m K c 3 32 32 3 ∗ WSt m c 8 8 ∗ CSt m c 4 4 4 0 64 ∗ HSt m c 32 32 32 32 32 32 32 ∗ atPos ER (exC c) 1 ∅ 0 ∗ R) ⊢ Q ⟨⟩) :
    iprop(Own m K c 0 0 0 0 ∗ WSt m c 0 0 ∗ CSt m c 0 0 0 0 0 ∗ BSt c 0 ∗ R₀)
      ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0) Q := by
  rw [cc0__body_eq_skeleton]
  unfold cc0__body_skel
  refine bind_step c ?_
  rw [k0_part145_eq_skeleton]
  unfold k0_part145_skel
  refine bind_step c ?_
  rw [k0_part89_eq_skeleton]
  simp (zeta := false) only [k0_part89_skel, semSignalWord, semWaitWord, Prog.lift, Prog.bind_op, Prog.bind_ret, Prog.pure_eq_ret]
  refine dev_step c ?_
  refine wo_start m K c (hk := ?_)
  refine c_start m K c (hk := ?_)
  refine ret_step c ?_
  refine bind_step c ?_
  rw [k0_part90_eq_skeleton]
  simp (zeta := false) only [k0_part90_skel, semSignalWord, semWaitWord, Prog.lift, Prog.bind_op, Prog.bind_ret, Prog.pure_eq_ret]
  iterate 3 refine bar_signal m K c (hk := ?_)
  refine bar_wait m K c (hk := ?_)
  refine wo_wait m K c (hk := ?_)
  refine wo_start m K c (hk := ?_)
  refine ret_step c ?_
  refine start_step hs ?_
  refine walk_fill1 m K c (hk := ?_)
  refine h_walk_99 m K c hc (hk := ?_)
  refine walk_fill2 m K c (hk := ?_)
  refine h_walk_108 m K c hc (hk := ?_)
  refine walk_fill3 m K c (hk := ?_)
  refine h_walk_117 m K c hc (hk := ?_)
  refine walk_fill4 m K c (hk := ?_)
  refine h_walk_125 m K c hc (hk := ?_)
  refine h_walk_130 m K c hc (hk := ?_)
  refine h_walk_132 m K c hc (hk := ?_)
  refine h_walk_133 m K c hc (hk := ?_)
  refine h_walk_134 m K c hc (hk := ?_)
  refine h_walk_136 m K c hc (hk := ?_)
  refine h_walk_140 m K c hc (hk := ?_)
  refine h_walk_141 m K c hc (hk := ?_)
  refine h_walk_142 m K c hc (hk := ?_)
  refine h_walk_143 m K c hc (hk := ?_)
  refine bind_step c ?_
  rw [k0_part144_eq_skeleton]
  simp (zeta := false) only [k0_part144_skel, semSignalWord, semWaitWord, Prog.lift, Prog.bind_op, Prog.bind_ret, Prog.pure_eq_ret]
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine h_far m K c hc (hk := ?_)
  refine if_no (F := F) c hc ?_ (fun hh => ?_)
  · decide +kernel
  refine if_yes (F := F) c hc ?_ (fun hh => ?_)
  · decide +kernel
  refine bind_step c ?_
  rw [k0_part63_eq_skeleton]
  simp (zeta := false) only [k0_part63_skel, semSignalWord, semWaitWord, Prog.lift, Prog.bind_op, Prog.bind_ret, Prog.pure_eq_ret]
  refine h_xsent m K c hc (hk := ?_)
  refine h_zsent m K c hc (hk := ?_)
  refine h_xsent m K c hc (hk := ?_)
  refine ret_step c ?_
  refine bind_step c ?_
  rw [k0_part64_eq_skeleton]
  simp (zeta := false) only [k0_part64_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part65_eq_skeleton]
  simp (zeta := false) only [k0_part65_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part66_eq_skeleton]
  simp (zeta := false) only [k0_part66_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part67_eq_skeleton]
  simp (zeta := false) only [k0_part67_skel, semSignalWord, semWaitWord, Prog.lift, Prog.bind_op, Prog.bind_ret, Prog.pure_eq_ret]
  refine h_zsent m K c hc (hk := ?_)
  refine h_xsent m K c hc (hk := ?_)
  refine h_zsent m K c hc (hk := ?_)
  refine ret_step c ?_
  refine bind_step c ?_
  rw [k0_part68_eq_skeleton]
  simp (zeta := false) only [k0_part68_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part69_eq_skeleton]
  simp (zeta := false) only [k0_part69_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part70_eq_skeleton]
  simp (zeta := false) only [k0_part70_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part71_eq_skeleton]
  simp (zeta := false) only [k0_part71_skel, semSignalWord, semWaitWord, Prog.lift, Prog.bind_op, Prog.bind_ret, Prog.pure_eq_ret]
  refine h_xsent m K c hc (hk := ?_)
  refine h_zsent m K c hc (hk := ?_)
  refine h_xsent m K c hc (hk := ?_)
  refine ret_step c ?_
  refine bind_step c ?_
  rw [k0_part72_eq_skeleton]
  simp (zeta := false) only [k0_part72_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part73_eq_skeleton]
  simp (zeta := false) only [k0_part73_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part74_eq_skeleton]
  simp (zeta := false) only [k0_part74_skel, semSignalWord, semWaitWord, Prog.lift, Prog.bind_op, Prog.bind_ret, Prog.pure_eq_ret]
  iterate 2 (refine h_zsent m K c hc (hk := ?_); refine h_xsent m K c hc (hk := ?_))
  refine ret_step c ?_
  refine bind_step c ?_
  rw [k0_part75_eq_skeleton]
  simp (zeta := false) only [k0_part75_skel, semSignalWord, semWaitWord, Prog.lift, Prog.bind_op, Prog.bind_ret, Prog.pure_eq_ret]
  refine h_zsent m K c hc (hk := ?_)
  refine h_xsent m K c hc (hk := ?_)
  refine h_zsent m K c hc (hk := ?_)
  refine ret_step c ?_
  refine bind_step c ?_
  rw [k0_part76_eq_skeleton]
  simp (zeta := false) only [k0_part76_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part77_eq_skeleton]
  simp (zeta := false) only [k0_part77_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part78_eq_skeleton]
  simp (zeta := false) only [k0_part78_skel, semSignalWord, semWaitWord, Prog.lift, Prog.bind_op, Prog.bind_ret, Prog.pure_eq_ret]
  iterate 2 (refine h_xsent m K c hc (hk := ?_); refine h_zsent m K c hc (hk := ?_))
  refine ret_step c ?_
  refine bind_step c ?_
  rw [k0_part79_eq_skeleton]
  simp (zeta := false) only [k0_part79_skel, semSignalWord, semWaitWord, Prog.lift, Prog.bind_op, Prog.bind_ret, Prog.pure_eq_ret]
  refine h_xsent m K c hc (hk := ?_)
  refine h_zsent m K c hc (hk := ?_)
  refine h_xsent m K c hc (hk := ?_)
  refine ret_step c ?_
  refine h_zsent m K c hc (hk := ?_)
  refine if_no (F := F) c hc ?_ (fun hh => ?_)
  · decide +kernel
  refine ret_step c ?_
  refine ex_signal m K c (hk := ?_)
  refine ret_step c ?_
  refine ex_signal m K c (hk := ?_)
  refine ex_signal m K c (hk := ?_)
  refine ex_wait m K c (hk := ?_)
  refine ret_step c ?_
  exact hk

end Cert.KernelIdeal.Proj
-- ==== Proof.Core.lean ====
module

public import proofs.«01_k».proof.Proof.Deal
public import proofs.«01_k».proof.Proof.Credit
public import proofs.«01_k».proof.Proof.BodyN
public import proofs.«01_k».proof.Proof.BodyH

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! # One device's run, from what it is dealt to what it leaves -/

variable (m : (ℓ : Loc nD τ sig) → Buf (Elt F) ℓ)

def args (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)))
def scr (c : Dev nD) : sProp 𝕄 := Pipeline.scopedRest spec0 c
def stgAny (c : Dev nD) : sProp 𝕄 := iprop(∃ f, (c : Thread nD τ).loc cc0_stg0_0 ↦{fullShare} f)
def stgOut (c : Dev nD) : sProp 𝕄 := iprop((c : Thread nD τ).loc cc0_stg0_0 ↦{fullShare} outBuf m c)
def crd (c : Dev nD) : sProp 𝕄 := iprop(cred (tallyAt (barC c) () 3) ∗ cred (tallyAt (exC c) () 3) ∗ cX c (r1 c) ∗ cX c (r2 c))

/-- What a device's program starts from. -/
def before (c : Dev nD) : sProp 𝕄 := iprop(G' m c ∗ (levAts L lv ∗ crd c) ∗ args m c ∗ scr c)
/-- What it leaves. -/
def after (c : Dev nD) : sProp 𝕄 :=
  iprop((unscopedSems0 c ∗ args m c) ∗ Pipeline.ownSems0 (Ix := Unit) (Name := ℕ) (U := UU) (Lvl := ℕ) (Val := Elt F) (τ := τ) osem c ∗ scr c)

theorem lend_both (c : Dev nD) : stgAny (F := F) c ⊢ iprop(lend (F := F) c (zc c).val ∗ lend (F := F) c (zo c).val) := by
  unfold stgAny
  iintro ⟨%f, H⟩
  ihave H := (Entails.of_eq (o_own_far c f)) $$ H
  icases H with ⟨H1, H2⟩
  have key : ∀ z, oHalf (F := F) c z f ⊢ lend (F := F) c z := fun z => by
    unfold oHalf lend
    exact bigSep_mono fun k _ => show iprop(oW (F := F) c z k fullShare f) ⊢ iprop(∃ f, oW (F := F) c z k fullShare f) from by
      iintro H
      iexists f
      iexact H
  isplitl [H1]
  · iapply (key _); iexact H1
  · iapply (key _); iexact H2

/-- What is left beside the operands' pipelines and the entry barrier. -/
def restOf (c : Dev nD) : sProp 𝕄 :=
  iprop(tXs c ∗ aXs c ∗ (cX c (r1 c) ∗ cX c (r2 c)) ∗ scr3 c ∗ (tE c ∗ cred (tallyAt (exC c) () 3) ∗ atPos ER (exC c) 0 ∅ 0) ∗ xRest m c)
def barOf (c : Dev nD) : sProp 𝕄 :=
  iprop(tB c ∗ lend (F := F) c (zc c).val ∗ lend (F := F) c (zo c).val ∗ cred (tallyAt (barC c) () 3) ∗ atPos ER (barC c) 0 ∅ 0)

theorem prep (c : Dev nD) : iprop(before m c ∗ (∃ W, owes (c : Thread nD τ) (Ow c 0 0 0 0) W) ∗ stgAny c)
    ⊢ iprop(∃ K, Own m K c 0 0 0 0 ∗ WSt m c 0 0 ∗ CSt m c 0 0 0 0 0 ∗ barOf c ∗ restOf m c) := by
  unfold before G' lin payToks cellsAll args scr crd restOf barOf
  rw [scopedRest0_eq, rng8]
  iintro ⟨⟨⟨%κ, #Hk, ⟨TW, TC, TP, TX, TB, TE⟩, ⟨A1, A2, A3, A4, A5, A6⟩, HX, AB, AE⟩, ⟨#HL, CB, CE, C1, C2⟩, ⟨G0, G1⟩, ⟨S0, S1, S2, S3⟩⟩, HO, HS⟩
  ihave #HC := (known_ctx m κ) $$ [Hk HL]
  · isplitr; · iexact Hk
    iexact HL
  ihave G0 := (Entails.of_eq (x_rows m c)) $$ G0
  icases G0 with ⟨G0, GR⟩
  ihave G1 := (Entails.of_eq (w_chunks m c)) $$ G1
  ihave HS := (lend_both (F := F) c) $$ HS
  icases HS with ⟨L1, L2⟩
  iexists (fun p => Fin.cases 0 (fun j => κ (p.1, j)) p.2)
  isplitl [HO]
  · unfold Own
    isplitr; · iexact HC
    iexact HO
  isplitl [TW A1 A2 S0 G1]
  · iapply (w_init m (fun p => Fin.cases 0 (fun j => κ (p.1, j)) p.2) c)
    isplitr; · iexact HC
    isplitl [TW]; · iexact TW
    isplitl [A1]; · iexact A1
    isplitl [A2]; · iexact A2
    isplitl [S0]; · iexact S0
    iexact G1
  isplitl [TC TP A3 A4 A5 A6 S1 S2 G0]
  · iapply (c_init m (fun p => Fin.cases 0 (fun j => κ (p.1, j)) p.2) c)
    isplitr; · iexact HC
    isplitl [TC]; · iexact TC
    isplitl [TP]; · iexact TP
    isplitl [A3]; · iexact A3
    isplitl [A4]; · iexact A4
    isplitl [A5]; · iexact A5
    isplitl [A6]; · iexact A6
    isplitl [S1]; · iexact S1
    isplitl [S2]; · iexact S2
    iexact G0
  isplitl [TB L1 L2 CB AB]
  · isplitl [TB]; · iexact TB
    isplitl [L1]; · iexact L1
    isplitl [L2]; · iexact L2
    isplitl [CB]; · iexact CB
    iexact AB
  isplitl [TX]; · iexact TX
  isplitl [HX]; · unfold aXs aX; iexact HX
  isplitl [C1 C2]
  · isplitl [C1]; · iexact C1
    iexact C2
  isplitl [S3]; · unfold scr3; iexact S3
  isplitl [TE CE AE]
  · isplitl [TE]; · iexact TE
    isplitl [CE]; · iexact CE
    iexact AE
  iexact GR

theorem wrap (K : Dev nD × Fin 265 → ℕ) (c : Dev nD) (b : Bool) (hb : holder c = b) :
    iprop(Own m K c 3 32 32 3 ∗ WSt m c 8 8 ∗ CSt m c 4 4 4 0 64
      ∗ (aX c 0 (if b then 0 else 1) ∗ aX c 1 (if b then 1 else 0) ∗ aX c 2 (if b then 1 else 0) ∗ aX c 3 (if b then 0 else 1)
        ∗ aX c 4 (if b then 1 else 0) ∗ aX c 5 (if b then 1 else 0) ∗ aX c 6 (if b then 0 else 1) ∗ aX c 7 (if b then 0 else 1))
      ∗ (atPos ER (barC c) 1 ∅ 0 ∗ atPos ER (exC c) 1 ∅ 0) ∗ scr3 c ∗ xRest m c ∗ stgOut m c)
      ⊢ iprop(|={Set.univ}=> (after m c ∗ (∃ W, owes (c : Thread nD τ) 0 W) ∗ stgOut m c)) := by
  unfold Own
  rw [Ow_done]
  iintro ⟨⟨#HC, HO⟩, HW, HQ, HX, ⟨AB, AE⟩, S3, GR, HS⟩
  ihave HW := (w_fini m c) $$ HW
  icases HW with ⟨A1, A2, S0, G1⟩
  ihave HQ := (c_fini m c) $$ HQ
  icases HQ with ⟨A3, A4, A5, A6, S1, S2, G0⟩
  imod (close_all m K c b hb) $$ [A1 A2 A3 A4 A5 A6 HX AB AE] with Hv
  · isplitr; · iexact HC
    unfold endPos
    isplitl [A1 A2 A3 A4 A5 A6]
    · isplitl [A1]; · iexact A1
      isplitl [A2]; · iexact A2
      isplitl [A3]; · iexact A3
      isplitl [A4]; · iexact A4
      isplitl [A5]; · iexact A5
      iexact A6
    isplitl [HX]; · iexact HX
    isplitl [AB]; · iexact AB
    iexact AE
  ihave Hv := (all_sems (F := F) c) $$ Hv
  icases Hv with ⟨V1, V2⟩
  imodintro
  unfold after args scr
  rw [scopedRest0_eq]
  isplitr [HO HS]
  · isplitl [V2 G0 G1 GR]
    · isplitl [V2]; · iexact V2
      isplitl [G0 GR]
      · iapply (Entails.of_eq (x_rows m c).symm)
        isplitl [G0]; · iexact G0
        iexact GR
      iapply (Entails.of_eq (w_chunks m c).symm)
      iexact G1
    isplitl [V1]; · iexact V1
    isplitl [S0]; · iexact S0
    isplitl [S1]; · iexact S1
    isplitl [S2]; · iexact S2
    unfold scr3; iexact S3
  isplitl [HO]; · iexact HO
  iexact HS

/-- A device that is no holder. -/
theorem core_n (c : Dev nD) (hc : holder c = false) {hx hw ho hb ha3 ha hs0} :
    iprop(before m c ∗ (∃ W, owes (c : Thread nD τ) (Ow c 0 0 0 0) W) ∗ stgAny c)
      ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0)
        fun _ => iprop(after m c ∗ (∃ W, owes (c : Thread nD τ) 0 W) ∗ stgOut m c) := by
  have h1 : r1 c = 3 := if_neg (by rw [hc]; decide)
  have h2 : r2 c = 7 := if_neg (by rw [hc]; decide)
  iintro H
  ihave H := (prep m c) $$ H
  icases H with ⟨%K, HO, HW, HQ, HB, HR⟩
  iapply (wp_fupd (Fr := frame) (wpE := wpE (defs₀ (F := F)) 𝒱₀ (c : Thread nD τ) none) (E := Set.univ))
  iapply (n_body m K c hc (R₀ := restOf m c) (R := iprop((atPos ER (barC c) 1 ∅ 0 ∗ aX c 1 0 ∗ aX c 2 0 ∗ aX c 4 0 ∗ aX c 5 0) ∗ xRest m c))
    (by unfold restOf; rw [h1, h2]; exact n_hs m c hc (xRest m c)) (by
      iintro ⟨HO, HW, HQ, HN, AE, ⟨AB, A1, A2, A4, A5⟩, GR⟩
      ihave HN := (n_fini m c) $$ HN
      icases HN with ⟨⟨A0, A3, A6, A7⟩, S3, HS⟩
      iapply (wrap m K c false hc)
      isplitl [HO]; · iexact HO
      isplitl [HW]; · iexact HW
      isplitl [HQ]; · iexact HQ
      isplitl [A0 A1 A2 A3 A4 A5 A6 A7]
      · isplitl [A0]; · iexact A0
        isplitl [A1]; · iexact A1
        isplitl [A2]; · iexact A2
        isplitl [A3]; · iexact A3
        isplitl [A4]; · iexact A4
        isplitl [A5]; · iexact A5
        isplitl [A6]; · iexact A6
        iexact A7
      isplitl [AB AE]
      · isplitl [AB]; · iexact AB
        iexact AE
      isplitl [S3]; · iexact S3
      isplitl [GR]; · iexact GR
      unfold stgOut; iexact HS))
  isplitl [HO]; · iexact HO
  isplitl [HW]; · iexact HW
  isplitl [HQ]; · iexact HQ
  isplitl [HB]
  · iapply (bst_init_n (F := F) c hc)
    unfold barOf tB; iexact HB
  iexact HR

/-- A holder. -/
theorem core_h (c : Dev nD) (hc : holder c = true) {hx hw ho hb ha3 ha hs0} :
    iprop(before m c ∗ (∃ W, owes (c : Thread nD τ) (Ow c 0 0 0 0) W) ∗ stgAny c)
      ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0)
        fun _ => iprop(after m c ∗ (∃ W, owes (c : Thread nD τ) 0 W) ∗ stgOut m c) := by
  have h1 : r1 c = 1 := if_pos hc
  have h2 : r2 c = 5 := if_pos hc
  iintro H
  ihave H := (prep m c) $$ H
  icases H with ⟨%K, HO, HW, HQ, HB, HR⟩
  iapply (wp_fupd (Fr := frame) (wpE := wpE (defs₀ (F := F)) 𝒱₀ (c : Thread nD τ) none) (E := Set.univ))
  iapply (h_body m K c hc (R₀ := restOf m c) (R := iprop((atPos ER (barC c) 1 ∅ 0 ∗ aX c 0 0 ∗ aX c 3 0 ∗ aX c 6 0 ∗ aX c 7 0 ∗ scr3 c) ∗ xRest m c))
    (by unfold restOf; rw [h1, h2]; exact h_hs m c hc (xRest m c)) (by
      iintro ⟨HO, HW, HQ, HN, AE, ⟨AB, A0, A3, A6, A7, S3⟩, GR⟩
      ihave HN := (h_fini m c) $$ HN
      icases HN with ⟨⟨A1, A2, A4, A5⟩, HS⟩
      iapply (wrap m K c true hc)
      isplitl [HO]; · iexact HO
      isplitl [HW]; · iexact HW
      isplitl [HQ]; · iexact HQ
      isplitl [A0 A1 A2 A3 A4 A5 A6 A7]
      · isplitl [A0]; · iexact A0
        isplitl [A1]; · iexact A1
        isplitl [A2]; · iexact A2
        isplitl [A3]; · iexact A3
        isplitl [A4]; · iexact A4
        isplitl [A5]; · iexact A5
        isplitl [A6]; · iexact A6
        iexact A7
      isplitl [AB AE]
      · isplitl [AB]; · iexact AB
        iexact AE
      isplitl [S3]; · iexact S3
      isplitl [GR]; · iexact GR
      unfold stgOut; iexact HS))
  isplitl [HO]; · iexact HO
  isplitl [HW]; · iexact HW
  isplitl [HQ]; · iexact HQ
  isplitl [HB]
  · iapply (bst_init_h (F := F) c hc)
    unfold barOf tB; iexact HB
  iexact HR

/-- Any device. -/
theorem core (c : Dev nD) {hx hw ho hb ha3 ha hs0} :
    iprop(before m c ∗ (∃ W, owes (c : Thread nD τ) (Ow c 0 0 0 0) W) ∗ stgAny c)
      ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0)
        fun _ => iprop(after m c ∗ (∃ W, owes (c : Thread nD τ) 0 W) ∗ stgOut m c) := by
  cases h : holder c
  · exact core_n m c h
  · exact core_h m c h

end Cert.KernelIdeal.Proj
-- ==== Proof.Launch.lean ====
module

public import proofs.«01_k».proof.Proof.Core
public import Idealize.ShloMosaic.Lib.Pipeline.Launch
public import Idealize.ShloMosaic.Lib.Pipeline.CollectiveSegs
public import proofs.«01_k».proof.Proof.Gen.KernelIdeal.Points

@[expose] public section

noncomputable section

namespace Cert.KernelIdeal.Proj

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The launch: the eight devices' runs together -/

variable (m : (ℓ : Loc nD τ sig) → Buf (Elt F) ℓ) (ρ : Dev nD → PrngReg)

/-- The one pipelined window on device `c`: its single block is the whole result array. -/
def dats (_ : Fin 1) (c : Dev nD) : Dat τ (Elt F) Unit ℕ UU ℕ cfg0 c where
  A w := m ((cfg0.win w).arr.view.loc (c : Thread nD τ))
  after w _ := match w with
    | ⟨0, _⟩ => outBuf m c
  Φ t := match t with
    | ⟨0, _⟩ => before m c
    | ⟨_ + 1, _⟩ => after m c
  q _ := fullShare
  owed t := match t with
    | ⟨0, _⟩ => Ow c 0 0 0 0
    | ⟨_ + 1, _⟩ => 0

theorem share_eq (c : Dev nD) (w : Fin cfg0.W) : (dats m 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dats m 0 c).owesAt () t0_0.castSucc ∗ (∃ d, stg c cc0_stg0_0 ((dats m 0 c).before (0 : Fin 1) t0_0 d)))
def bodyPost (c : Dev nD) : sProp 𝕄 :=
  iprop(after m c ∗ (dats m 0 c).owesAt () t0_0.succ ∗ stg c cc0_stg0_0 (outBuf m c))

/-- The one grid point's body on device `c`. -/
theorem body_core (c : Dev nD) {hx hw ho hb ha3 ha hs0} :
    bodyPre m c ⊢ WP c (cc0__body (F := F) xM hx wM hw oM ho woM hb a3M ha3 aM ha sM hs0 cc0_scratch4 cc0_scratch5 cc0_scratch6 cc0_scratch7 cc0_scratch8 cc0_scratch9 cc0_scratch10 cc0_scratch11 cc0_scratch12 cc0_scratch13 cc0_scratch14 cc0_scoped0)
      fun _ => bodyPost m c := by
  unfold bodyPre bodyPost Dat.owesAt Pipeline.owesWithin
  rw [show (dats m 0 c).owed t0_0.castSucc = Ow c 0 0 0 0 from rfl, show (dats m 0 c).owed t0_0.succ = 0 from rfl]
  iintro ⟨HB, ⟨%W, %hW, HO⟩, ⟨%d, %f, %hf, HS⟩⟩
  iapply (wp_fupd (Fr := frame) (wpE := wpE (defs₀ (F := F)) 𝒱₀ (c : Thread nD τ) none) (E := Set.univ))
  iapply (wp_mono frame _ Set.univ (Q := fun _ => iprop(after m c ∗ (∃ W, owes (c : Thread nD τ) 0 W) ∗ stgOut m c)) (by
    intro _
    iintro ⟨HA, ⟨%W', HO⟩, HS⟩
    imodintro
    isplitl [HA]; · iexact HA
    isplitl [HO]
    · iexists W'
      isplitr; · ipureintro; exact fun _ _ => Or.inl trivial
      iexact HO
    iexists _
    isplitr; · (ipureintro; rfl)
    unfold stgOut; iexact HS))
  iapply (core m c)
  isplitl [HB]; · iexact HB
  isplitl [HO]; · iexists W; iexact HO
  unfold stgAny
  iexists f; iexact HS

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_core m c

omit [FloatOps F] in
/-- The staging semaphore is at the lowest level. -/
theorem stage_level (c : Dev nD) (w : Fin cfg0.W) (s : Fin (cfg0.win w).nbuf) : lv ((c : Thread nD τ), SemLoc.dma ((cfg0.win w).sem s)) () ≤ 0 := by
  revert c; fin_cases w <;> fin_cases s <;> decide

theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_Ow c _ 0 0 0 0 0 (stage_level c w s) (fun _ => by decide)
        (fun k _ hk => by have := lv_g1 c k hk; omega) (fun k _ hk => by have := lv_g2 c k hk; omega) (fun _ => by decide)
    · rw [show (dats m 0 c).owed ⟨n + 1, ht⟩ = 0 from rfl]
      rw [MayWait_zero]
      iintro -
      iempintro

def u₀ : UU :=
  (initOf (Pipeline.cells cfgs cellOf_inj) (Pipeline.launchToks cfgs cellOf_inj), initOf ourCells ourToks)

theorem start_intro (c : Dev nD) :
    iprop(Pipeline.unscopedRestP Pipeline.Prefetch.none cfg0.spec c (fun b => m ((c : Thread nD τ).loc b)) ∗ levAts L lv
        ∗ Pipeline.launchCred (fun c => Ow c 0 0 0 0) c ∗ prngReg c (ρ c) ∗ G' m c)
      ⊢ |={Set.univ}=> iprop((G' m c ∗ (levAts L lv ∗ crd c) ∗ args m c) ∗ emp) := by
  rw [Pipeline.unscopedRestP_none, unscopedRest0_eq]
  iintro ⟨HA, Hlev, Hcr, -, HG⟩
  ihave Hc := (credits (F := F) c) $$ Hcr
  imodintro
  unfold crd args
  isplitl
  · isplitl [HG]; · iexact HG
    isplitl [Hlev Hc]
    · isplitl [Hlev]; · iexact Hlev
      iexact Hc
    iexact HA
  · iempintro

theorem phi0_intro (c : Dev nD) :
    iprop((G' m c ∗ (levAts L lv ∗ crd c) ∗ args m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before scr
  iintro ⟨⟨HG, HL, HA⟩, -, HR⟩
  isplitl [HG]; · iexact HG
  isplitl [HL]; · iexact HL
  isplitl [HA]; · iexact HA
  iexact HR

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = after m c from rfl]
  unfold after scr
  iintro H
  iexact H

/-- One buffer read in the final state. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all' (Ix := Unit) (Name := ℕ) (U := UU) (Lvl := ℕ) (Finset.univ : Finset (Fin 1)) (fun _ => ℓ) (fun _ => f) s' (fun _ => fullShare)
  rw [bigSep_univ_eq_bigSepL [0] (by decide) (by decide)] at h
  iintro ⟨H, HS⟩
  ihave H := h $$ [H HS]
  · isplitl [H]; · dsimp only [bigSepL]; iexact H
    iexact HS
  icases H with ⟨%h, HS⟩
  isplitr; · ipureintro; exact h 0 (Finset.mem_univ _)
  iexact HS

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

def finalA (c : Dev nD) (w : Fin cfg0.W) : Buf (Elt F) ((cfg0.win w).arr.view.loc (c : Thread nD τ)) := (dats m 0 c).arrAt w cfg0.N

def QC (r : PUnit × MemSt nD τ sig (Elt F)) : Prop :=
  ∀ c : Dev nD, r.2.mem ((c : Thread nD τ).loc main_v1) = finalA m c (0 : Fin 1)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
theorem run_main0 : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => Ow c 0 0 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(G' m c ∗ (levAts L lv ∗ crd c) ∗ args m c)) (Y := fun c => iprop(unscopedSems0 c ∗ args m c)) (Z := fun _ => iprop(emp))
    (hX := start_intro m ρ) (hin := phi0_intro m) (hout := phi1_exit m)
    (QY := QY m)
    (hY := fun c s' => by
      unfold args QY
      iintro ⟨⟨Hu, H0, H1⟩, -, HSI⟩
      ihave H := (read_one _ _ s') $$ [H0 HSI]
      · isplitl [H0] <;> iassumption
      icases H with ⟨%h0, HSI⟩
      ihave H := (read_one _ _ s') $$ [H1 HSI]
      · isplitl [H1] <;> iassumption
      icases H with ⟨%h1, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, h0, h1⟩
      iexact HSI)
    (hQ := fun _ h hs => ⟨fun c => ⟨(h c).1 0, (h c).2.2.2⟩, sem_eq_zero hs fun c => (h c).2.2.1⟩)

end Cert.KernelIdeal.Proj
-- ==== Proof.Value.lean ====
module

public import proofs.«01_k».proof.Proof.Launch
public import proofs.«01_k».proof.Proof.Gen.ReferenceIdeal.Run
public import Idealize.ShloMosaic.Lib.MatmulPlain
public import Idealize.ShloMosaic.Lib.Layout

@[expose] public section

noncomputable section

namespace Cert.KernelIdeal.Proj

open Cert.KernelIdeal Cert.KernelIdeal.Gen
open Idealize.ShloMosaic Idealize.ShloMosaic.TcCoe Idealize.ShloMosaic.ValueIdx
open scoped BigOperators

/-! # The mathematics: two halves of one long sum -/

/-- The whole left and right operand. -/
abbrev X0 : Type := (⟨4, ![4, 1024, 32, 128]⟩ : Shape).Idx → EReal
abbrev W0 : Type := (⟨2, ![4096, 4096]⟩ : Shape).Idx → EReal

variable (a : X0) (w : W0)

/-- One term of the product at batch `b`, row `s`, column `n`. -/
def term (b : Fin 4) (s : Fin 1024) (n : Fin 4096) (k : Fin 4096) : EReal :=
  a (ix4 b s (⟨k.val / 128, by omega⟩ : Fin 32) (⟨k.val % 128, Nat.mod_lt _ (by decide)⟩ : Fin 128)) * w (ix2 k n)
/-- The sum of the terms of half `y`. -/
def part2 (b : Fin 4) (s : Fin 1024) (n : Fin 4096) (y : Fin 2) : EReal :=
  ∑ j : Fin 2048, term a w b s n ⟨2048 * y.val + j.val, by omega⟩

theorem sum_halves (b : Fin 4) (s : Fin 1024) (n : Fin 4096) :
    (∑ k : Fin 4096, term a w b s n k) = part2 a w b s n 0 + part2 a w b s n 1 := by
  have h := Fin.sum_univ_add (a := 2048) (b := 2048) (fun k : Fin (2048 + 2048) => term a w b s n k)
  refine h.trans ?_
  unfold part2
  refine congrArg₂ (· + ·) (Finset.sum_congr rfl fun j _ => congrArg _ (Fin.ext ?_)) (Finset.sum_congr rfl fun j _ => congrArg _ (Fin.ext ?_))
  · show j.val = 2048 * 0 + j.val; omega
  · show 2048 + j.val = 2048 * 1 + j.val; omega

theorem sum_either (b : Fin 4) (s : Fin 1024) (n : Fin 4096) (y z : Fin 2) (h : y ≠ z) :
    (∑ k : Fin 4096, term a w b s n k) = part2 a w b s n y + part2 a w b s n z := by
  rw [sum_halves]
  rcases y with ⟨_ | _ | y, hy⟩ <;> rcases z with ⟨_ | _ | z, hz⟩ <;>
    first | exact absurd rfl h | rfl | exact add_comm _ _ | omega

/-! ## The kernel's side -/

variable (m : (ℓ : Loc nD τ sig) → Buf (Elt Ideal) ℓ)

/-- A device's `y` coordinate. -/
def yc (c : Dev nD) : Fin 2 := ⟨c.val / 2 % 2, Nat.mod_lt _ (by decide)⟩

theorem V_apply (c : Dev nD) (k : ℕ) (r : Fin 256) (l : Fin 512) :
    V (F := Ideal) m c k (ix2 r l) = ∑ j : Fin 2048, aBuf m c (ix3 (⟨k % 4 % 4, Nat.mod_lt _ (by decide)⟩ : Fin 4) r j)
      * woBuf m c (k / 4) (ix3 (⟨k / 4 % 2, Nat.mod_lt _ (by decide)⟩ : Fin 2) j l) := by
  unfold V k0_pay63
  refine (Ideal.matmul_plain_apply (M := 256) (K := 2048) (N := 512) none _ _ _ r l).trans ?_
  refine (congrArg (· + _) (Ideal.ofBits_zero_f32)).trans ((zero_add _).trans (Finset.sum_congr rfl fun j _ => ?_))
  refine congrArg₂ (· * ·) ((shapeCast_1ab_ab_apply _ shapeCasts_S1x256x2048_S256x2048 r j).trans ?_) ((shapeCast_1ab_ab_apply _ shapeCasts_S1x2048x512_S2048x512 j l).trans ?_)
  · refine congrArg (aBuf m c) (funext fun d => Fin.ext ?_)
    refine (unit_emb_val _ _ _ _ d).trans ?_
    fin_cases d
    · rfl
    · exact Nat.zero_add _
    · exact Nat.zero_add _
  · refine congrArg (woBuf m c (k / 4)) (funext fun d => Fin.ext ?_)
    refine (unit_emb_val _ _ _ _ d).trans ?_
    fin_cases d
    · rfl
    · exact Nat.zero_add _
    · exact Nat.zero_add _

/-- What a device's arguments are of the whole operands. -/
def IsBlock (c : Dev nD) : Prop :=
  xA m c = Layout.blockN ⟨4, ![4, 1024, 16, 128]⟩ ⟨4, ![4, 1024, 32, 128]⟩ (Layout.meshBlock [2, 2, 2] ![[], [], [1], []] c) a
    ∧ wA m c = Layout.blockN ⟨2, ![2048, 4096]⟩ ⟨2, ![4096, 4096]⟩ (Layout.meshBlock [2, 2, 2] ![[1], []] c) w

theorem lin_y (c : Dev nD) : Layout.meshLin [2, 2, 2] c.val [1] = c.val / 2 % 2 := by revert c; decide

/-- A device's partial product is its half of the sum. -/
theorem V_part (c : Dev nD) (hc : IsBlock a w m c) (k : ℕ) (hk : k < 32) (r : Fin 256) (l : Fin 512) (b : Fin 4) (s : Fin 1024) (n : Fin 4096)
    (hb : b.val = k % 4) (hs : s.val = base c + r.val) (hn : n.val = 512 * (k / 4) + l.val) :
    V (F := Ideal) m c k (ix2 r l) = part2 a w b s n (yc c) := by
  obtain ⟨hx, hw⟩ := hc
  rw [V_apply]
  unfold part2 term
  refine Finset.sum_congr rfl fun j _ => congrArg₂ (· * ·) ?_ ?_
  · unfold aBuf
    rw [hx]
    refine congrArg a (funext fun d => Fin.ext ?_)
    rw [Layout.TilesN.idx_val]
    fin_cases d
    · show 0 * 4 + k % 4 % 4 = b.val; omega
    · show 0 * 1024 + (base c + r.val) = s.val; omega
    · show Layout.meshLin [2, 2, 2] c.val [1] * 16 + j.val / 128 = (2048 * (c.val / 2 % 2) + j.val) / 128
      rw [lin_y]; omega
    · show 0 * 128 + j.val % 128 = (2048 * (c.val / 2 % 2) + j.val) % 128; omega
  · unfold woBuf
    rw [hw]
    refine congrArg w (funext fun d => Fin.ext ?_)
    rw [Layout.TilesN.idx_val]
    fin_cases d
    · show Layout.meshLin [2, 2, 2] c.val [1] * 2048 + j.val = 2048 * (c.val / 2 % 2) + j.val
      rw [lin_y]; omega
    · show 0 * 4096 + (512 * (k / 4 % 8) + l.val) = n.val
      omega

theorem hol_base (c : Dev nD) (q : Fin 2) : base (hol c q) = 512 * (c.val / 2 % 2) + 256 * q.val := by revert c q; decide
theorem nbr_base (c : Dev nD) : base (nbr0 c) = base c := by revert c; decide
theorem nbr_y (c : Dev nD) : yc (nbr0 c) ≠ yc c := by revert c; decide

/-- The result on a device: the whole sum at its rows. -/
theorem out_apply (hm : ∀ c, IsBlock a w m c) (c : Dev nD) (b : Fin 4) (q : Fin 2) (r : Fin 256) (n : Fin 4096) :
    outBuf (F := Ideal) m c (ix4 b q r n) = ∑ k : Fin 4096, term a w b
      (⟨256 * (2 * (c.val / 2 % 2) + q.val) + r.val, by have := Nat.mod_lt (c.val / 2) (show 2 > 0 by decide); omega⟩ : Fin 1024) n k := by
  have hn := n.isLt
  have hbk : blkOf (ix4 b q r n) = 4 * (n.val / 512) + b.val := rfl
  have hin : inBlk (ix4 b q r n) = ix2 r (⟨n.val % 512, Nat.mod_lt _ (by decide)⟩ : Fin 512) := rfl
  have hh : half (ix4 b q r n) = q := rfl
  have hb := b.isLt
  unfold outBuf
  rw [hbk, hin, hh, sum_either a w b _ n (yc (nbr0 (hol c q))) (yc (hol c q)) (nbr_y _)]
  refine congrArg₂ (· + ·) (V_part a w m _ (hm _) _ (by omega) r _ b _ n (by omega) ?_ ?_) (V_part a w m _ (hm _) _ (by omega) r _ b _ n (by omega) ?_ ?_)
  · rw [nbr_base, hol_base]; show 256 * (2 * (c.val / 2 % 2) + q.val) + r.val = _; omega
  · show n.val = 512 * ((4 * (n.val / 512) + b.val) / 4) + n.val % 512; omega
  · rw [hol_base]; show 256 * (2 * (c.val / 2 % 2) + q.val) + r.val = _; omega
  · show n.val = 512 * ((4 * (n.val / 512) + b.val) / 4) + n.val % 512; omega

end Cert.KernelIdeal.Proj
-- ==== Proof.Refer.lean ====
module

public import proofs.«01_k».proof.Proof.Value

@[expose] public section

noncomputable section

namespace Cert.KernelIdeal.Proj

open Idealize.ShloMosaic Idealize.ShloMosaic.TcCoe Idealize.ShloMosaic.ValueIdx
open scoped BigOperators

/-! # The reference's side -/

variable (a : X0) (w : W0)

abbrev RDot := Cert.ReferenceIdeal.dot_S4x1024x4096_S4096x4096_S4x1024x4096_2_0_01_1_n_n

/-- The reference's product with the rows in four groups of 256. -/
def refOut : (⟨4, ![4, 4, 256, 4096]⟩ : Shape).Idx → EReal :=
  shapeCast _ (Host.dotGeneral (F := Ideal) (φ₁ := .f32) (φ₂ := .f32) RDot none (shapeCast _ a Cert.ReferenceIdeal.Gen.shapeCasts_S4x1024x32x128_S4x1024x4096) w)
    Cert.ReferenceIdeal.Gen.shapeCasts_S4x1024x4096_S4x4x256x4096

theorem rowsCast_apply (b : Fin 4) (s : Fin 1024) (k : Fin 4096) :
    shapeCast (⟨3, ![4, 1024, 4096]⟩ : Shape) a Cert.ReferenceIdeal.Gen.shapeCasts_S4x1024x32x128_S4x1024x4096 (ix3 b s k)
      = a (ix4 b s (⟨k.val / 128, by omega⟩ : Fin 32) (⟨k.val % 128, Nat.mod_lt _ (by decide)⟩ : Fin 128)) :=
  shapeCast_apply a _ _ _ (by
    rw [Shape.rowMajor_val_four, Shape.rowMajor_val_three]
    show ((b.val * 1024 + s.val) * 32 + k.val / 128) * 128 + k.val % 128 = (b.val * 1024 + s.val) * 4096 + k.val
    omega)

theorem prod_apply (x : (⟨3, ![4, 1024, 4096]⟩ : Shape).Idx → EReal) (b : Fin 4) (s : Fin 1024) (n : Fin 4096) :
    Host.dotGeneral (F := Ideal) (φ₁ := .f32) (φ₂ := .f32) RDot none x w (ix3 b s n) = ∑ k : Fin 4096, x (ix3 b s k) * w (ix2 k n) := by
  have hr : RDot.contr.rank = 1 := rfl
  have hs : RDot.contr.size ⟨0, by omega⟩ = 4096 := rfl
  refine (Ideal.dotGeneral_apply RDot none _ x w (ix3 b s n)).trans ?_
  rw [← Equiv.sum_comp (contrEquiv1 RDot 4096 hr hs).symm]
  refine Finset.sum_congr rfl fun k _ => ?_
  have hk := contrEquiv1_symm_val RDot 4096 hr hs k
  have el : RDot.lhsIdx (ix3 b s n) ((contrEquiv1 RDot 4096 hr hs).symm k) = ix3 b s k := by
    funext d; apply Fin.ext
    match d with
    | ⟨0, _⟩ => rfl
    | ⟨1, _⟩ => rfl
    | ⟨2, _⟩ => exact hk
  have er : RDot.rhsIdx (ix3 b s n) ((contrEquiv1 RDot 4096 hr hs).symm k) = ix2 k n := by
    funext d; apply Fin.ext
    match d with
    | ⟨0, _⟩ => exact hk
    | ⟨1, _⟩ => rfl
  rw [el, er]

theorem refOut_apply (b q : Fin 4) (r : Fin 256) (n : Fin 4096) :
    refOut a w (ix4 b q r n) = ∑ k : Fin 4096, term a w b (⟨256 * q.val + r.val, by omega⟩ : Fin 1024) n k := by
  unfold refOut
  refine (shapeCast_apply _ _ _ (ix3 b (⟨256 * q.val + r.val, by omega⟩ : Fin 1024) n) (by
    rw [Shape.rowMajor_val_four, Shape.rowMajor_val_three]
    show (b.val * 1024 + (256 * q.val + r.val)) * 4096 + n.val = ((b.val * 4 + q.val) * 256 + r.val) * 4096 + n.val
    omega)).trans ?_
  rw [prod_apply]
  exact Finset.sum_congr rfl fun k _ => congrArg (· * _) (rowsCast_apply a b _ k)

/-- Every device's result is its block of the reference's. -/
theorem out_block (m : (ℓ : Loc Cert.KernelIdeal.nD Cert.KernelIdeal.τ Cert.KernelIdeal.sig) → Buf (Elt Ideal) ℓ) (hm : ∀ c, IsBlock a w m c) (c : Dev Cert.KernelIdeal.nD) :
    outBuf (F := Ideal) m c = Layout.blockN ⟨4, ![4, 2, 256, 4096]⟩ ⟨4, ![4, 4, 256, 4096]⟩ (Layout.meshBlock [2, 2, 2] ![[], [1], [], []] c) (refOut a w) := by
  funext i
  obtain ⟨b, q, r, n, rfl⟩ : ∃ (b : Fin 4) (q : Fin 2) (r : Fin 256) (n : Fin 4096), i = ix4 b q r n := ⟨i 0, i 1, i 2, i 3, eq_ix4 i⟩
  have hy := Nat.mod_lt (c.val / 2) (show 2 > 0 by decide)
  rw [out_apply a w m hm, Layout.blockN_apply]
  refine ((congrArg (refOut a w) (?_ : _ = ix4 b (⟨2 * (c.val / 2 % 2) + q.val, by omega⟩ : Fin 4) r n)).trans (refOut_apply a w b _ r n)).symm
  funext d
  apply Fin.ext
  rw [Layout.TilesN.idx_val]
  fin_cases d
  · show 0 * 4 + b.val = b.val; omega
  · show Layout.meshLin [2, 2, 2] c.val [1] * 2 + q.val = 2 * (c.val / 2 % 2) + q.val
    rw [lin_y]; omega
  · show 0 * 256 + r.val = r.val; omega
  · show 0 * 4096 + n.val = n.val; omega

end Cert.KernelIdeal.Proj
-- ==== Proof.Claims.lean ====
module

public import proofs.«01_k».proof.Defs
public import proofs.«01_k».proof.Proof.Gen.Kernel
public import proofs.«01_k».proof.Proof.Refer

@[expose] public section

noncomputable section

namespace Cert.KernelIdeal.Proj

open Cert.KernelIdeal Cert.KernelIdeal.Gen
open Idealize.ShloMosaic Idealize.ShloMosaic.TcCoe Idealize.ShloMosaic.ValueIdx
open Idealize.SL.Sem

variable {F : FTy → Type} [FloatOps F] (m : (ℓ : Loc nD τ sig) → Buf (Elt F) ℓ)

/-- The result array's one block is the whole array: it ends as the body left the staging buffer. -/
theorem finalA_read (c : Dev nD) : (win0_0.blk (0 : Fin 1)).view.read (Elt F) (finalA m c (0 : Fin 1)) = outBuf m c := by
  unfold finalA
  rw [show cfg0.N = ((0 : Fin 1) : Fin cfg0.N).val + 1 from rfl, (dats m 0 c).arrAt_succ (0 : Fin 1) (0 : Fin 1)]
  rw [if_pos (show (cfg0.win (0 : Fin 1)).flush (0 : Fin 1) = true from by decide)]
  exact View.read_write_univ _ _

theorem finalA_o (c : Dev nD) : finalA m c (0 : Fin 1) = outBuf m c := by
  refine Eq.trans ?_ (finalA_read m c)
  exact (Memref.read_access_unit_zero (Elt F) main_v1 (funext fun a => by fin_cases a <;> rfl) _ _).symm

/-- From any memory with zero counters, for any float values, every weakly fair execution of the eight devices ends,
    with the result on each device, the arguments as they were and every counter at zero. -/
theorem run_main (ρ : Dev nD → PrngReg) :
    θ_run defs (onTc (τ := τ) (main (F := F))) ⟨m, fun _ => 0, ρ⟩ (fun r => (∀ c : Dev nD,
      r.2.mem ((c : Thread nD τ).loc main_v1) = outBuf m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨(h.1 c).1.trans (finalA_o m c), (h.1 c).2⟩, h.2⟩) (run_main0 m ρ)

/-- The kernel printed for bits and the one printed for the reals have the same text: the same body, -/
theorem body_same : Cert.Kernel.cc0__body (F := Bits) = Cert.KernelIdeal.cc0__body (F := Bits) := rfl

/-- the same table of bodies, -/
theorem table_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))

/-- and the same pipeline around it. -/
theorem defs_same : Cert.Kernel.defs (F := Bits) = Cert.KernelIdeal.defs (F := Bits) :=
  congrArg (Pipeline.defs (Cert.KernelIdeal.pcfgs (F := Bits))) table_same

/-- The printed kernel runs, leaves its arguments and ends quiescent. -/
theorem frame_kernel : Cert.quiescent_Kernel := fun m ρ _ => by
  refine cast (congrArg (fun D => θ_run D (onTc (τ := τ) (main (F := Bits))) ⟨m, fun _ => 0, ρ⟩ _) defs_same.symm) ?_
  exact (θ_run Cert.KernelIdeal.defs _ _).mono (fun _ h => ⟨fun c => (h.1 c).2, h.2⟩) (run_main (F := Bits) m ρ)

/-- So does the same program over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device's result is its block of the reference's. -/
theorem algebra : Cert.algebraic_KernelIdeal_ReferenceIdeal := fun m ρ m' ρ' _ hagree =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (out_block _ _ m hagree c), (h.1 c).2⟩) (run_main (F := Ideal) m ρ),
    (θ_run Cert.ReferenceIdeal.defs _ _).mono (fun _ h => h 0) (Cert.ReferenceIdeal.Value.run (F := Ideal) m' ρ')⟩

end Cert.KernelIdeal.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.KernelIdeal.Proj.frame_kernel, Cert.KernelIdeal.Proj.frame_ideal, Cert.KernelIdeal.Proj.frame_reference,
  trivial, Cert.KernelIdeal.Proj.algebra⟩

end Cert.Proof

end
